-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxReferenceIdeal (m : (ℓ : Loc Cert.DxReferenceIdeal.nD Cert.DxReferenceIdeal.τ Cert.DxReferenceIdeal.sig) → Buf (Elt Ideal) ℓ) : Prop :=
  True

def Pre_Amax (m : (ℓ : Loc Cert.Amax.nD Cert.Amax.τ Cert.Amax.sig) → Buf (Elt Bits) ℓ) : Prop :=
  True

def Pre_AmaxIdeal (m : (ℓ : Loc Cert.AmaxIdeal.nD Cert.AmaxIdeal.τ Cert.AmaxIdeal.sig) → Buf (Elt Ideal) ℓ) : Prop :=
  True

def Pre_AmaxReferenceIdeal (m : (ℓ : Loc Cert.AmaxReferenceIdeal.nD Cert.AmaxReferenceIdeal.τ Cert.AmaxReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4))
      ∧ r.2.sem = fun _ => 0)

def quiescent_DxReferenceIdeal [hDxReferenceIdeal : Cert.DxReferenceIdeal.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1)
      ∧ r.2.mem ((c.tc : Thread Cert.DxReferenceIdeal.nD Cert.DxReferenceIdeal.τ).loc Cert.DxReferenceIdeal.main_arg2) = m ((c.tc : Thread Cert.DxReferenceIdeal.nD Cert.DxReferenceIdeal.τ).loc Cert.DxReferenceIdeal.main_arg2)
      ∧ r.2.mem ((c.tc : Thread Cert.DxReferenceIdeal.nD Cert.DxReferenceIdeal.τ).loc Cert.DxReferenceIdeal.main_arg3) = m ((c.tc : Thread Cert.DxReferenceIdeal.nD Cert.DxReferenceIdeal.τ).loc Cert.DxReferenceIdeal.main_arg3)
      ∧ r.2.mem ((c.tc : Thread Cert.DxReferenceIdeal.nD Cert.DxReferenceIdeal.τ).loc Cert.DxReferenceIdeal.main_arg4) = m ((c.tc : Thread Cert.DxReferenceIdeal.nD Cert.DxReferenceIdeal.τ).loc Cert.DxReferenceIdeal.main_arg4))
      ∧ r.2.sem = fun _ => 0)

def quiescent_Amax [hAmax : Cert.Amax.Facts] : Prop :=
  ∀ (m : (ℓ : Loc Cert.Amax.nD Cert.Amax.τ Cert.Amax.sig) → Buf (Elt Bits) ℓ) (g : Dev Cert.Amax.nD → PrngReg), Pre_Amax m →
    θ_run (Cert.Amax.defs (F := Bits)) (onTc (τ := Cert.Amax.τ) (Cert.Amax.main (F := Bits))) ⟨m, fun _ => 0, g⟩ (fun r => (∀ c : Dev Cert.Amax.nD,
      r.2.mem ((c.tc : Thread Cert.Amax.nD Cert.Amax.τ).loc Cert.Amax.main_arg0) = m ((c.tc : Thread Cert.Amax.nD Cert.Amax.τ).loc Cert.Amax.main_arg0)
      ∧ r.2.mem ((c.tc : Thread Cert.Amax.nD Cert.Amax.τ).loc Cert.Amax.main_arg1) = m ((c.tc : Thread Cert.Amax.nD Cert.Amax.τ).loc Cert.Amax.main_arg1)
      ∧ r.2.mem ((c.tc : Thread Cert.Amax.nD Cert.Amax.τ).loc Cert.Amax.main_arg2) = m ((c.tc : Thread Cert.Amax.nD Cert.Amax.τ).loc Cert.Amax.main_arg2))
      ∧ r.2.sem = fun _ => 0)

def quiescent_AmaxIdeal [hAmaxIdeal : Cert.AmaxIdeal.Facts] : Prop :=
  ∀ (m : (ℓ : Loc Cert.AmaxIdeal.nD Cert.AmaxIdeal.τ Cert.AmaxIdeal.sig) → Buf (Elt Ideal) ℓ) (g : Dev Cert.AmaxIdeal.nD → PrngReg), Pre_AmaxIdeal m →
    θ_run (Cert.AmaxIdeal.defs (F := Ideal)) (onTc (τ := Cert.AmaxIdeal.τ) (Cert.AmaxIdeal.main (F := Ideal))) ⟨m, fun _ => 0, g⟩ (fun r => (∀ c : Dev Cert.AmaxIdeal.nD,
      r.2.mem ((c.tc : Thread Cert.AmaxIdeal.nD Cert.AmaxIdeal.τ).loc Cert.AmaxIdeal.main_arg0) = m ((c.tc : Thread Cert.AmaxIdeal.nD Cert.AmaxIdeal.τ).loc Cert.AmaxIdeal.main_arg0)
      ∧ r.2.mem ((c.tc : Thread Cert.AmaxIdeal.nD Cert.AmaxIdeal.τ).loc Cert.AmaxIdeal.main_arg1) = m ((c.tc : Thread Cert.AmaxIdeal.nD Cert.AmaxIdeal.τ).loc Cert.AmaxIdeal.main_arg1)
      ∧ r.2.mem ((c.tc : Thread Cert.AmaxIdeal.nD Cert.AmaxIdeal.τ).loc Cert.AmaxIdeal.main_arg2) = m ((c.tc : Thread Cert.AmaxIdeal.nD Cert.AmaxIdeal.τ).loc Cert.AmaxIdeal.main_arg2))
      ∧ r.2.sem = fun _ => 0)

def quiescent_AmaxReferenceIdeal [hAmaxReferenceIdeal : Cert.AmaxReferenceIdeal.Facts] : Prop :=
  ∀ (m : (ℓ : Loc Cert.AmaxReferenceIdeal.nD Cert.AmaxReferenceIdeal.τ Cert.AmaxReferenceIdeal.sig) → Buf (Elt Ideal) ℓ) (g : Dev Cert.AmaxReferenceIdeal.nD → PrngReg), Pre_AmaxReferenceIdeal m →
    θ_run (Cert.AmaxReferenceIdeal.defs (F := Ideal)) (onTc (τ := Cert.AmaxReferenceIdeal.τ) (Cert.AmaxReferenceIdeal.main (F := Ideal))) ⟨m, fun _ => 0, g⟩ (fun r => (∀ c : Dev Cert.AmaxReferenceIdeal.nD,
      r.2.mem ((c.tc : Thread Cert.AmaxReferenceIdeal.nD Cert.AmaxReferenceIdeal.τ).loc Cert.AmaxReferenceIdeal.main_arg0) = m ((c.tc : Thread Cert.AmaxReferenceIdeal.nD Cert.AmaxReferenceIdeal.τ).loc Cert.AmaxReferenceIdeal.main_arg0)
      ∧ r.2.mem ((c.tc : Thread Cert.AmaxReferenceIdeal.nD Cert.AmaxReferenceIdeal.τ).loc Cert.AmaxReferenceIdeal.main_arg1) = m ((c.tc : Thread Cert.AmaxReferenceIdeal.nD Cert.AmaxReferenceIdeal.τ).loc Cert.AmaxReferenceIdeal.main_arg1)
      ∧ r.2.mem ((c.tc : Thread Cert.AmaxReferenceIdeal.nD Cert.AmaxReferenceIdeal.τ).loc Cert.AmaxReferenceIdeal.main_arg2) = m ((c.tc : Thread Cert.AmaxReferenceIdeal.nD Cert.AmaxReferenceIdeal.τ).loc Cert.AmaxReferenceIdeal.main_arg2))
      ∧ r.2.sem = fun _ => 0)

def preserves_Kernel_KernelIdeal : Prop :=
  IdealRules.bf16_pair.BufferStatement Cert.KernelIdeal.S4x768x2x128 Cert.KernelIdeal.S4x768x1x128
  ∧ IdealRules.bf16_pair.Statement Cert.KernelIdeal.S1536x128 Cert.KernelIdeal.S768x128
  ∧ IdealRules.bf16_pair.Statement Cert.KernelIdeal.S1x768x2x128 Cert.KernelIdeal.S1x768x1x128
  ∧ IdealRules.bf16_pair.Statement Cert.KernelIdeal.S1x64x2x128 Cert.KernelIdeal.S1x64x1x128
  ∧ IdealRules.bf16_pair.Statement Cert.KernelIdeal.S128x128 Cert.KernelIdeal.S64x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Dx_DxIdeal : Prop :=
  True

def algebraic_DxIdeal_DxReferenceIdeal [hDxIdeal : Cert.DxIdeal.Facts] [hDxReferenceIdeal : Cert.DxReferenceIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxReferenceIdeal.nD Cert.DxReferenceIdeal.τ Cert.DxReferenceIdeal.sig) → Buf (Elt Ideal) ℓ) (g' : Dev Cert.DxReferenceIdeal.nD → PrngReg), Pre_DxIdeal m →
    (∀ c : Dev Cert.DxIdeal.nD,
      m' ((c.tc : Thread Cert.DxReferenceIdeal.nD Cert.DxReferenceIdeal.τ).loc Cert.DxReferenceIdeal.main_arg0) = m ((c.tc : Thread Cert.DxIdeal.nD Cert.DxIdeal.τ).loc Cert.DxIdeal.main_arg0)
      ∧ m' ((c.tc : Thread Cert.DxReferenceIdeal.nD Cert.DxReferenceIdeal.τ).loc Cert.DxReferenceIdeal.main_arg1) = m ((c.tc : Thread Cert.DxIdeal.nD Cert.DxIdeal.τ).loc Cert.DxIdeal.main_arg1)
      ∧ m' ((c.tc : Thread Cert.DxReferenceIdeal.nD Cert.DxReferenceIdeal.τ).loc Cert.DxReferenceIdeal.main_arg2) = m ((c.tc : Thread Cert.DxIdeal.nD Cert.DxIdeal.τ).loc Cert.DxIdeal.main_arg2)
      ∧ m' ((c.tc : Thread Cert.DxReferenceIdeal.nD Cert.DxReferenceIdeal.τ).loc Cert.DxReferenceIdeal.main_arg3) = m ((c.tc : Thread Cert.DxIdeal.nD Cert.DxIdeal.τ).loc Cert.DxIdeal.main_arg3)
      ∧ m' ((c.tc : Thread Cert.DxReferenceIdeal.nD Cert.DxReferenceIdeal.τ).loc Cert.DxReferenceIdeal.main_arg4) = m ((c.tc : Thread Cert.DxIdeal.nD Cert.DxIdeal.τ).loc Cert.DxIdeal.main_arg4)) →
    ∃ (v0 : (c : Dev Cert.DxIdeal.nD) → Buf (Elt Ideal) ((c.tc : Thread Cert.DxIdeal.nD Cert.DxIdeal.τ).loc Cert.DxIdeal.main_v0)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v0) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4))
      ∧ θ_run (Cert.DxReferenceIdeal.defs (F := Ideal)) (onTc (τ := Cert.DxReferenceIdeal.τ) (Cert.DxReferenceIdeal.main (F := Ideal))) ⟨m', fun _ => 0, g'⟩ (fun r => ∀ c : Dev Cert.DxReferenceIdeal.nD,
          r.2.mem ((c.tc : Thread Cert.DxReferenceIdeal.nD Cert.DxReferenceIdeal.τ).loc Cert.DxReferenceIdeal.main_v61) = v0 c
          ∧ r.2.mem ((c.tc : Thread Cert.DxReferenceIdeal.nD Cert.DxReferenceIdeal.τ).loc Cert.DxReferenceIdeal.main_arg0) = m' ((c.tc : Thread Cert.DxReferenceIdeal.nD Cert.DxReferenceIdeal.τ).loc Cert.DxReferenceIdeal.main_arg0)
          ∧ r.2.mem ((c.tc : Thread Cert.DxReferenceIdeal.nD Cert.DxReferenceIdeal.τ).loc Cert.DxReferenceIdeal.main_arg1) = m' ((c.tc : Thread Cert.DxReferenceIdeal.nD Cert.DxReferenceIdeal.τ).loc Cert.DxReferenceIdeal.main_arg1)
          ∧ r.2.mem ((c.tc : Thread Cert.DxReferenceIdeal.nD Cert.DxReferenceIdeal.τ).loc Cert.DxReferenceIdeal.main_arg2) = m' ((c.tc : Thread Cert.DxReferenceIdeal.nD Cert.DxReferenceIdeal.τ).loc Cert.DxReferenceIdeal.main_arg2)
          ∧ r.2.mem ((c.tc : Thread Cert.DxReferenceIdeal.nD Cert.DxReferenceIdeal.τ).loc Cert.DxReferenceIdeal.main_arg3) = m' ((c.tc : Thread Cert.DxReferenceIdeal.nD Cert.DxReferenceIdeal.τ).loc Cert.DxReferenceIdeal.main_arg3)
          ∧ r.2.mem ((c.tc : Thread Cert.DxReferenceIdeal.nD Cert.DxReferenceIdeal.τ).loc Cert.DxReferenceIdeal.main_arg4) = m' ((c.tc : Thread Cert.DxReferenceIdeal.nD Cert.DxReferenceIdeal.τ).loc Cert.DxReferenceIdeal.main_arg4))

def preserves_Amax_AmaxIdeal : Prop :=
  True

def algebraic_AmaxIdeal_AmaxReferenceIdeal [hAmaxIdeal : Cert.AmaxIdeal.Facts] [hAmaxReferenceIdeal : Cert.AmaxReferenceIdeal.Facts] : Prop :=
  ∀ (m : (ℓ : Loc Cert.AmaxIdeal.nD Cert.AmaxIdeal.τ Cert.AmaxIdeal.sig) → Buf (Elt Ideal) ℓ) (g : Dev Cert.AmaxIdeal.nD → PrngReg)
    (m' : (ℓ : Loc Cert.AmaxReferenceIdeal.nD Cert.AmaxReferenceIdeal.τ Cert.AmaxReferenceIdeal.sig) → Buf (Elt Ideal) ℓ) (g' : Dev Cert.AmaxReferenceIdeal.nD → PrngReg), Pre_AmaxIdeal m →
    (∀ c : Dev Cert.AmaxIdeal.nD,
      m' ((c.tc : Thread Cert.AmaxReferenceIdeal.nD Cert.AmaxReferenceIdeal.τ).loc Cert.AmaxReferenceIdeal.main_arg0) = m ((c.tc : Thread Cert.AmaxIdeal.nD Cert.AmaxIdeal.τ).loc Cert.AmaxIdeal.main_arg0)
      ∧ m' ((c.tc : Thread Cert.AmaxReferenceIdeal.nD Cert.AmaxReferenceIdeal.τ).loc Cert.AmaxReferenceIdeal.main_arg1) = m ((c.tc : Thread Cert.AmaxIdeal.nD Cert.AmaxIdeal.τ).loc Cert.AmaxIdeal.main_arg1)
      ∧ m' ((c.tc : Thread Cert.AmaxReferenceIdeal.nD Cert.AmaxReferenceIdeal.τ).loc Cert.AmaxReferenceIdeal.main_arg2) = m ((c.tc : Thread Cert.AmaxIdeal.nD Cert.AmaxIdeal.τ).loc Cert.AmaxIdeal.main_arg2)) →
    ∃ (v0 : (c : Dev Cert.AmaxIdeal.nD) → Buf (Elt Ideal) ((c.tc : Thread Cert.AmaxIdeal.nD Cert.AmaxIdeal.τ).loc Cert.AmaxIdeal.main_v0_0)) (v1 : (c : Dev Cert.AmaxIdeal.nD) → Buf (Elt Ideal) ((c.tc : Thread Cert.AmaxIdeal.nD Cert.AmaxIdeal.τ).loc Cert.AmaxIdeal.main_v0_1)),
      θ_run (Cert.AmaxIdeal.defs (F := Ideal)) (onTc (τ := Cert.AmaxIdeal.τ) (Cert.AmaxIdeal.main (F := Ideal))) ⟨m, fun _ => 0, g⟩ (fun r => ∀ c : Dev Cert.AmaxIdeal.nD,
          r.2.mem ((c.tc : Thread Cert.AmaxIdeal.nD Cert.AmaxIdeal.τ).loc Cert.AmaxIdeal.main_v0_0) = v0 c
          ∧ r.2.mem ((c.tc : Thread Cert.AmaxIdeal.nD Cert.AmaxIdeal.τ).loc Cert.AmaxIdeal.main_v0_1) = v1 c
          ∧ r.2.mem ((c.tc : Thread Cert.AmaxIdeal.nD Cert.AmaxIdeal.τ).loc Cert.AmaxIdeal.main_arg0) = m ((c.tc : Thread Cert.AmaxIdeal.nD Cert.AmaxIdeal.τ).loc Cert.AmaxIdeal.main_arg0)
          ∧ r.2.mem ((c.tc : Thread Cert.AmaxIdeal.nD Cert.AmaxIdeal.τ).loc Cert.AmaxIdeal.main_arg1) = m ((c.tc : Thread Cert.AmaxIdeal.nD Cert.AmaxIdeal.τ).loc Cert.AmaxIdeal.main_arg1)
          ∧ r.2.mem ((c.tc : Thread Cert.AmaxIdeal.nD Cert.AmaxIdeal.τ).loc Cert.AmaxIdeal.main_arg2) = m ((c.tc : Thread Cert.AmaxIdeal.nD Cert.AmaxIdeal.τ).loc Cert.AmaxIdeal.main_arg2))
      ∧ θ_run (Cert.AmaxReferenceIdeal.defs (F := Ideal)) (onTc (τ := Cert.AmaxReferenceIdeal.τ) (Cert.AmaxReferenceIdeal.main (F := Ideal))) ⟨m', fun _ => 0, g'⟩ (fun r => ∀ c : Dev Cert.AmaxReferenceIdeal.nD,
          r.2.mem ((c.tc : Thread Cert.AmaxReferenceIdeal.nD Cert.AmaxReferenceIdeal.τ).loc Cert.AmaxReferenceIdeal.main_v46) = v0 c
          ∧ r.2.mem ((c.tc : Thread Cert.AmaxReferenceIdeal.nD Cert.AmaxReferenceIdeal.τ).loc Cert.AmaxReferenceIdeal.main_v93) = v1 c
          ∧ r.2.mem ((c.tc : Thread Cert.AmaxReferenceIdeal.nD Cert.AmaxReferenceIdeal.τ).loc Cert.AmaxReferenceIdeal.main_arg0) = m' ((c.tc : Thread Cert.AmaxReferenceIdeal.nD Cert.AmaxReferenceIdeal.τ).loc Cert.AmaxReferenceIdeal.main_arg0)
          ∧ r.2.mem ((c.tc : Thread Cert.AmaxReferenceIdeal.nD Cert.AmaxReferenceIdeal.τ).loc Cert.AmaxReferenceIdeal.main_arg1) = m' ((c.tc : Thread Cert.AmaxReferenceIdeal.nD Cert.AmaxReferenceIdeal.τ).loc Cert.AmaxReferenceIdeal.main_arg1)
          ∧ r.2.mem ((c.tc : Thread Cert.AmaxReferenceIdeal.nD Cert.AmaxReferenceIdeal.τ).loc Cert.AmaxReferenceIdeal.main_arg2) = m' ((c.tc : Thread Cert.AmaxReferenceIdeal.nD Cert.AmaxReferenceIdeal.τ).loc Cert.AmaxReferenceIdeal.main_arg2))

def Claim : Prop :=
  ∃ (hKernel : Cert.Kernel.Facts) (hKernelIdeal : Cert.KernelIdeal.Facts) (hReferenceIdeal : Cert.ReferenceIdeal.Facts) (hDx : Cert.Dx.Facts) (hDxIdeal : Cert.DxIdeal.Facts) (hDxReferenceIdeal : Cert.DxReferenceIdeal.Facts) (hAmax : Cert.Amax.Facts) (hAmaxIdeal : Cert.AmaxIdeal.Facts) (hAmaxReferenceIdeal : Cert.AmaxReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Dx (hDx := hDx)
    ∧ quiescent_DxIdeal (hDxIdeal := hDxIdeal)
    ∧ quiescent_DxReferenceIdeal (hDxReferenceIdeal := hDxReferenceIdeal)
    ∧ quiescent_Amax (hAmax := hAmax)
    ∧ quiescent_AmaxIdeal (hAmaxIdeal := hAmaxIdeal)
    ∧ quiescent_AmaxReferenceIdeal (hAmaxReferenceIdeal := hAmaxReferenceIdeal)
    ∧ preserves_Kernel_KernelIdeal
    ∧ algebraic_KernelIdeal_ReferenceIdeal (hKernelIdeal := hKernelIdeal) (hReferenceIdeal := hReferenceIdeal)
    ∧ preserves_Dx_DxIdeal
    ∧ algebraic_DxIdeal_DxReferenceIdeal (hDxIdeal := hDxIdeal) (hDxReferenceIdeal := hDxReferenceIdeal)
    ∧ preserves_Amax_AmaxIdeal
    ∧ algebraic_AmaxIdeal_AmaxReferenceIdeal (hAmaxIdeal := hAmaxIdeal) (hAmaxReferenceIdeal := hAmaxReferenceIdeal)
-- ==== Kernel.lean ====
abbrev S4096x1536 : Shape := ⟨2, ![4096, 1536]⟩
abbrev S1536x14336 : Shape := ⟨2, ![1536, 14336]⟩
abbrev S1 : Shape := ⟨1, ![1]⟩
abbrev S4096x14336 : Shape := ⟨2, ![4096, 14336]⟩
abbrev S1536x512 : Shape := ⟨2, ![1536, 512]⟩
abbrev S4096x1024 : Shape := ⟨2, ![4096, 1024]⟩
abbrev S4x768x128 : Shape := ⟨3, ![4, 768, 128]⟩
abbrev S1536x128 : Shape := ⟨2, ![1536, 128]⟩
abbrev S768x128 : Shape := ⟨2, ![768, 128]⟩
abbrev S1x768x128 : Shape := ⟨3, ![1, 768, 128]⟩
abbrev S1x64x128 : Shape := ⟨3, ![1, 64, 128]⟩
abbrev S64x128 : Shape := ⟨2, ![64, 128]⟩
abbrev S128x128 : Shape := ⟨2, ![128, 128]⟩
abbrev S512x1536 : Shape := ⟨2, ![512, 1536]⟩
abbrev S512x512 : Shape := ⟨2, ![512, 512]⟩

abbrev nBuf : Space → Nat
  | .hbm => 5
  | .vmem => 11
  | .smem => 2
  | _ => 0

abbrev bufTy : (tb : Table) → Fin (tcTables nBuf tb) → BufTy
  | .hbm, ⟨0, _⟩ => ⟨S4096x1536, .bf16⟩
  | .hbm, ⟨1, _⟩ => ⟨S1536x14336, .bf16⟩
  | .hbm, ⟨2, _⟩ => ⟨S1, .f32⟩
  | .hbm, ⟨3, _⟩ => ⟨S1, .f32⟩
  | .hbm, ⟨4, _⟩ => ⟨S4096x14336, .f32⟩
  | .local _ .vmem, ⟨0, _⟩ => ⟨S4096x1536, .bf16⟩
  | .local _ .vmem, ⟨1, _⟩ => ⟨S1536x512, .bf16⟩
  | .local _ .vmem, ⟨2, _⟩ => ⟨S1536x512, .bf16⟩
  | .local _ .vmem, ⟨3, _⟩ => ⟨S1536x512, .bf16⟩
  | .local _ .vmem, ⟨4, _⟩ => ⟨S1536x512, .bf16⟩
  | .local _ .vmem, ⟨5, _⟩ => ⟨S1536x512, .bf16⟩
  | .local _ .vmem, ⟨6, _⟩ => ⟨S4096x1024, .f32⟩
  | .local _ .vmem, ⟨7, _⟩ => ⟨S4096x1024, .f32⟩
  | .local _ .vmem, ⟨8, _⟩ => ⟨S1536x512, .bf16⟩
  | .local _ .vmem, ⟨9, _⟩ => ⟨S1536x512, .bf16⟩
  | .local _ .vmem, ⟨10, _⟩ => ⟨S4x768x128, .i32⟩
  | .local _ .smem, ⟨0, _⟩ => ⟨S1, .f32⟩
  | .local _ .smem, ⟨1, _⟩ => ⟨S1, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [BitOps F]

abbrev grid0 : Pipeline.Grid := ⟨1, ![14], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_1 : BitVec 32 := 0#32
  let v5 : BitVec 1 := Scalar.cmpi .ne v4 c0_i32_1
  v5

@[reducible] def k0_t1_loop : Scf.Loop 32 :=
  let c0_i32_628 : BitVec 32 := 0#32
  let c12_i32 : BitVec 32 := 12#32
  let v738 : BitVec 32 := Scalar.addi c0_i32_628 c12_i32
  let c1_i32 : BitVec 32 := 1#32
  ⟨c0_i32_628, v738, c1_i32⟩
def k0_mult1 (k0_t1 : Fin k0_t1_loop.trips) : BitVec 32 :=
  let c0_i32_628 : BitVec 32 := 0#32
  let c1_i32 : BitVec 32 := 1#32
  let arg11 : BitVec 32 := Scf.iv c0_i32_628 c1_i32 k0_t1
  let c64_i32 : BitVec 32 := 64#32
  let v739 : BitVec 32 := Scalar.muli arg11 c64_i32
  v739
def k0_off1 (k0_t1 : Fin k0_t1_loop.trips) : Fin 3 → Nat :=
  let c0_630 : Index := 0#32
  let c0_i32_628 : BitVec 32 := 0#32
  let c1_i32 : BitVec 32 := 1#32
  let arg11 : BitVec 32 := Scf.iv c0_i32_628 c1_i32 k0_t1
  let c64_i32 : BitVec 32 := 64#32
  let v739 : BitVec 32 := Scalar.muli arg11 c64_i32
  let v740 : BitVec 32 := v739
  let v741 : Index := Scalar.indexCast v740
  let c0_631 : Index := 0#32
  ![0, v741.toNat, 0]
def k0_mult2 (k0_t1 : Fin k0_t1_loop.trips) : BitVec 32 :=
  let c0_i32_628 : BitVec 32 := 0#32
  let c1_i32 : BitVec 32 := 1#32
  let arg11 : BitVec 32 := Scf.iv c0_i32_628 c1_i32 k0_t1
  let c128_i32 : BitVec 32 := 128#32
  let v745 : BitVec 32 := Scalar.muli arg11 c128_i32
  v745
def k0_off2 (k0_t1 : Fin k0_t1_loop.trips) : Fin 2 → Nat :=
  let c0_i32_628 : BitVec 32 := 0#32
  let c1_i32 : BitVec 32 := 1#32
  let arg11 : BitVec 32 := Scf.iv c0_i32_628 c1_i32 k0_t1
  let c128_i32 : BitVec 32 := 128#32
  let v745 : BitVec 32 := Scalar.muli arg11 c128_i32
  let v746 : BitVec 32 := v745
  let v747 : Index := Scalar.indexCast v746
  let c0_632 : Index := 0#32
  ![v747.toNat, 0]
def k0_mult3 (k0_t1 : Fin k0_t1_loop.trips) : BitVec 32 :=
  let c0_i32_628 : BitVec 32 := 0#32
  let c1_i32 : BitVec 32 := 1#32
  let arg11 : BitVec 32 := Scf.iv c0_i32_628 c1_i32 k0_t1
  let c64_i32_633 : BitVec 32 := 64#32
  let v751 : BitVec 32 := Scalar.muli arg11 c64_i32_633
  v751
def k0_off3 (k0_t1 : Fin k0_t1_loop.trips) : Fin 3 → Nat :=
  let c1_634 : Index := 1#32
  let c0_i32_628 : BitVec 32 := 0#32
  let c1_i32 : BitVec 32 := 1#32
  let arg11 : BitVec 32 := Scf.iv c0_i32_628 c1_i32 k0_t1
  let c64_i32_633 : BitVec 32 := 64#32
  let v751 : BitVec 32 := Scalar.muli arg11 c64_i32_633
  let v752 : BitVec 32 := v751
  let v753 : Index := Scalar.indexCast v752
  let c0_635 : Index := 0#32
  ![1, v753.toNat, 0]
def k0_mult4 (k0_t1 : Fin k0_t1_loop.trips) : BitVec 32 :=
  let c0_i32_628 : BitVec 32 := 0#32
  let c1_i32 : BitVec 32 := 1#32
  let arg11 : BitVec 32 := Scf.iv c0_i32_628 c1_i32 k0_t1
  let c128_i32_636 : BitVec 32 := 128#32
  let v757 : BitVec 32 := Scalar.muli arg11 c128_i32_636
  v757
def k0_off4 (k0_t1 : Fin k0_t1_loop.trips) : Fin 2 → Nat :=
  let c0_i32_628 : BitVec 32 := 0#32
  let c1_i32 : BitVec 32 := 1#32
  let arg11 : BitVec 32 := Scf.iv c0_i32_628 c1_i32 k0_t1
  let c128_i32_636 : BitVec 32 := 128#32
  let v757 : BitVec 32 := Scalar.muli arg11 c128_i32_636
  let v758 : BitVec 32 := v757
  let v759 : Index := Scalar.indexCast v758
  let c128_637 : Index := 128#32
  ![v759.toNat, 128]
def k0_mult5 (k0_t1 : Fin k0_t1_loop.trips) : BitVec 32 :=
  let c0_i32_628 : BitVec 32 := 0#32
  let c1_i32 : BitVec 32 := 1#32
  let arg11 : BitVec 32 := Scf.iv c0_i32_628 c1_i32 k0_t1
  let c64_i32_638 : BitVec 32 := 64#32
  let v763 : BitVec 32 := Scalar.muli arg11 c64_i32_638
  v763
def k0_off5 (k0_t1 : Fin k0_t1_loop.trips) : Fin 3 → Nat :=
  let c2_639 : Index := 2#32
  let c0_i32_628 : BitVec 32 := 0#32
  let c1_i32 : BitVec 32 := 1#32
  let arg11 : BitVec 32 := Scf.iv c0_i32_628 c1_i32 k0_t1
  let c64_i32_638 : BitVec 32 := 64#32
  let v763 : BitVec 32 := Scalar.muli arg11 c64_i32_638
  let v764 : BitVec 32 := v763
  let v765 : Index := Scalar.indexCast v764
  let c0_640 : Index := 0#32
  ![2, v765.toNat, 0]
def k0_mult6 (k0_t1 : Fin k0_t1_loop.trips) : BitVec 32 :=
  let c0_i32_628 : BitVec 32 := 0#32
  let c1_i32 : BitVec 32 := 1#32
  let arg11 : BitVec 32 := Scf.iv c0_i32_628 c1_i32 k0_t1
  let c128_i32_641 : BitVec 32 := 128#32
  let v769 : BitVec 32 := Scalar.muli arg11 c128_i32_641
  v769
def k0_off6 (k0_t1 : Fin k0_t1_loop.trips) : Fin 2 → Nat :=
  let c0_i32_628 : BitVec 32 := 0#32
  let c1_i32 : BitVec 32 := 1#32
  let arg11 : BitVec 32 := Scf.iv c0_i32_628 c1_i32 k0_t1
  let c128_i32_641 : BitVec 32 := 128#32
  let v769 : BitVec 32 := Scalar.muli arg11 c128_i32_641
  let v770 : BitVec 32 := v769
  let v771 : Index := Scalar.indexCast v770
  let c256_642 : Index := 256#32
  ![v771.toNat, 256]
def k0_mult7 (k0_t1 : Fin k0_t1_loop.trips) : BitVec 32 :=
  let c0_i32_628 : BitVec 32 := 0#32
  let c1_i32 : BitVec 32 := 1#32
  let arg11 : BitVec 32 := Scf.iv c0_i32_628 c1_i32 k0_t1
  let c64_i32_643 : BitVec 32 := 64#32
  let v775 : BitVec 32 := Scalar.muli arg11 c64_i32_643
  v775
def k0_off7 (k0_t1 : Fin k0_t1_loop.trips) : Fin 3 → Nat :=
  let c3_644 : Index := 3#32
  let c0_i32_628 : BitVec 32 := 0#32
  let c1_i32 : BitVec 32 := 1#32
  let arg11 : BitVec 32 := Scf.iv c0_i32_628 c1_i32 k0_t1
  let c64_i32_643 : BitVec 32 := 64#32
  let v775 : BitVec 32 := Scalar.muli arg11 c64_i32_643
  let v776 : BitVec 32 := v775
  let v777 : Index := Scalar.indexCast v776
  let c0_645 : Index := 0#32
  ![3, v777.toNat, 0]
def k0_mult8 (k0_t1 : Fin k0_t1_loop.trips) : BitVec 32 :=
  let c0_i32_628 : BitVec 32 := 0#32
  let c1_i32 : BitVec 32 := 1#32
  let arg11 : BitVec 32 := Scf.iv c0_i32_628 c1_i32 k0_t1
  let c128_i32_646 : BitVec 32 := 128#32
  let v781 : BitVec 32 := Scalar.muli arg11 c128_i32_646
  v781
def k0_off8 (k0_t1 : Fin k0_t1_loop.trips) : Fin 2 → Nat :=
  let c0_i32_628 : BitVec 32 := 0#32
  let c1_i32 : BitVec 32 := 1#32
  let arg11 : BitVec 32 := Scf.iv c0_i32_628 c1_i32 k0_t1
  let c128_i32_646 : BitVec 32 := 128#32
  let v781 : BitVec 32 := Scalar.muli arg11 c128_i32_646
  let v782 : BitVec 32 := v781
  let v783 : Index := Scalar.indexCast v782
  let c384_647 : Index := 384#32
  ![v783.toNat, 384]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c27_i32 : BitVec 32 := 27#32
  let v2 : BitVec 32 := Scalar.minsi v1 c27_i32
  let c0_i32 : BitVec 32 := 0#32
  let c0_i32_1 : BitVec 32 := 0#32
  ![c0_i32.toNat, v2.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1536x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1536x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
abbrev S4096x1536 : Shape := ⟨2, ![4096, 1536]⟩
abbrev S1536x14336 : Shape := ⟨2, ![1536, 14336]⟩
abbrev S1 : Shape := ⟨1, ![1]⟩
abbrev S4096x14336 : Shape := ⟨2, ![4096, 14336]⟩
abbrev S1536x512 : Shape := ⟨2, ![1536, 512]⟩
abbrev S4096x1024 : Shape := ⟨2, ![4096, 1024]⟩
abbrev S4x768x128 : Shape := ⟨3, ![4, 768, 128]⟩
abbrev S4x768x2x128 : Shape := ⟨4, ![4, 768, 2, 128]⟩
abbrev S4x768x1x128 : Shape := ⟨4, ![4, 768, 1, 128]⟩
abbrev S1536x128 : Shape := ⟨2, ![1536, 128]⟩
abbrev S768x128 : Shape := ⟨2, ![768, 128]⟩
abbrev S1x768x128 : Shape := ⟨3, ![1, 768, 128]⟩
abbrev S1x768x2x128 : Shape := ⟨4, ![1, 768, 2, 128]⟩
abbrev S1x768x1x128 : Shape := ⟨4, ![1, 768, 1, 128]⟩
abbrev S1x64x128 : Shape := ⟨3, ![1, 64, 128]⟩
abbrev S1x64x2x128 : Shape := ⟨4, ![1, 64, 2, 128]⟩
abbrev S1x64x1x128 : Shape := ⟨4, ![1, 64, 1, 128]⟩
abbrev S64x128 : Shape := ⟨2, ![64, 128]⟩
abbrev S128x128 : Shape := ⟨2, ![128, 128]⟩
abbrev S512x1536 : Shape := ⟨2, ![512, 1536]⟩
abbrev S512x512 : Shape := ⟨2, ![512, 512]⟩

abbrev nBuf : Space → Nat
  | .hbm => 5
  | .vmem => 11
  | .smem => 2
  | _ => 0

abbrev bufTy : (tb : Table) → Fin (tcTables nBuf tb) → BufTy
  | .hbm, ⟨0, _⟩ => ⟨S4096x1536, .bf16⟩
  | .hbm, ⟨1, _⟩ => ⟨S1536x14336, .bf16⟩
  | .hbm, ⟨2, _⟩ => ⟨S1, .f32⟩
  | .hbm, ⟨3, _⟩ => ⟨S1, .f32⟩
  | .hbm, ⟨4, _⟩ => ⟨S4096x14336, .f32⟩
  | .local _ .vmem, ⟨0, _⟩ => ⟨S4096x1536, .bf16⟩
  | .local _ .vmem, ⟨1, _⟩ => ⟨S1536x512, .bf16⟩
  | .local _ .vmem, ⟨2, _⟩ => ⟨S1536x512, .bf16⟩
  | .local _ .vmem, ⟨3, _⟩ => ⟨S1536x512, .bf16⟩
  | .local _ .vmem, ⟨4, _⟩ => ⟨S1536x512, .bf16⟩
  | .local _ .vmem, ⟨5, _⟩ => ⟨S1536x512, .bf16⟩
  | .local _ .vmem, ⟨6, _⟩ => ⟨S4096x1024, .f32⟩
  | .local _ .vmem, ⟨7, _⟩ => ⟨S4096x1024, .f32⟩
  | .local _ .vmem, ⟨8, _⟩ => ⟨S1536x512, .bf16⟩
  | .local _ .vmem, ⟨9, _⟩ => ⟨S1536x512, .bf16⟩
  | .local _ .vmem, ⟨10, _⟩ => ⟨S4x768x2x128, .bf16⟩
  | .local _ .smem, ⟨0, _⟩ => ⟨S1, .f32⟩
  | .local _ .smem, ⟨1, _⟩ => ⟨S1, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![14], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_1 : BitVec 32 := 0#32
  let v5 : BitVec 1 := Scalar.cmpi .ne v4 c0_i32_1
  v5

@[reducible] def k0_t1_loop : Scf.Loop 32 :=
  let c0_i32_628 : BitVec 32 := 0#32
  let c12_i32 : BitVec 32 := 12#32
  let v738 : BitVec 32 := Scalar.addi c0_i32_628 c12_i32
  let c1_i32 : BitVec 32 := 1#32
  ⟨c0_i32_628, v738, c1_i32⟩
def k0_mult1 (k0_t1 : Fin k0_t1_loop.trips) : BitVec 32 :=
  let c0_i32_628 : BitVec 32 := 0#32
  let c1_i32 : BitVec 32 := 1#32
  let arg11 : BitVec 32 := Scf.iv c0_i32_628 c1_i32 k0_t1
  let c64_i32 : BitVec 32 := 64#32
  let v739 : BitVec 32 := Scalar.muli arg11 c64_i32
  v739
def k0_off1 (k0_t1 : Fin k0_t1_loop.trips) : Fin 4 → Nat :=
  let c0_630 : Index := 0#32
  let c0_i32_628 : BitVec 32 := 0#32
  let c1_i32 : BitVec 32 := 1#32
  let arg11 : BitVec 32 := Scf.iv c0_i32_628 c1_i32 k0_t1
  let c64_i32 : BitVec 32 := 64#32
  let v739 : BitVec 32 := Scalar.muli arg11 c64_i32
  let v740 : BitVec 32 := v739
  let v741 : Index := Scalar.indexCast v740
  let c0_631 : Index := 0#32
  ![0, v741.toNat, 0, 0]
def k0_mult2 (k0_t1 : Fin k0_t1_loop.trips) : BitVec 32 :=
  let c0_i32_628 : BitVec 32 := 0#32
  let c1_i32 : BitVec 32 := 1#32
  let arg11 : BitVec 32 := Scf.iv c0_i32_628 c1_i32 k0_t1
  let c128_i32 : BitVec 32 := 128#32
  let v745 : BitVec 32 := Scalar.muli arg11 c128_i32
  v745
def k0_off2 (k0_t1 : Fin k0_t1_loop.trips) : Fin 2 → Nat :=
  let c0_i32_628 : BitVec 32 := 0#32
  let c1_i32 : BitVec 32 := 1#32
  let arg11 : BitVec 32 := Scf.iv c0_i32_628 c1_i32 k0_t1
  let c128_i32 : BitVec 32 := 128#32
  let v745 : BitVec 32 := Scalar.muli arg11 c128_i32
  let v746 : BitVec 32 := v745
  let v747 : Index := Scalar.indexCast v746
  let c0_632 : Index := 0#32
  ![v747.toNat, 0]
def k0_mult3 (k0_t1 : Fin k0_t1_loop.trips) : BitVec 32 :=
  let c0_i32_628 : BitVec 32 := 0#32
  let c1_i32 : BitVec 32 := 1#32
  let arg11 : BitVec 32 := Scf.iv c0_i32_628 c1_i32 k0_t1
  let c64_i32_633 : BitVec 32 := 64#32
  let v751 : BitVec 32 := Scalar.muli arg11 c64_i32_633
  v751
def k0_off3 (k0_t1 : Fin k0_t1_loop.trips) : Fin 4 → Nat :=
  let c1_634 : Index := 1#32
  let c0_i32_628 : BitVec 32 := 0#32
  let c1_i32 : BitVec 32 := 1#32
  let arg11 : BitVec 32 := Scf.iv c0_i32_628 c1_i32 k0_t1
  let c64_i32_633 : BitVec 32 := 64#32
  let v751 : BitVec 32 := Scalar.muli arg11 c64_i32_633
  let v752 : BitVec 32 := v751
  let v753 : Index := Scalar.indexCast v752
  let c0_635 : Index := 0#32
  ![1, v753.toNat, 0, 0]
def k0_mult4 (k0_t1 : Fin k0_t1_loop.trips) : BitVec 32 :=
  let c0_i32_628 : BitVec 32 := 0#32
  let c1_i32 : BitVec 32 := 1#32
  let arg11 : BitVec 32 := Scf.iv c0_i32_628 c1_i32 k0_t1
  let c128_i32_636 : BitVec 32 := 128#32
  let v757 : BitVec 32 := Scalar.muli arg11 c128_i32_636
  v757
def k0_off4 (k0_t1 : Fin k0_t1_loop.trips) : Fin 2 → Nat :=
  let c0_i32_628 : BitVec 32 := 0#32
  let c1_i32 : BitVec 32 := 1#32
  let arg11 : BitVec 32 := Scf.iv c0_i32_628 c1_i32 k0_t1
  let c128_i32_636 : BitVec 32 := 128#32
  let v757 : BitVec 32 := Scalar.muli arg11 c128_i32_636
  let v758 : BitVec 32 := v757
  let v759 : Index := Scalar.indexCast v758
  let c128_637 : Index := 128#32
  ![v759.toNat, 128]
def k0_mult5 (k0_t1 : Fin k0_t1_loop.trips) : BitVec 32 :=
  let c0_i32_628 : BitVec 32 := 0#32
  let c1_i32 : BitVec 32 := 1#32
  let arg11 : BitVec 32 := Scf.iv c0_i32_628 c1_i32 k0_t1
  let c64_i32_638 : BitVec 32 := 64#32
  let v763 : BitVec 32 := Scalar.muli arg11 c64_i32_638
  v763
def k0_off5 (k0_t1 : Fin k0_t1_loop.trips) : Fin 4 → Nat :=
  let c2_639 : Index := 2#32
  let c0_i32_628 : BitVec 32 := 0#32
  let c1_i32 : BitVec 32 := 1#32
  let arg11 : BitVec 32 := Scf.iv c0_i32_628 c1_i32 k0_t1
  let c64_i32_638 : BitVec 32 := 64#32
  let v763 : BitVec 32 := Scalar.muli arg11 c64_i32_638
  let v764 : BitVec 32 := v763
  let v765 : Index := Scalar.indexCast v764
  let c0_640 : Index := 0#32
  ![2, v765.toNat, 0, 0]
def k0_mult6 (k0_t1 : Fin k0_t1_loop.trips) : BitVec 32 :=
  let c0_i32_628 : BitVec 32 := 0#32
  let c1_i32 : BitVec 32 := 1#32
  let arg11 : BitVec 32 := Scf.iv c0_i32_628 c1_i32 k0_t1
  let c128_i32_641 : BitVec 32 := 128#32
  let v769 : BitVec 32 := Scalar.muli arg11 c128_i32_641
  v769
def k0_off6 (k0_t1 : Fin k0_t1_loop.trips) : Fin 2 → Nat :=
  let c0_i32_628 : BitVec 32 := 0#32
  let c1_i32 : BitVec 32 := 1#32
  let arg11 : BitVec 32 := Scf.iv c0_i32_628 c1_i32 k0_t1
  let c128_i32_641 : BitVec 32 := 128#32
  let v769 : BitVec 32 := Scalar.muli arg11 c128_i32_641
  let v770 : BitVec 32 := v769
  let v771 : Index := Scalar.indexCast v770
  let c256_642 : Index := 256#32
  ![v771.toNat, 256]
def k0_mult7 (k0_t1 : Fin k0_t1_loop.trips) : BitVec 32 :=
  let c0_i32_628 : BitVec 32 := 0#32
  let c1_i32 : BitVec 32 := 1#32
  let arg11 : BitVec 32 := Scf.iv c0_i32_628 c1_i32 k0_t1
  let c64_i32_643 : BitVec 32 := 64#32
  let v775 : BitVec 32 := Scalar.muli arg11 c64_i32_643
  v775
def k0_off7 (k0_t1 : Fin k0_t1_loop.trips) : Fin 4 → Nat :=
  let c3_644 : Index := 3#32
  let c0_i32_628 : BitVec 32 := 0#32
  let c1_i32 : BitVec 32 := 1#32
  let arg11 : BitVec 32 := Scf.iv c0_i32_628 c1_i32 k0_t1
  let c64_i32_643 : BitVec 32 := 64#32
  let v775 : BitVec 32 := Scalar.muli arg11 c64_i32_643
  let v776 : BitVec 32 := v775
  let v777 : Index := Scalar.indexCast v776
  let c0_645 : Index := 0#32
  ![3, v777.toNat, 0, 0]
def k0_mult8 (k0_t1 : Fin k0_t1_loop.trips) : BitVec 32 :=
  let c0_i32_628 : BitVec 32 := 0#32
  let c1_i32 : BitVec 32 := 1#32
  let arg11 : BitVec 32 := Scf.iv c0_i32_628 c1_i32 k0_t1
  let c128_i32_646 : BitVec 32 := 128#32
  let v781 : BitVec 32 := Scalar.muli arg11 c128_i32_646
  v781
def k0_off8 (k0_t1 : Fin k0_t1_loop.trips) : Fin 2 → Nat :=
  let c0_i32_628 : BitVec 32 := 0#32
  let c1_i32 : BitVec 32 := 1#32
  let arg11 : BitVec 32 := Scf.iv c0_i32_628 c1_i32 k0_t1
  let c128_i32_646 : BitVec 32 := 128#32
  let v781 : BitVec 32 := Scalar.muli arg11 c128_i32_646
  let v782 : BitVec 32 := v781
  let v783 : Index := Scalar.indexCast v782
  let c384_647 : Index := 384#32
  ![v783.toNat, 384]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c27_i32 : BitVec 32 := 27#32
  let v2 : BitVec 32 := Scalar.minsi v1 c27_i32
  let c0_i32 : BitVec 32 := 0#32
  let c0_i32_1 : BitVec 32 := 0#32
  ![c0_i32.toNat, v2.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1536x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1536x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4096x1536 : Shape := ⟨2, ![4096, 1536]⟩
abbrev S1536x14336 : Shape := ⟨2, ![1536, 14336]⟩
abbrev S1 : Shape := ⟨1, ![1]⟩
abbrev S4096x14336 : Shape := ⟨2, ![4096, 14336]⟩
abbrev S1x1 : Shape := ⟨2, ![1, 1]⟩

abbrev nBuf : Space → Nat
  | .hbm => 9
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S1536x14336, .bf16⟩
  | .hbm, ⟨2, _⟩ => ⟨S1, .f32⟩
  | .hbm, ⟨3, _⟩ => ⟨S1, .f32⟩
  | .hbm, ⟨4, _⟩ => ⟨S4096x14336, .f32⟩
  | .hbm, ⟨5, _⟩ => ⟨S1, .f32⟩
  | .hbm, ⟨6, _⟩ => ⟨S1x1, .f32⟩
  | .hbm, ⟨7, _⟩ => ⟨S4096x14336, .f32⟩
  | .hbm, ⟨8, _⟩ => ⟨S4096x14336, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Dx.lean ====
abbrev S1536x14336 : Shape := ⟨2, ![1536, 14336]⟩
abbrev S4096x7168 : Shape := ⟨2, ![4096, 7168]⟩
abbrev S4096x896 : Shape := ⟨2, ![4096, 896]⟩
abbrev S1 : Shape := ⟨1, ![1]⟩
abbrev S1536x4096 : Shape := ⟨2, ![1536, 4096]⟩
abbrev S1536x512 : Shape := ⟨2, ![1536, 512]⟩
abbrev S4096x512 : Shape := ⟨2, ![4096, 512]⟩
abbrev S4096x128 : Shape := ⟨2, ![4096, 128]⟩
abbrev S2x512x512 : Shape := ⟨3, ![2, 512, 512]⟩
abbrev S32x128 : Shape := ⟨2, ![32, 128]⟩
abbrev S32x128x1 : Shape := ⟨3, ![32, 128, 1]⟩
abbrev S512x128 : Shape := ⟨2, ![512, 128]⟩
abbrev S128x128 : Shape := ⟨2, ![128, 128]⟩
abbrev S128x128x1 : Shape := ⟨3, ![128, 128, 1]⟩
abbrev S512x128x1 : Shape := ⟨3, ![512, 128, 1]⟩
abbrev S1x512x128 : Shape := ⟨3, ![1, 512, 128]⟩
abbrev S512x512 : Shape := ⟨2, ![512, 512]⟩
abbrev S1x512x512 : Shape := ⟨3, ![1, 512, 512]⟩

abbrev nBuf : Space → Nat
  | .hbm => 6
  | .vmem => 14
  | .smem => 2
  | _ => 0

abbrev bufTy : (tb : Table) → Fin (tcTables nBuf tb) → BufTy
  | .hbm, ⟨0, _⟩ => ⟨S1536x14336, .bf16⟩
  | .hbm, ⟨1, _⟩ => ⟨S4096x7168, .i8⟩
  | .hbm, ⟨2, _⟩ => ⟨S4096x896, .fp8e4m3⟩
  | .hbm, ⟨3, _⟩ => ⟨S1, .f32⟩
  | .hbm, ⟨4, _⟩ => ⟨S1, .f32⟩
  | .hbm, ⟨5, _⟩ => ⟨S1536x4096, .bf16⟩
  | .local _ .vmem, ⟨0, _⟩ => ⟨S1536x512, .bf16⟩
  | .local _ .vmem, ⟨1, _⟩ => ⟨S1536x512, .bf16⟩
  | .local _ .vmem, ⟨2, _⟩ => ⟨S1536x512, .bf16⟩
  | .local _ .vmem, ⟨3, _⟩ => ⟨S1536x512, .bf16⟩
  | .local _ .vmem, ⟨4, _⟩ => ⟨S1536x512, .bf16⟩
  | .local _ .vmem, ⟨5, _⟩ => ⟨S4096x512, .i8⟩
  | .local _ .vmem, ⟨6, _⟩ => ⟨S4096x512, .i8⟩
  | .local _ .vmem, ⟨7, _⟩ => ⟨S4096x128, .fp8e4m3⟩
  | .local _ .vmem, ⟨8, _⟩ => ⟨S4096x128, .fp8e4m3⟩
  | .local _ .vmem, ⟨9, _⟩ => ⟨S1536x4096, .bf16⟩
  | .local _ .vmem, ⟨10, _⟩ => ⟨S1536x4096, .f32⟩
  | .local _ .vmem, ⟨11, _⟩ => ⟨S1536x512, .bf16⟩
  | .local _ .vmem, ⟨12, _⟩ => ⟨S1536x512, .bf16⟩
  | .local _ .vmem, ⟨13, _⟩ => ⟨S2x512x512, .bf16⟩
  | .local _ .smem, ⟨0, _⟩ => ⟨S1, .f32⟩
  | .local _ .smem, ⟨1, _⟩ => ⟨S1, .f32⟩
  | _, _ => ⟨S1536x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![14], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_6481 : BitVec 32 := 0#32
  let c48_i32 : BitVec 32 := 48#32
  let v16539 : BitVec 32 := Scalar.addi c0_i32_6481 c48_i32
  let c1_i32_6482 : BitVec 32 := 1#32
  ⟨c0_i32_6481, v16539, c1_i32_6482⟩
def k0_mult1 (k0_t1 : Fin k0_t1_loop.trips) : BitVec 32 :=
  let c0_i32_6481 : BitVec 32 := 0#32
  let c1_i32_6482 : BitVec 32 := 1#32
  let arg13 : BitVec 32 := Scf.iv c0_i32_6481 c1_i32_6482 k0_t1
  let c32_i32_6484 : BitVec 32 := 32#32
  let v16540 : BitVec 32 := Scalar.muli arg13 c32_i32_6484
  v16540
def k0_off1 (k0_t1 : Fin k0_t1_loop.trips) : Fin 2 → Nat :=
  let c0_i32_6481 : BitVec 32 := 0#32
  let c1_i32_6482 : BitVec 32 := 1#32
  let arg13 : BitVec 32 := Scf.iv c0_i32_6481 c1_i32_6482 k0_t1
  let c32_i32_6484 : BitVec 32 := 32#32
  let v16540 : BitVec 32 := Scalar.muli arg13 c32_i32_6484
  let v16541 : BitVec 32 := v16540
  let v16569 : Index := Scalar.indexCast v16541
  let c0_6496 : Index := 0#32
  ![v16569.toNat, 0]
def k0_off2 (k0_t1 : Fin k0_t1_loop.trips) : Fin 2 → Nat :=
  let c0_i32_6481 : BitVec 32 := 0#32
  let c1_i32_6482 : BitVec 32 := 1#32
  let arg13 : BitVec 32 := Scf.iv c0_i32_6481 c1_i32_6482 k0_t1
  let c32_i32_6484 : BitVec 32 := 32#32
  let v16540 : BitVec 32 := Scalar.muli arg13 c32_i32_6484
  let v16541 : BitVec 32 := v16540
  let v16572 : Index := Scalar.indexCast v16541
  let c128_6497 : Index := 128#32
  ![v16572.toNat, 128]
def k0_mult2 (k0_t1 : Fin k0_t1_loop.trips) : BitVec 32 :=
  let c0_i32_6481 : BitVec 32 := 0#32
  let c1_i32_6482 : BitVec 32 := 1#32
  let arg13 : BitVec 32 := Scf.iv c0_i32_6481 c1_i32_6482 k0_t1
  let c32_i32_6508 : BitVec 32 := 32#32
  let v16619 : BitVec 32 := Scalar.muli arg13 c32_i32_6508
  v16619
def k0_off3 (k0_t1 : Fin k0_t1_loop.trips) : Fin 2 → Nat :=
  let c0_i32_6481 : BitVec 32 := 0#32
  let c1_i32_6482 : BitVec 32 := 1#32
  let arg13 : BitVec 32 := Scf.iv c0_i32_6481 c1_i32_6482 k0_t1
  let c32_i32_6508 : BitVec 32 := 32#32
  let v16619 : BitVec 32 := Scalar.muli arg13 c32_i32_6508
  let v16620 : BitVec 32 := v16619
  let v16648 : Index := Scalar.indexCast v16620
  let c256_6520 : Index := 256#32
  ![v16648.toNat, 256]
def k0_off4 (k0_t1 : Fin k0_t1_loop.trips) : Fin 2 → Nat :=
  let c0_i32_6481 : BitVec 32 := 0#32
  let c1_i32_6482 : BitVec 32 := 1#32
  let arg13 : BitVec 32 := Scf.iv c0_i32_6481 c1_i32_6482 k0_t1
  let c32_i32_6508 : BitVec 32 := 32#32
  let v16619 : BitVec 32 := Scalar.muli arg13 c32_i32_6508
  let v16620 : BitVec 32 := v16619
  let v16651 : Index := Scalar.indexCast v16620
  let c384_6521 : Index := 384#32
  ![v16651.toNat, 384]
def k0_cond2 (i : grid0.Coords) : BitVec 1 :=
  let arg0 : BitVec 32 := BitVec.ofNat 32 (i 0).val
  let c13_i32 : BitVec 32 := 13#32
  let v16532 : BitVec 1 := Scalar.cmpi .eq arg0 c13_i32
  let v16533 : BitVec 32 := Scalar.extui v16532
  let c0_i32_6477 : BitVec 32 := 0#32
  let v16534 : BitVec 1 := Scalar.cmpi .ne v16533 c0_i32_6477
  v16534

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c27_i32 : BitVec 32 := 27#32
  let v2 : BitVec 32 := Scalar.minsi v1 c27_i32
  let c0_i32 : BitVec 32 := 0#32
  let c0_i32_1 : BitVec 32 := 0#32
  ![c0_i32.toNat, v2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1536x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1536x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1536x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== DxReferenceIdeal.lean ====
abbrev S1536x14336 : Shape := ⟨2, ![1536, 14336]⟩
abbrev S4096x7168 : Shape := ⟨2, ![4096, 7168]⟩
abbrev S4096x896 : Shape := ⟨2, ![4096, 896]⟩
abbrev S1 : Shape := ⟨1, ![1]⟩
abbrev S1536x7168x2 : Shape := ⟨3, ![1536, 7168, 2]⟩
abbrev S4096x896x8 : Shape := ⟨3, ![4096, 896, 8]⟩
abbrev S1536x7168x1 : Shape := ⟨3, ![1536, 7168, 1]⟩
abbrev S1536x7168 : Shape := ⟨2, ![1536, 7168]⟩
abbrev S_ : Shape := ⟨0, ![]⟩
abbrev S1x1 : Shape := ⟨2, ![1, 1]⟩
abbrev S1536x4096 : Shape := ⟨2, ![1536, 4096]⟩
abbrev S4096x896x1 : Shape := ⟨3, ![4096, 896, 1]⟩

abbrev nBuf : Space → Nat
  | .hbm => 87
  | .vmem => 8
  | .smem => 0
  | _ => 0

abbrev bufTy : (tb : Table) → Fin (tcTables nBuf tb) → BufTy
  | .hbm, ⟨0, _⟩ => ⟨S1536x14336, .bf16⟩
  | .hbm, ⟨1, _⟩ => ⟨S4096x7168, .i8⟩
  | .hbm, ⟨2, _⟩ => ⟨S4096x896, .fp8e4m3⟩
  | .hbm, ⟨3, _⟩ => ⟨S1, .f32⟩
  | .hbm, ⟨4, _⟩ => ⟨S1, .f32⟩
  | .hbm, ⟨5, _⟩ => ⟨S1536x7168x2, .bf16⟩
  | .hbm, ⟨6, _⟩ => ⟨S4096x7168, .i32⟩
  | .hbm, ⟨7, _⟩ => ⟨S4096x896x8, .i32⟩
  | .hbm, ⟨8, _⟩ => ⟨S1536x7168x1, .bf16⟩
  | .hbm, ⟨9, _⟩ => ⟨S1536x7168, .bf16⟩
  | .hbm, ⟨10, _⟩ => ⟨S1536x7168x1, .bf16⟩
  | .hbm, ⟨11, _⟩ => ⟨S1536x7168, .bf16⟩
  | .hbm, ⟨12, _⟩ => ⟨S_, .i32⟩
  | .hbm, ⟨13, _⟩ => ⟨S4096x896x8, .i32⟩
  | .hbm, ⟨14, _⟩ => ⟨S4096x896x8, .i32⟩
  | .hbm, ⟨15, _⟩ => ⟨S_, .i32⟩
  | .hbm, ⟨16, _⟩ => ⟨S4096x896x8, .i32⟩
  | .hbm, ⟨17, _⟩ => ⟨S4096x896x8, .i32⟩
  | .hbm, ⟨18, _⟩ => ⟨S4096x896x8, .f32⟩
  | .hbm, ⟨19, _⟩ => ⟨S_, .f32⟩
  | .hbm, ⟨20, _⟩ => ⟨S4096x896x8, .f32⟩
  | .hbm, ⟨21, _⟩ => ⟨S4096x896x8, .i1⟩
  | .hbm, ⟨22, _⟩ => ⟨S_, .f32⟩
  | .hbm, ⟨23, _⟩ => ⟨S4096x896x8, .f32⟩
  | .hbm, ⟨24, _⟩ => ⟨S4096x896x8, .f32⟩
  | .hbm, ⟨25, _⟩ => ⟨S_, .f32⟩
  | .hbm, ⟨26, _⟩ => ⟨S4096x896x8, .f32⟩
  | .hbm, ⟨27, _⟩ => ⟨S4096x896x8, .i1⟩
  | .hbm, ⟨28, _⟩ => ⟨S_, .f32⟩
  | .hbm, ⟨29, _⟩ => ⟨S4096x896x8, .f32⟩
  | .hbm, ⟨30, _⟩ => ⟨S4096x896x8, .f32⟩
  | .hbm, ⟨31, _⟩ => ⟨S_, .f32⟩
  | .hbm, ⟨32, _⟩ => ⟨S4096x896x8, .f32⟩
  | .hbm, ⟨33, _⟩ => ⟨S4096x896x8, .f32⟩
  | .hbm, ⟨34, _⟩ => ⟨S_, .f32⟩
  | .hbm, ⟨35, _⟩ => ⟨S4096x896x8, .f32⟩
  | .hbm, ⟨36, _⟩ => ⟨S4096x896x8, .f32⟩
  | .hbm, ⟨37, _⟩ => ⟨S4096x896x8, .f32⟩
  | .hbm, ⟨38, _⟩ => ⟨S4096x896x8, .f32⟩
  | .hbm, ⟨39, _⟩ => ⟨S_, .i32⟩
  | .hbm, ⟨40, _⟩ => ⟨S4096x896x8, .i32⟩
  | .hbm, ⟨41, _⟩ => ⟨S4096x896x8, .i32⟩
  | .hbm, ⟨42, _⟩ => ⟨S_, .i32⟩
  | .hbm, ⟨43, _⟩ => ⟨S4096x896x8, .i32⟩
  | .hbm, ⟨44, _⟩ => ⟨S4096x896x8, .i1⟩
  | .hbm, ⟨45, _⟩ => ⟨S4096x896x8, .f32⟩
  | .hbm, ⟨46, _⟩ => ⟨S4096x896x8, .f32⟩
  | .hbm, ⟨47, _⟩ => ⟨S4096x896x8, .bf16⟩
  | .hbm, ⟨48, _⟩ => ⟨S_, .i32⟩
  | .hbm, ⟨49, _⟩ => ⟨S4096x896x8, .i32⟩
  | .hbm, ⟨50, _⟩ => ⟨S4096x896x8, .i32⟩
  | .hbm, ⟨51, _⟩ => ⟨S_, .i32⟩
  | .hbm, ⟨52, _⟩ => ⟨S4096x896x8, .i32⟩
  | .hbm, ⟨53, _⟩ => ⟨S4096x896x8, .i32⟩
  | .hbm, ⟨54, _⟩ => ⟨S4096x896x8, .f32⟩
  | .hbm, ⟨55, _⟩ => ⟨S_, .f32⟩
  | .hbm, ⟨56, _⟩ => ⟨S4096x896x8, .f32⟩
  | .hbm, ⟨57, _⟩ => ⟨S4096x896x8, .i1⟩
  | .hbm, ⟨58, _⟩ => ⟨S_, .f32⟩
  | .hbm, ⟨59, _⟩ => ⟨S4096x896x8, .f32⟩
  | .hbm, ⟨60, _⟩ => ⟨S4096x896x8, .f32⟩
  | .hbm, ⟨61, _⟩ => ⟨S_, .f32⟩
  | .hbm, ⟨62, _⟩ => ⟨S4096x896x8, .f32⟩
  | .hbm, ⟨63, _⟩ => ⟨S4096x896x8, .i1⟩
  | .hbm, ⟨64, _⟩ => ⟨S_, .f32⟩
  | .hbm, ⟨65, _⟩ => ⟨S4096x896x8, .f32⟩
  | .hbm, ⟨66, _⟩ => ⟨S4096x896x8, .f32⟩
  | .hbm, ⟨67, _⟩ => ⟨S_, .f32⟩
  | .hbm, ⟨68, _⟩ => ⟨S4096x896x8, .f32⟩
  | .hbm, ⟨69, _⟩ => ⟨S4096x896x8, .f32⟩
  | .hbm, ⟨70, _⟩ => ⟨S_, .f32⟩
  | .hbm, ⟨71, _⟩ => ⟨S4096x896x8, .f32⟩
  | .hbm, ⟨72, _⟩ => ⟨S4096x896x8, .f32⟩
  | .hbm, ⟨73, _⟩ => ⟨S4096x896x8, .f32⟩
  | .hbm, ⟨74, _⟩ => ⟨S4096x896x8, .f32⟩
  | .hbm, ⟨75, _⟩ => ⟨S_, .i32⟩
  | .hbm, ⟨76, _⟩ => ⟨S4096x896x8, .i32⟩
  | .hbm, ⟨77, _⟩ => ⟨S4096x896x8, .i32⟩
  | .hbm, ⟨78, _⟩ => ⟨S_, .i32⟩
  | .hbm, ⟨79, _⟩ => ⟨S4096x896x8, .i32⟩
  | .hbm, ⟨80, _⟩ => ⟨S4096x896x8, .i1⟩
  | .hbm, ⟨81, _⟩ => ⟨S4096x896x8, .f32⟩
  | .hbm, ⟨82, _⟩ => ⟨S4096x896x8, .f32⟩
  | .hbm, ⟨83, _⟩ => ⟨S4096x896x8, .bf16⟩
  | .hbm, ⟨84, _⟩ => ⟨S1x1, .f32⟩
  | .hbm, ⟨85, _⟩ => ⟨S1x1, .f32⟩
  | .hbm, ⟨86, _⟩ => ⟨S1536x4096, .bf16⟩
  | .local _ .vmem, ⟨0, _⟩ => ⟨S1536x7168, .bf16⟩
  | .local _ .vmem, ⟨1, _⟩ => ⟨S1536x7168, .bf16⟩
  | .local _ .vmem, ⟨2, _⟩ => ⟨S4096x896x8, .bf16⟩
  | .local _ .vmem, ⟨3, _⟩ => ⟨S4096x896x8, .bf16⟩
  | .local _ .vmem, ⟨4, _⟩ => ⟨S4096x896, .fp8e4m3⟩
  | .local _ .vmem, ⟨5, _⟩ => ⟨S1x1, .f32⟩
  | .local _ .vmem, ⟨6, _⟩ => ⟨S1x1, .f32⟩
  | .local _ .vmem, ⟨7, _⟩ => ⟨S1536x4096, .bf16⟩
  | _, _ => ⟨S1536x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_v26 : Ref sig .tc := ⟨.hbm, 40, rfl⟩
abbrev main_v27 : Ref sig .tc := ⟨.hbm, 41, rfl⟩
abbrev main_c_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_8 : Ref sig .tc := ⟨.hbm, 48, rfl⟩
abbrev main_v33 : Ref sig .tc := ⟨.hbm, 49, rfl⟩
abbrev main_v34 : Ref sig .tc := ⟨.hbm, 50, rfl⟩
abbrev main_c_9 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_cst_12 : Ref sig .tc := ⟨.hbm, 61, rfl⟩
abbrev main_v42 : Ref sig .tc := ⟨.hbm, 62, rfl⟩
abbrev main_v43 : Ref sig .tc := ⟨.hbm, 63, rfl⟩
abbrev main_cst_13 : Ref sig .tc := ⟨.hbm, 64, rfl⟩
abbrev main_v44 : Ref sig .tc := ⟨.hbm, 65, rfl⟩
abbrev main_v45 : Ref sig .tc := ⟨.hbm, 66, rfl⟩
abbrev main_cst_14 : Ref sig .tc := ⟨.hbm, 67, rfl⟩
abbrev main_v46 : Ref sig .tc := ⟨.hbm, 68, rfl⟩
abbrev main_v47 : Ref sig .tc := ⟨.hbm, 69, rfl⟩
abbrev main_cst_15 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_16 : Ref sig .tc := ⟨.hbm, 75, rfl⟩
abbrev main_v52 : Ref sig .tc := ⟨.hbm, 76, rfl⟩
abbrev main_v53 : Ref sig .tc := ⟨.hbm, 77, rfl⟩
abbrev main_c_17 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1536x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x896x8 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x896x8 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x896 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Amax.lean ====
abbrev S1536x4096 : Shape := ⟨2, ![1536, 4096]⟩
abbrev S1536x14336 : Shape := ⟨2, ![1536, 14336]⟩
abbrev S16 : Shape := ⟨1, ![16]⟩
abbrev S96x4096 : Shape := ⟨2, ![96, 4096]⟩
abbrev S96x14336 : Shape := ⟨2, ![96, 14336]⟩
abbrev S1536x1024 : Shape := ⟨2, ![1536, 1024]⟩
abbrev S96x1024 : Shape := ⟨2, ![96, 1024]⟩
abbrev S256x256 : Shape := ⟨2, ![256, 256]⟩
abbrev S1 : Shape := ⟨1, ![1]⟩
abbrev S256x1024 : Shape := ⟨2, ![256, 1024]⟩
abbrev S16x16x1024 : Shape := ⟨3, ![16, 16, 1024]⟩
abbrev S16x1024 : Shape := ⟨2, ![16, 1024]⟩

abbrev nBuf : Space → Nat
  | .hbm => 5
  | .vmem => 9
  | .smem => 1
  | _ => 0

abbrev bufTy : (tb : Table) → Fin (tcTables nBuf tb) → BufTy
  | .hbm, ⟨0, _⟩ => ⟨S1536x4096, .bf16⟩
  | .hbm, ⟨1, _⟩ => ⟨S1536x14336, .bf16⟩
  | .hbm, ⟨2, _⟩ => ⟨S16, .f32⟩
  | .hbm, ⟨3, _⟩ => ⟨S96x4096, .f32⟩
  | .hbm, ⟨4, _⟩ => ⟨S96x14336, .f32⟩
  | .local _ .vmem, ⟨0, _⟩ => ⟨S1536x1024, .bf16⟩
  | .local _ .vmem, ⟨1, _⟩ => ⟨S1536x1024, .bf16⟩
  | .local _ .vmem, ⟨2, _⟩ => ⟨S1536x1024, .bf16⟩
  | .local _ .vmem, ⟨3, _⟩ => ⟨S1536x1024, .bf16⟩
  | .local _ .vmem, ⟨4, _⟩ => ⟨S96x1024, .f32⟩
  | .local _ .vmem, ⟨5, _⟩ => ⟨S96x1024, .f32⟩
  | .local _ .vmem, ⟨6, _⟩ => ⟨S96x1024, .f32⟩
  | .local _ .vmem, ⟨7, _⟩ => ⟨S96x1024, .f32⟩
  | .local _ .vmem, ⟨8, _⟩ => ⟨S256x256, .bf16⟩
  | .local _ .smem, ⟨0, _⟩ => ⟨S16, .f32⟩
  | _, _ => ⟨S1536x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![18], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S96x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S96x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AmaxReferenceIdeal.lean ====
abbrev S1536x4096 : Shape := ⟨2, ![1536, 4096]⟩
abbrev S1536x14336 : Shape := ⟨2, ![1536, 14336]⟩
abbrev S16 : Shape := ⟨1, ![16]⟩
abbrev S96x16x4096 : Shape := ⟨3, ![96, 16, 4096]⟩
abbrev S_ : Shape := ⟨0, ![]⟩
abbrev S1x16x1 : Shape := ⟨3, ![1, 16, 1]⟩
abbrev S96x2x2x2x2x4096 : Shape := ⟨6, ![96, 2, 2, 2, 2, 4096]⟩
abbrev S96x1x2x2x2x4096 : Shape := ⟨6, ![96, 1, 2, 2, 2, 4096]⟩
abbrev S2 : Shape := ⟨1, ![2]⟩
abbrev S1x2x1x1x1x1 : Shape := ⟨6, ![1, 2, 1, 1, 1, 1]⟩
abbrev S96x2x1x2x2x4096 : Shape := ⟨6, ![96, 2, 1, 2, 2, 4096]⟩
abbrev S1x1x2x1x1x1 : Shape := ⟨6, ![1, 1, 2, 1, 1, 1]⟩
abbrev S96x2x2x1x2x4096 : Shape := ⟨6, ![96, 2, 2, 1, 2, 4096]⟩
abbrev S1x1x1x2x1x1 : Shape := ⟨6, ![1, 1, 1, 2, 1, 1]⟩
abbrev S96x2x2x2x1x4096 : Shape := ⟨6, ![96, 2, 2, 2, 1, 4096]⟩
abbrev S1x1x1x1x2x1 : Shape := ⟨6, ![1, 1, 1, 1, 2, 1]⟩
abbrev S96x4096 : Shape := ⟨2, ![96, 4096]⟩
abbrev S96x16x14336 : Shape := ⟨3, ![96, 16, 14336]⟩
abbrev S96x2x2x2x2x14336 : Shape := ⟨6, ![96, 2, 2, 2, 2, 14336]⟩
abbrev S96x1x2x2x2x14336 : Shape := ⟨6, ![96, 1, 2, 2, 2, 14336]⟩
abbrev S96x2x1x2x2x14336 : Shape := ⟨6, ![96, 2, 1, 2, 2, 14336]⟩
abbrev S96x2x2x1x2x14336 : Shape := ⟨6, ![96, 2, 2, 1, 2, 14336]⟩
abbrev S96x2x2x2x1x14336 : Shape := ⟨6, ![96, 2, 2, 2, 1, 14336]⟩
abbrev S96x14336 : Shape := ⟨2, ![96, 14336]⟩

abbrev nBuf : Space → Nat
  | .hbm => 133
  | .vmem => 0
  | .smem => 0
  | _ => 0

abbrev hbmTy0_0 (i : Nat) : BufTy := match i % 128 with
  | 0 => ⟨S1536x4096, .bf16⟩
  | 1 => ⟨S1536x14336, .bf16⟩
  | 2 => ⟨S16, .f32⟩
  | 3 => ⟨S1536x4096, .f32⟩
  | 4 => ⟨S96x16x4096, .f32⟩
  | 5 => ⟨S_, .f32⟩
  | 6 => ⟨S16, .f32⟩
  | 7 => ⟨S16, .f32⟩
  | 8 => ⟨S1x16x1, .f32⟩
  | 9 => ⟨S96x16x4096, .f32⟩
  | 10 => ⟨S96x16x4096, .f32⟩
  | 11 => ⟨S96x2x2x2x2x4096, .f32⟩
  | 12 => ⟨S96x1x2x2x2x4096, .f32⟩
  | 13 => ⟨S96x1x2x2x2x4096, .f32⟩
  | 14 => ⟨S2, .i32⟩
  | 15 => ⟨S1x2x1x1x1x1, .i32⟩
  | 16 => ⟨S_, .i32⟩
  | 17 => ⟨S1x2x1x1x1x1, .i32⟩
  | 18 => ⟨S1x2x1x1x1x1, .i1⟩
  | 19 => ⟨S96x1x2x2x2x4096, .f32⟩
  | 20 => ⟨S96x1x2x2x2x4096, .f32⟩
  | 21 => ⟨S96x2x2x2x2x4096, .i1⟩
  | 22 => ⟨S96x2x2x2x2x4096, .f32⟩
  | 23 => ⟨S96x2x2x2x2x4096, .f32⟩
  | 24 => ⟨S96x2x2x2x2x4096, .f32⟩
  | 25 => ⟨S96x2x1x2x2x4096, .f32⟩
  | 26 => ⟨S96x2x1x2x2x4096, .f32⟩
  | 27 => ⟨S2, .i32⟩
  | 28 => ⟨S1x1x2x1x1x1, .i32⟩
  | 29 => ⟨S_, .i32⟩
  | 30 => ⟨S1x1x2x1x1x1, .i32⟩
  | 31 => ⟨S1x1x2x1x1x1, .i1⟩
  | 32 => ⟨S96x2x1x2x2x4096, .f32⟩
  | 33 => ⟨S96x2x1x2x2x4096, .f32⟩
  | 34 => ⟨S96x2x2x2x2x4096, .i1⟩
  | 35 => ⟨S96x2x2x2x2x4096, .f32⟩
  | 36 => ⟨S96x2x2x2x2x4096, .f32⟩
  | 37 => ⟨S96x2x2x2x2x4096, .f32⟩
  | 38 => ⟨S96x2x2x1x2x4096, .f32⟩
  | 39 => ⟨S96x2x2x1x2x4096, .f32⟩
  | 40 => ⟨S2, .i32⟩
  | 41 => ⟨S1x1x1x2x1x1, .i32⟩
  | 42 => ⟨S_, .i32⟩
  | 43 => ⟨S1x1x1x2x1x1, .i32⟩
  | 44 => ⟨S1x1x1x2x1x1, .i1⟩
  | 45 => ⟨S96x2x2x1x2x4096, .f32⟩
  | 46 => ⟨S96x2x2x1x2x4096, .f32⟩
  | 47 => ⟨S96x2x2x2x2x4096, .i1⟩
  | 48 => ⟨S96x2x2x2x2x4096, .f32⟩
  | 49 => ⟨S96x2x2x2x2x4096, .f32⟩
  | 50 => ⟨S96x2x2x2x2x4096, .f32⟩
  | 51 => ⟨S96x2x2x2x1x4096, .f32⟩
  | 52 => ⟨S96x2x2x2x1x4096, .f32⟩
  | 53 => ⟨S2, .i32⟩
  | 54 => ⟨S1x1x1x1x2x1, .i32⟩
  | 55 => ⟨S_, .i32⟩
  | 56 => ⟨S1x1x1x1x2x1, .i32⟩
  | 57 => ⟨S1x1x1x1x2x1, .i1⟩
  | 58 => ⟨S96x2x2x2x1x4096, .f32⟩
  | 59 => ⟨S96x2x2x2x1x4096, .f32⟩
  | 60 => ⟨S96x2x2x2x2x4096, .i1⟩
  | 61 => ⟨S96x2x2x2x2x4096, .f32⟩
  | 62 => ⟨S96x2x2x2x2x4096, .f32⟩
  | 63 => ⟨S96x2x2x2x2x4096, .f32⟩
  | 64 => ⟨S96x16x4096, .f32⟩
  | 65 => ⟨S96x16x4096, .f32⟩
  | 66 => ⟨S_, .f32⟩
  | 67 => ⟨S96x4096, .f32⟩
  | 68 => ⟨S1536x14336, .f32⟩
  | 69 => ⟨S96x16x14336, .f32⟩
  | 70 => ⟨S_, .f32⟩
  | 71 => ⟨S16, .f32⟩
  | 72 => ⟨S16, .f32⟩
  | 73 => ⟨S1x16x1, .f32⟩
  | 74 => ⟨S96x16x14336, .f32⟩
  | 75 => ⟨S96x16x14336, .f32⟩
  | 76 => ⟨S96x2x2x2x2x14336, .f32⟩
  | 77 => ⟨S96x1x2x2x2x14336, .f32⟩
  | 78 => ⟨S96x1x2x2x2x14336, .f32⟩
  | 79 => ⟨S2, .i32⟩
  | 80 => ⟨S1x2x1x1x1x1, .i32⟩
  | 81 => ⟨S_, .i32⟩
  | 82 => ⟨S1x2x1x1x1x1, .i32⟩
  | 83 => ⟨S1x2x1x1x1x1, .i1⟩
  | 84 => ⟨S96x1x2x2x2x14336, .f32⟩
  | 85 => ⟨S96x1x2x2x2x14336, .f32⟩
  | 86 => ⟨S96x2x2x2x2x14336, .i1⟩
  | 87 => ⟨S96x2x2x2x2x14336, .f32⟩
  | 88 => ⟨S96x2x2x2x2x14336, .f32⟩
  | 89 => ⟨S96x2x2x2x2x14336, .f32⟩
  | 90 => ⟨S96x2x1x2x2x14336, .f32⟩
  | 91 => ⟨S96x2x1x2x2x14336, .f32⟩
  | 92 => ⟨S2, .i32⟩
  | 93 => ⟨S1x1x2x1x1x1, .i32⟩
  | 94 => ⟨S_, .i32⟩
  | 95 => ⟨S1x1x2x1x1x1, .i32⟩
  | 96 => ⟨S1x1x2x1x1x1, .i1⟩
  | 97 => ⟨S96x2x1x2x2x14336, .f32⟩
  | 98 => ⟨S96x2x1x2x2x14336, .f32⟩
  | 99 => ⟨S96x2x2x2x2x14336, .i1⟩
  | 100 => ⟨S96x2x2x2x2x14336, .f32⟩
  | 101 => ⟨S96x2x2x2x2x14336, .f32⟩
  | 102 => ⟨S96x2x2x2x2x14336, .f32⟩
  | 103 => ⟨S96x2x2x1x2x14336, .f32⟩
  | 104 => ⟨S96x2x2x1x2x14336, .f32⟩
  | 105 => ⟨S2, .i32⟩
  | 106 => ⟨S1x1x1x2x1x1, .i32⟩
  | 107 => ⟨S_, .i32⟩
  | 108 => ⟨S1x1x1x2x1x1, .i32⟩
  | 109 => ⟨S1x1x1x2x1x1, .i1⟩
  | 110 => ⟨S96x2x2x1x2x14336, .f32⟩
  | 111 => ⟨S96x2x2x1x2x14336, .f32⟩
  | 112 => ⟨S96x2x2x2x2x14336, .i1⟩
  | 113 => ⟨S96x2x2x2x2x14336, .f32⟩
  | 114 => ⟨S96x2x2x2x2x14336, .f32⟩
  | 115 => ⟨S96x2x2x2x2x14336, .f32⟩
  | 116 => ⟨S96x2x2x2x1x14336, .f32⟩
  | 117 => ⟨S96x2x2x2x1x14336, .f32⟩
  | 118 => ⟨S2, .i32⟩
  | 119 => ⟨S1x1x1x1x2x1, .i32⟩
  | 120 => ⟨S_, .i32⟩
  | 121 => ⟨S1x1x1x1x2x1, .i32⟩
  | 122 => ⟨S1x1x1x1x2x1, .i1⟩
  | 123 => ⟨S96x2x2x2x1x14336, .f32⟩
  | 124 => ⟨S96x2x2x2x1x14336, .f32⟩
  | 125 => ⟨S96x2x2x2x2x14336, .i1⟩
  | 126 => ⟨S96x2x2x2x2x14336, .f32⟩
  | 127 => ⟨S96x2x2x2x2x14336, .f32⟩
  | _ => ⟨S1536x4096, .bf16⟩

abbrev hbmTy0_1 (i : Nat) : BufTy := match i % 128 with
  | 0 => ⟨S96x2x2x2x2x14336, .f32⟩
  | 1 => ⟨S96x16x14336, .f32⟩
  | 2 => ⟨S96x16x14336, .f32⟩
  | 3 => ⟨S_, .f32⟩
  | 4 => ⟨S96x14336, .f32⟩
  | _ => ⟨S1536x4096, .bf16⟩

abbrev hbmTy (i : Nat) : BufTy := match i / 128 with
  | 0 => hbmTy0_0 i
  | 1 => hbmTy0_1 i
  | _ => ⟨S1536x4096, .bf16⟩

abbrev bufTy : (tb : Table) → Fin (tcTables nBuf tb) → BufTy
  | .hbm, ⟨i, _⟩ => hbmTy i
  | _, _ => ⟨S1536x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_1 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_2 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_3 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_4 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_5 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_call4_v0 : Ref sig .tc := ⟨.hbm, 86, rfl⟩
abbrev main_call4_v1 : Ref sig .tc := ⟨.hbm, 87, rfl⟩
abbrev main_call4_v2 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_6 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_call5_v0 : Ref sig .tc := ⟨.hbm, 99, rfl⟩
abbrev main_call5_v1 : Ref sig .tc := ⟨.hbm, 100, rfl⟩
abbrev main_call5_v2 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_7 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_call6_v0 : Ref sig .tc := ⟨.hbm, 112, rfl⟩
abbrev main_call6_v1 : Ref sig .tc := ⟨.hbm, 113, rfl⟩
abbrev main_call6_v2 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_c_8 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_call7_v0 : Ref sig .tc := ⟨.hbm, 125, rfl⟩
abbrev main_call7_v1 : Ref sig .tc := ⟨.hbm, 126, rfl⟩
abbrev main_call7_v2 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_9 : Ref sig .tc := ⟨.hbm, 131, rfl⟩
abbrev main_v93 : Ref sig .tc := ⟨.hbm, 132, rfl⟩

abbrev nD : Nat := 1
abbrev τ : Topo := Topo.v7x

variable {F : FTy → Type} [FloatOps F]
-- ==== Proof.Slabs.lean ====
module

public import proofs.«01_k».proof.Proof.Gen.KernelIdeal.Frame
public import Idealize.ShloMosaic.Lib.Pipeline.Value
public import Idealize.ShloMosaic.Lib.Pipeline.CanonAppend
public import Idealize.ShloMosaic.Lib.Tactic
public import Idealize.ShloMosaic.Lib.Pointwise
public import Idealize.ShloMosaic.Lib.Pipeline.ReadBack

@[expose] public section

set_option maxRecDepth 16384

noncomputable section

namespace Cert.KernelIdeal.Val

open Cert.KernelIdeal Cert.KernelIdeal.Gen Idealize.ShloMosaic Idealize.ShloMosaic.TcCoe Idealize.SL.Sem

variable {F : FTy → Type} [FloatOps F]

/-- What the scratch of packed words holds when it holds the tile `D`: slab `y 0` of 128 columns, row pair `y 1`, the even or odd row by `y 2`. -/
def W (D : Vec F S1536x512 .bf16) : Vec F S4x768x2x128 .bf16 := fun y =>
  D (ix2 ⟨2 * (y 1).val + (y 2).val, by have := (y 1).isLt; have := (y 2).isLt; simp only [Shape.size] at *; simp at *; omega⟩
    ⟨128 * (y 0).val + (y 3).val, by have := (y 0).isLt; have := (y 3).isLt; simp only [Shape.size] at *; simp at *; omega⟩)

/-- A slab's store at a position. -/
theorem store_apply (V : Vec F S1536x128 .bf16) (y : S1x768x2x128.Idx) : k0_pay5 V y =
    V (ix2 ⟨2 * (y 1).val + (y 2).val, by have := (y 1).isLt; have := (y 2).isLt; simp at *; omega⟩ (y 3)) := by
  pointwise [k0_pay5]
  have h2 : (y 2).val < 2 := (y 2).isLt
  split
  · congr 2; apply Fin.ext; simp; omega
  · congr 2; apply Fin.ext; simp; omega

/-- A unit's load at a position. -/
theorem load_apply (R : Vec F S1x64x2x128 .bf16) (x : S128x128.Idx) : k0_pay1 R x =
    R (ix4 0 ⟨(x 0).val / 2, by have := (x 0).isLt; simp at *; omega⟩ ⟨(x 0).val % 2, by omega⟩ (x 1)) := by
  pointwise [k0_pay1]
  split
  · congr 2; apply Fin.ext; simp; omega
  · congr 2; apply Fin.ext; simp; omega

/-- The slab stored at column `128 l` is the block of `W D` there. -/
theorem piece_store (D : Vec F S1536x512 .bf16) (V : Vec F S1536x128 .bf16) (l q : ℕ) (hq : q = 128 * l)
    (ib : ∀ a, ![0, q] a + S1536x128.size a ≤ S1536x512.size a) (ib' : ∀ a, ![l, 0, 0, 0] a + S1x768x2x128.size a ≤ S4x768x2x128.size a)
    (hV : ∀ j, V j = D ((Rect.unit (s := S1536x512) ![0, q] S1536x128.size ib).emb j)) (x : S1x768x2x128.Idx) :
    k0_pay5 V x = W D ((Rect.unit (s := S4x768x2x128) ![l, 0, 0, 0] S1x768x2x128.size ib').emb x) := by
  rw [store_apply, hV]; unfold W
  have h0 : (x 0).val < 1 := (x 0).isLt
  congr 1
  funext a
  apply Fin.ext
  fin_cases a
  · simp [Rect.emb, Rect.unit, ix2]
  · simp [Rect.emb, Rect.unit, ix2]; omega

/-- The unit loaded from slab `l` at row pair `w` is the block of `D` at row `2 w` and column `128 l`. -/
theorem piece_load (D : Vec F S1536x512 .bf16) (R : Vec F S1x64x2x128 .bf16) (l w r q : ℕ) (hr : r = 2 * w) (hq : q = 128 * l)
    (ib : ∀ a, ![l, w, 0, 0] a + S1x64x2x128.size a ≤ S4x768x2x128.size a) (ib' : ∀ a, ![r, q] a + S128x128.size a ≤ S1536x512.size a)
    (hR : ∀ j, R j = W D ((Rect.unit (s := S4x768x2x128) ![l, w, 0, 0] S1x64x2x128.size ib).emb j)) (x : S128x128.Idx) :
    k0_pay1 R x = D ((Rect.unit (s := S1536x512) ![r, q] S128x128.size ib').emb x) := by
  rw [load_apply, hR]; unfold W
  congr 1
  funext a
  apply Fin.ext
  fin_cases a
  · simp [Rect.emb, Rect.unit, ix2, ix4]; omega
  · simp [Rect.emb, Rect.unit, ix2, ix4]; omega

end Cert.KernelIdeal.Val

end

end
-- ==== Proof.Copies.lean ====
module

public import proofs.«01_k».proof.Proof.Gen.KernelIdeal.Frame
public import Idealize.ShloMosaic.Lib.Pipeline.Value
public import Idealize.ShloMosaic.Lib.Pipeline.CanonAppend
public import Idealize.ShloMosaic.Lib.Tactic
public import proofs.«01_k».proof.Proof.Slabs
public import Idealize.ShloMosaic.Lib.Pipeline.ReadBack

@[expose] public section

set_option maxRecDepth 16384

noncomputable section

namespace Cert.KernelIdeal.Val

open Cert.KernelIdeal Cert.KernelIdeal.Gen Idealize.ShloMosaic Idealize.ShloMosaic.TcCoe Idealize.SL.Sem

variable {F : FTy → Type} [FloatOps F]

variable (c : Dev nD) (i : grid0.Coords) (arg1 : Memref sig .tc .smem S1 .f32) (harg1 : arg1.IsWhole) (arg2 : Memref sig .tc .smem S1 .f32) (harg2 : arg2.IsWhole)
  (arg3 : Memref sig .tc .vmem S4096x1536 .bf16) (harg3 : arg3.IsWhole) (arg4 : Memref sig .tc .vmem S1536x512 .bf16) (harg4 : arg4.IsWhole)
  (arg5 : Memref sig .tc .vmem S1536x512 .bf16) (harg5 : arg5.IsWhole) (arg6 : Memref sig .tc .vmem S1536x512 .bf16) (harg6 : arg6.IsWhole)
  (arg7 : Memref sig .tc .vmem S4096x1024 .f32) (harg7 : arg7.IsWhole) (arg8 : Memref sig .tc .vmem S1536x512 .bf16) (harg8 : arg8.IsWhole)
  (arg9 : Memref sig .tc .vmem S1536x512 .bf16) (harg9 : arg9.IsWhole) (arg10 : Memref sig .tc .vmem S4x768x2x128 .bf16) (harg10 : arg10.IsWhole)
  (x3 x4 x5 : Vec F S1536x512 .bf16)

/-- A load of a whole buffer's contents at a position. -/
theorem read_at (m : Memref sig .tc .vmem S1536x512 .bf16) (hm : m.IsWhole) (X : Vec F S1536x512 .bf16) (r : Rect S1536x512) (j : r.shape.Idx) :
    View.readAt (Elt F) m.view r.toLoadRect (hm.unread X) j = X (r.emb j) :=
  congrFun (hm.read_unread X) (r.emb j)

/-- Four slab stores, made last, leave the packed words of the tile. -/
theorem canon_words (D : Vec F S1536x512 .bf16) (ib3 ib2 ib1 ib0) (p3 p2 p1 p0 : Vec F S1x768x2x128 .bf16) (L : List (View.Piece (Elt F) S4x768x2x128 .bf16))
    (h3 : ∀ x, p3 x = W D ((Rect.unit (s := S4x768x2x128) ![3, 0, 0, 0] S1x768x2x128.size ib3).emb x))
    (h2 : ∀ x, p2 x = W D ((Rect.unit (s := S4x768x2x128) ![2, 0, 0, 0] S1x768x2x128.size ib2).emb x))
    (h1 : ∀ x, p1 x = W D ((Rect.unit (s := S4x768x2x128) ![1, 0, 0, 0] S1x768x2x128.size ib1).emb x))
    (h0 : ∀ x, p0 x = W D ((Rect.unit (s := S4x768x2x128) ![0, 0, 0, 0] S1x768x2x128.size ib0).emb x)) :
    View.canon (⟨Rect.unit (s := S4x768x2x128) ![3, 0, 0, 0] S1x768x2x128.size ib3, p3⟩ :: ⟨Rect.unit ![2, 0, 0, 0] S1x768x2x128.size ib2, p2⟩
      :: ⟨Rect.unit ![1, 0, 0, 0] S1x768x2x128.size ib1, p1⟩ :: ⟨Rect.unit ![0, 0, 0, 0] S1x768x2x128.size ib0, p0⟩ :: L) = W D := by
  funext y
  refine View.canon_append_of_piecesOf (W D) L [_, _, _, _] ⟨h3, h2, h1, h0, trivial⟩ y (View.cover_of_tiledL (s := S4x768x2x128) _ S1x768x2x128.size ?_ y)
  sl_kernel_rfl

/-- A unit read back from the packed words of the tile `D` is a block of `D`. -/
theorem piece_back (D : Vec F S1536x512 .bf16) (L : List (View.Piece (Elt F) S4x768x2x128 .bf16)) (hL : View.canon L = W D) (l w r q : ℕ) (hr : r = 2 * w) (hq : q = 128 * l)
    (ib : ∀ a, ![l, w, 0, 0] a + S1x64x2x128.size a ≤ S4x768x2x128.size a) (ib' : ∀ a, ![r, q] a + S128x128.size a ≤ S1536x512.size a) (x : S128x128.Idx) :
    k0_pay1 (arg10.view.readCov L (Rect.unit (s := S4x768x2x128) ![l, w, 0, 0] S1x64x2x128.size ib).toLoadRect) x
      = D ((Rect.unit (s := S1536x512) ![r, q] S128x128.size ib').emb x) :=
  piece_load D _ l w r q hr hq ib ib' (fun j => by rw [View.readCov_eq_canon', hL]; rfl) x

theorem words_B4 : View.canon (kernelRun0_B.sl.HS2_4 c arg5 harg5 x4) = W x4 :=
  canon_words x4 _ _ _ _ _ _ _ _ _
    (piece_store x4 (View.readAt (Elt F) arg5.view (Rect.unit (s := S1536x512) ![0, 384] S1536x128.size inb_S1536x512_S1536x128_0_384).toLoadRect (harg5.unread x4)) 3 384 rfl inb_S1536x512_S1536x128_0_384 _ (read_at arg5 harg5 x4 (Rect.unit (s := S1536x512) ![0, 384] S1536x128.size inb_S1536x512_S1536x128_0_384)))
    (piece_store x4 (View.readAt (Elt F) arg5.view (Rect.unit (s := S1536x512) ![0, 256] S1536x128.size inb_S1536x512_S1536x128_0_256).toLoadRect (harg5.unread x4)) 2 256 rfl inb_S1536x512_S1536x128_0_256 _ (read_at arg5 harg5 x4 (Rect.unit (s := S1536x512) ![0, 256] S1536x128.size inb_S1536x512_S1536x128_0_256)))
    (piece_store x4 (View.readAt (Elt F) arg5.view (Rect.unit (s := S1536x512) ![0, 128] S1536x128.size inb_S1536x512_S1536x128_0_128).toLoadRect (harg5.unread x4)) 1 128 rfl inb_S1536x512_S1536x128_0_128 _ (read_at arg5 harg5 x4 (Rect.unit (s := S1536x512) ![0, 128] S1536x128.size inb_S1536x512_S1536x128_0_128)))
    (piece_store x4 (View.readAt (Elt F) arg5.view (Rect.unit (s := S1536x512) ![0, 0] S1536x128.size inb_S1536x512_S1536x128_0_0).toLoadRect (harg5.unread x4)) 0 0 rfl inb_S1536x512_S1536x128_0_0 _ (read_at arg5 harg5 x4 (Rect.unit (s := S1536x512) ![0, 0] S1536x128.size inb_S1536x512_S1536x128_0_0)))

theorem words_B8 : View.canon (kernelRun0_B.sl.HS2_8 c arg5 harg5 arg6 harg6 x4 x5) = W x5 :=
  canon_words x5 _ _ _ _ _ _ _ _ _
    (piece_store x5 (View.readAt (Elt F) arg6.view (Rect.unit (s := S1536x512) ![0, 384] S1536x128.size inb_S1536x512_S1536x128_0_384).toLoadRect (harg6.unread x5)) 3 384 rfl inb_S1536x512_S1536x128_0_384 _ (read_at arg6 harg6 x5 (Rect.unit (s := S1536x512) ![0, 384] S1536x128.size inb_S1536x512_S1536x128_0_384)))
    (piece_store x5 (View.readAt (Elt F) arg6.view (Rect.unit (s := S1536x512) ![0, 256] S1536x128.size inb_S1536x512_S1536x128_0_256).toLoadRect (harg6.unread x5)) 2 256 rfl inb_S1536x512_S1536x128_0_256 _ (read_at arg6 harg6 x5 (Rect.unit (s := S1536x512) ![0, 256] S1536x128.size inb_S1536x512_S1536x128_0_256)))
    (piece_store x5 (View.readAt (Elt F) arg6.view (Rect.unit (s := S1536x512) ![0, 128] S1536x128.size inb_S1536x512_S1536x128_0_128).toLoadRect (harg6.unread x5)) 1 128 rfl inb_S1536x512_S1536x128_0_128 _ (read_at arg6 harg6 x5 (Rect.unit (s := S1536x512) ![0, 128] S1536x128.size inb_S1536x512_S1536x128_0_128)))
    (piece_store x5 (View.readAt (Elt F) arg6.view (Rect.unit (s := S1536x512) ![0, 0] S1536x128.size inb_S1536x512_S1536x128_0_0).toLoadRect (harg6.unread x5)) 0 0 rfl inb_S1536x512_S1536x128_0_0 _ (read_at arg6 harg6 x5 (Rect.unit (s := S1536x512) ![0, 0] S1536x128.size inb_S1536x512_S1536x128_0_0)))

theorem words_A4 : View.canon (kernelRun0_A.sl.HS2_4 c arg4 harg4 x3) = W x3 :=
  canon_words x3 _ _ _ _ _ _ _ _ _
    (piece_store x3 (View.readAt (Elt F) arg4.view (Rect.unit (s := S1536x512) ![0, 384] S1536x128.size inb_S1536x512_S1536x128_0_384).toLoadRect (harg4.unread x3)) 3 384 rfl inb_S1536x512_S1536x128_0_384 _ (read_at arg4 harg4 x3 (Rect.unit (s := S1536x512) ![0, 384] S1536x128.size inb_S1536x512_S1536x128_0_384)))
    (piece_store x3 (View.readAt (Elt F) arg4.view (Rect.unit (s := S1536x512) ![0, 256] S1536x128.size inb_S1536x512_S1536x128_0_256).toLoadRect (harg4.unread x3)) 2 256 rfl inb_S1536x512_S1536x128_0_256 _ (read_at arg4 harg4 x3 (Rect.unit (s := S1536x512) ![0, 256] S1536x128.size inb_S1536x512_S1536x128_0_256)))
    (piece_store x3 (View.readAt (Elt F) arg4.view (Rect.unit (s := S1536x512) ![0, 128] S1536x128.size inb_S1536x512_S1536x128_0_128).toLoadRect (harg4.unread x3)) 1 128 rfl inb_S1536x512_S1536x128_0_128 _ (read_at arg4 harg4 x3 (Rect.unit (s := S1536x512) ![0, 128] S1536x128.size inb_S1536x512_S1536x128_0_128)))
    (piece_store x3 (View.readAt (Elt F) arg4.view (Rect.unit (s := S1536x512) ![0, 0] S1536x128.size inb_S1536x512_S1536x128_0_0).toLoadRect (harg4.unread x3)) 0 0 rfl inb_S1536x512_S1536x128_0_0 _ (read_at arg4 harg4 x3 (Rect.unit (s := S1536x512) ![0, 0] S1536x128.size inb_S1536x512_S1536x128_0_0)))

theorem words_A8 : View.canon (kernelRun0_A.sl.HS2_8 c arg4 harg4 arg5 harg5 x3 x4) = W x4 :=
  canon_words x4 _ _ _ _ _ _ _ _ _
    (piece_store x4 (View.readAt (Elt F) arg5.view (Rect.unit (s := S1536x512) ![0, 384] S1536x128.size inb_S1536x512_S1536x128_0_384).toLoadRect (harg5.unread x4)) 3 384 rfl inb_S1536x512_S1536x128_0_384 _ (read_at arg5 harg5 x4 (Rect.unit (s := S1536x512) ![0, 384] S1536x128.size inb_S1536x512_S1536x128_0_384)))
    (piece_store x4 (View.readAt (Elt F) arg5.view (Rect.unit (s := S1536x512) ![0, 256] S1536x128.size inb_S1536x512_S1536x128_0_256).toLoadRect (harg5.unread x4)) 2 256 rfl inb_S1536x512_S1536x128_0_256 _ (read_at arg5 harg5 x4 (Rect.unit (s := S1536x512) ![0, 256] S1536x128.size inb_S1536x512_S1536x128_0_256)))
    (piece_store x4 (View.readAt (Elt F) arg5.view (Rect.unit (s := S1536x512) ![0, 128] S1536x128.size inb_S1536x512_S1536x128_0_128).toLoadRect (harg5.unread x4)) 1 128 rfl inb_S1536x512_S1536x128_0_128 _ (read_at arg5 harg5 x4 (Rect.unit (s := S1536x512) ![0, 128] S1536x128.size inb_S1536x512_S1536x128_0_128)))
    (piece_store x4 (View.readAt (Elt F) arg5.view (Rect.unit (s := S1536x512) ![0, 0] S1536x128.size inb_S1536x512_S1536x128_0_0).toLoadRect (harg5.unread x4)) 0 0 rfl inb_S1536x512_S1536x128_0_0 _ (read_at arg5 harg5 x4 (Rect.unit (s := S1536x512) ![0, 0] S1536x128.size inb_S1536x512_S1536x128_0_0)))

theorem words_A12 : View.canon (kernelRun0_A.sl.HS2_12 c arg4 harg4 arg5 harg5 arg6 harg6 x3 x4 x5) = W x5 :=
  canon_words x5 _ _ _ _ _ _ _ _ _
    (piece_store x5 (View.readAt (Elt F) arg6.view (Rect.unit (s := S1536x512) ![0, 384] S1536x128.size inb_S1536x512_S1536x128_0_384).toLoadRect (harg6.unread x5)) 3 384 rfl inb_S1536x512_S1536x128_0_384 _ (read_at arg6 harg6 x5 (Rect.unit (s := S1536x512) ![0, 384] S1536x128.size inb_S1536x512_S1536x128_0_384)))
    (piece_store x5 (View.readAt (Elt F) arg6.view (Rect.unit (s := S1536x512) ![0, 256] S1536x128.size inb_S1536x512_S1536x128_0_256).toLoadRect (harg6.unread x5)) 2 256 rfl inb_S1536x512_S1536x128_0_256 _ (read_at arg6 harg6 x5 (Rect.unit (s := S1536x512) ![0, 256] S1536x128.size inb_S1536x512_S1536x128_0_256)))
    (piece_store x5 (View.readAt (Elt F) arg6.view (Rect.unit (s := S1536x512) ![0, 128] S1536x128.size inb_S1536x512_S1536x128_0_128).toLoadRect (harg6.unread x5)) 1 128 rfl inb_S1536x512_S1536x128_0_128 _ (read_at arg6 harg6 x5 (Rect.unit (s := S1536x512) ![0, 128] S1536x128.size inb_S1536x512_S1536x128_0_128)))
    (piece_store x5 (View.readAt (Elt F) arg6.view (Rect.unit (s := S1536x512) ![0, 0] S1536x128.size inb_S1536x512_S1536x128_0_0).toLoadRect (harg6.unread x5)) 0 0 rfl inb_S1536x512_S1536x128_0_0 _ (read_at arg6 harg6 x5 (Rect.unit (s := S1536x512) ![0, 0] S1536x128.size inb_S1536x512_S1536x128_0_0)))

theorem q1_B : View.canon (kernelRun0_B.sl.HS1_48 c arg5 harg5 arg10 x4) = x4 := by
  have hw := words_B4 c arg5 harg5 x4
  have hp : View.PiecesOf x4 (kernelRun0_B.sl.HS1_48 c arg5 harg5 arg10 x4) :=
    ⟨piece_back arg10 x4 _ hw 3 704 1408 384 rfl rfl inb_S4x768x2x128_S1x64x2x128_3_704_0_0 inb_S1536x512_S128x128_1408_384,
      piece_back arg10 x4 _ hw 2 704 1408 256 rfl rfl inb_S4x768x2x128_S1x64x2x128_2_704_0_0 inb_S1536x512_S128x128_1408_256,
      piece_back arg10 x4 _ hw 1 704 1408 128 rfl rfl inb_S4x768x2x128_S1x64x2x128_1_704_0_0 inb_S1536x512_S128x128_1408_128,
      piece_back arg10 x4 _ hw 0 704 1408 0 rfl rfl inb_S4x768x2x128_S1x64x2x128_0_704_0_0 inb_S1536x512_S128x128_1408_0,
      piece_back arg10 x4 _ hw 3 640 1280 384 rfl rfl inb_S4x768x2x128_S1x64x2x128_3_640_0_0 inb_S1536x512_S128x128_1280_384,
      piece_back arg10 x4 _ hw 2 640 1280 256 rfl rfl inb_S4x768x2x128_S1x64x2x128_2_640_0_0 inb_S1536x512_S128x128_1280_256,
      piece_back arg10 x4 _ hw 1 640 1280 128 rfl rfl inb_S4x768x2x128_S1x64x2x128_1_640_0_0 inb_S1536x512_S128x128_1280_128,
      piece_back arg10 x4 _ hw 0 640 1280 0 rfl rfl inb_S4x768x2x128_S1x64x2x128_0_640_0_0 inb_S1536x512_S128x128_1280_0,
      piece_back arg10 x4 _ hw 3 576 1152 384 rfl rfl inb_S4x768x2x128_S1x64x2x128_3_576_0_0 inb_S1536x512_S128x128_1152_384,
      piece_back arg10 x4 _ hw 2 576 1152 256 rfl rfl inb_S4x768x2x128_S1x64x2x128_2_576_0_0 inb_S1536x512_S128x128_1152_256,
      piece_back arg10 x4 _ hw 1 576 1152 128 rfl rfl inb_S4x768x2x128_S1x64x2x128_1_576_0_0 inb_S1536x512_S128x128_1152_128,
      piece_back arg10 x4 _ hw 0 576 1152 0 rfl rfl inb_S4x768x2x128_S1x64x2x128_0_576_0_0 inb_S1536x512_S128x128_1152_0,
      piece_back arg10 x4 _ hw 3 512 1024 384 rfl rfl inb_S4x768x2x128_S1x64x2x128_3_512_0_0 inb_S1536x512_S128x128_1024_384,
      piece_back arg10 x4 _ hw 2 512 1024 256 rfl rfl inb_S4x768x2x128_S1x64x2x128_2_512_0_0 inb_S1536x512_S128x128_1024_256,
      piece_back arg10 x4 _ hw 1 512 1024 128 rfl rfl inb_S4x768x2x128_S1x64x2x128_1_512_0_0 inb_S1536x512_S128x128_1024_128,
      piece_back arg10 x4 _ hw 0 512 1024 0 rfl rfl inb_S4x768x2x128_S1x64x2x128_0_512_0_0 inb_S1536x512_S128x128_1024_0,
      piece_back arg10 x4 _ hw 3 448 896 384 rfl rfl inb_S4x768x2x128_S1x64x2x128_3_448_0_0 inb_S1536x512_S128x128_896_384,
      piece_back arg10 x4 _ hw 2 448 896 256 rfl rfl inb_S4x768x2x128_S1x64x2x128_2_448_0_0 inb_S1536x512_S128x128_896_256,
      piece_back arg10 x4 _ hw 1 448 896 128 rfl rfl inb_S4x768x2x128_S1x64x2x128_1_448_0_0 inb_S1536x512_S128x128_896_128,
      piece_back arg10 x4 _ hw 0 448 896 0 rfl rfl inb_S4x768x2x128_S1x64x2x128_0_448_0_0 inb_S1536x512_S128x128_896_0,
      piece_back arg10 x4 _ hw 3 384 768 384 rfl rfl inb_S4x768x2x128_S1x64x2x128_3_384_0_0 inb_S1536x512_S128x128_768_384,
      piece_back arg10 x4 _ hw 2 384 768 256 rfl rfl inb_S4x768x2x128_S1x64x2x128_2_384_0_0 inb_S1536x512_S128x128_768_256,
      piece_back arg10 x4 _ hw 1 384 768 128 rfl rfl inb_S4x768x2x128_S1x64x2x128_1_384_0_0 inb_S1536x512_S128x128_768_128,
      piece_back arg10 x4 _ hw 0 384 768 0 rfl rfl inb_S4x768x2x128_S1x64x2x128_0_384_0_0 inb_S1536x512_S128x128_768_0,
      piece_back arg10 x4 _ hw 3 320 640 384 rfl rfl inb_S4x768x2x128_S1x64x2x128_3_320_0_0 inb_S1536x512_S128x128_640_384,
      piece_back arg10 x4 _ hw 2 320 640 256 rfl rfl inb_S4x768x2x128_S1x64x2x128_2_320_0_0 inb_S1536x512_S128x128_640_256,
      piece_back arg10 x4 _ hw 1 320 640 128 rfl rfl inb_S4x768x2x128_S1x64x2x128_1_320_0_0 inb_S1536x512_S128x128_640_128,
      piece_back arg10 x4 _ hw 0 320 640 0 rfl rfl inb_S4x768x2x128_S1x64x2x128_0_320_0_0 inb_S1536x512_S128x128_640_0,
      piece_back arg10 x4 _ hw 3 256 512 384 rfl rfl inb_S4x768x2x128_S1x64x2x128_3_256_0_0 inb_S1536x512_S128x128_512_384,
      piece_back arg10 x4 _ hw 2 256 512 256 rfl rfl inb_S4x768x2x128_S1x64x2x128_2_256_0_0 inb_S1536x512_S128x128_512_256,
      piece_back arg10 x4 _ hw 1 256 512 128 rfl rfl inb_S4x768x2x128_S1x64x2x128_1_256_0_0 inb_S1536x512_S128x128_512_128,
      piece_back arg10 x4 _ hw 0 256 512 0 rfl rfl inb_S4x768x2x128_S1x64x2x128_0_256_0_0 inb_S1536x512_S128x128_512_0,
      piece_back arg10 x4 _ hw 3 192 384 384 rfl rfl inb_S4x768x2x128_S1x64x2x128_3_192_0_0 inb_S1536x512_S128x128_384_384,
      piece_back arg10 x4 _ hw 2 192 384 256 rfl rfl inb_S4x768x2x128_S1x64x2x128_2_192_0_0 inb_S1536x512_S128x128_384_256,
      piece_back arg10 x4 _ hw 1 192 384 128 rfl rfl inb_S4x768x2x128_S1x64x2x128_1_192_0_0 inb_S1536x512_S128x128_384_128,
      piece_back arg10 x4 _ hw 0 192 384 0 rfl rfl inb_S4x768x2x128_S1x64x2x128_0_192_0_0 inb_S1536x512_S128x128_384_0,
      piece_back arg10 x4 _ hw 3 128 256 384 rfl rfl inb_S4x768x2x128_S1x64x2x128_3_128_0_0 inb_S1536x512_S128x128_256_384,
      piece_back arg10 x4 _ hw 2 128 256 256 rfl rfl inb_S4x768x2x128_S1x64x2x128_2_128_0_0 inb_S1536x512_S128x128_256_256,
      piece_back arg10 x4 _ hw 1 128 256 128 rfl rfl inb_S4x768x2x128_S1x64x2x128_1_128_0_0 inb_S1536x512_S128x128_256_128,
      piece_back arg10 x4 _ hw 0 128 256 0 rfl rfl inb_S4x768x2x128_S1x64x2x128_0_128_0_0 inb_S1536x512_S128x128_256_0,
      piece_back arg10 x4 _ hw 3 64 128 384 rfl rfl inb_S4x768x2x128_S1x64x2x128_3_64_0_0 inb_S1536x512_S128x128_128_384,
      piece_back arg10 x4 _ hw 2 64 128 256 rfl rfl inb_S4x768x2x128_S1x64x2x128_2_64_0_0 inb_S1536x512_S128x128_128_256,
      piece_back arg10 x4 _ hw 1 64 128 128 rfl rfl inb_S4x768x2x128_S1x64x2x128_1_64_0_0 inb_S1536x512_S128x128_128_128,
      piece_back arg10 x4 _ hw 0 64 128 0 rfl rfl inb_S4x768x2x128_S1x64x2x128_0_64_0_0 inb_S1536x512_S128x128_128_0,
      piece_back arg10 x4 _ hw 3 0 0 384 rfl rfl inb_S4x768x2x128_S1x64x2x128_3_0_0_0 inb_S1536x512_S128x128_0_384,
      piece_back arg10 x4 _ hw 2 0 0 256 rfl rfl inb_S4x768x2x128_S1x64x2x128_2_0_0_0 inb_S1536x512_S128x128_0_256,
      piece_back arg10 x4 _ hw 1 0 0 128 rfl rfl inb_S4x768x2x128_S1x64x2x128_1_0_0_0 inb_S1536x512_S128x128_0_128,
      piece_back arg10 x4 _ hw 0 0 0 0 rfl rfl inb_S4x768x2x128_S1x64x2x128_0_0_0_0 inb_S1536x512_S128x128_0_0, trivial⟩
  funext y
  refine View.canon_apply_of_pieces x4 _ hp.mem y (View.cover_of_tiledL (s := S1536x512) _ S128x128.size ?_ y)
  sl_kernel_rfl

theorem q1_A : View.canon (kernelRun0_A.sl.HS1_48 c arg4 harg4 arg5 harg5 arg10 x3 x4) = x4 := by
  have hw := words_A8 c arg4 harg4 arg5 harg5 x3 x4
  have hp : View.PiecesOf x4 (kernelRun0_A.sl.HS1_48 c arg4 harg4 arg5 harg5 arg10 x3 x4) :=
    ⟨piece_back arg10 x4 _ hw 3 704 1408 384 rfl rfl inb_S4x768x2x128_S1x64x2x128_3_704_0_0 inb_S1536x512_S128x128_1408_384,
      piece_back arg10 x4 _ hw 2 704 1408 256 rfl rfl inb_S4x768x2x128_S1x64x2x128_2_704_0_0 inb_S1536x512_S128x128_1408_256,
      piece_back arg10 x4 _ hw 1 704 1408 128 rfl rfl inb_S4x768x2x128_S1x64x2x128_1_704_0_0 inb_S1536x512_S128x128_1408_128,
      piece_back arg10 x4 _ hw 0 704 1408 0 rfl rfl inb_S4x768x2x128_S1x64x2x128_0_704_0_0 inb_S1536x512_S128x128_1408_0,
      piece_back arg10 x4 _ hw 3 640 1280 384 rfl rfl inb_S4x768x2x128_S1x64x2x128_3_640_0_0 inb_S1536x512_S128x128_1280_384,
      piece_back arg10 x4 _ hw 2 640 1280 256 rfl rfl inb_S4x768x2x128_S1x64x2x128_2_640_0_0 inb_S1536x512_S128x128_1280_256,
      piece_back arg10 x4 _ hw 1 640 1280 128 rfl rfl inb_S4x768x2x128_S1x64x2x128_1_640_0_0 inb_S1536x512_S128x128_1280_128,
      piece_back arg10 x4 _ hw 0 640 1280 0 rfl rfl inb_S4x768x2x128_S1x64x2x128_0_640_0_0 inb_S1536x512_S128x128_1280_0,
      piece_back arg10 x4 _ hw 3 576 1152 384 rfl rfl inb_S4x768x2x128_S1x64x2x128_3_576_0_0 inb_S1536x512_S128x128_1152_384,
      piece_back arg10 x4 _ hw 2 576 1152 256 rfl rfl inb_S4x768x2x128_S1x64x2x128_2_576_0_0 inb_S1536x512_S128x128_1152_256,
      piece_back arg10 x4 _ hw 1 576 1152 128 rfl rfl inb_S4x768x2x128_S1x64x2x128_1_576_0_0 inb_S1536x512_S128x128_1152_128,
      piece_back arg10 x4 _ hw 0 576 1152 0 rfl rfl inb_S4x768x2x128_S1x64x2x128_0_576_0_0 inb_S1536x512_S128x128_1152_0,
      piece_back arg10 x4 _ hw 3 512 1024 384 rfl rfl inb_S4x768x2x128_S1x64x2x128_3_512_0_0 inb_S1536x512_S128x128_1024_384,
      piece_back arg10 x4 _ hw 2 512 1024 256 rfl rfl inb_S4x768x2x128_S1x64x2x128_2_512_0_0 inb_S1536x512_S128x128_1024_256,
      piece_back arg10 x4 _ hw 1 512 1024 128 rfl rfl inb_S4x768x2x128_S1x64x2x128_1_512_0_0 inb_S1536x512_S128x128_1024_128,
      piece_back arg10 x4 _ hw 0 512 1024 0 rfl rfl inb_S4x768x2x128_S1x64x2x128_0_512_0_0 inb_S1536x512_S128x128_1024_0,
      piece_back arg10 x4 _ hw 3 448 896 384 rfl rfl inb_S4x768x2x128_S1x64x2x128_3_448_0_0 inb_S1536x512_S128x128_896_384,
      piece_back arg10 x4 _ hw 2 448 896 256 rfl rfl inb_S4x768x2x128_S1x64x2x128_2_448_0_0 inb_S1536x512_S128x128_896_256,
      piece_back arg10 x4 _ hw 1 448 896 128 rfl rfl inb_S4x768x2x128_S1x64x2x128_1_448_0_0 inb_S1536x512_S128x128_896_128,
      piece_back arg10 x4 _ hw 0 448 896 0 rfl rfl inb_S4x768x2x128_S1x64x2x128_0_448_0_0 inb_S1536x512_S128x128_896_0,
      piece_back arg10 x4 _ hw 3 384 768 384 rfl rfl inb_S4x768x2x128_S1x64x2x128_3_384_0_0 inb_S1536x512_S128x128_768_384,
      piece_back arg10 x4 _ hw 2 384 768 256 rfl rfl inb_S4x768x2x128_S1x64x2x128_2_384_0_0 inb_S1536x512_S128x128_768_256,
      piece_back arg10 x4 _ hw 1 384 768 128 rfl rfl inb_S4x768x2x128_S1x64x2x128_1_384_0_0 inb_S1536x512_S128x128_768_128,
      piece_back arg10 x4 _ hw 0 384 768 0 rfl rfl inb_S4x768x2x128_S1x64x2x128_0_384_0_0 inb_S1536x512_S128x128_768_0,
      piece_back arg10 x4 _ hw 3 320 640 384 rfl rfl inb_S4x768x2x128_S1x64x2x128_3_320_0_0 inb_S1536x512_S128x128_640_384,
      piece_back arg10 x4 _ hw 2 320 640 256 rfl rfl inb_S4x768x2x128_S1x64x2x128_2_320_0_0 inb_S1536x512_S128x128_640_256,
      piece_back arg10 x4 _ hw 1 320 640 128 rfl rfl inb_S4x768x2x128_S1x64x2x128_1_320_0_0 inb_S1536x512_S128x128_640_128,
      piece_back arg10 x4 _ hw 0 320 640 0 rfl rfl inb_S4x768x2x128_S1x64x2x128_0_320_0_0 inb_S1536x512_S128x128_640_0,
      piece_back arg10 x4 _ hw 3 256 512 384 rfl rfl inb_S4x768x2x128_S1x64x2x128_3_256_0_0 inb_S1536x512_S128x128_512_384,
      piece_back arg10 x4 _ hw 2 256 512 256 rfl rfl inb_S4x768x2x128_S1x64x2x128_2_256_0_0 inb_S1536x512_S128x128_512_256,
      piece_back arg10 x4 _ hw 1 256 512 128 rfl rfl inb_S4x768x2x128_S1x64x2x128_1_256_0_0 inb_S1536x512_S128x128_512_128,
      piece_back arg10 x4 _ hw 0 256 512 0 rfl rfl inb_S4x768x2x128_S1x64x2x128_0_256_0_0 inb_S1536x512_S128x128_512_0,
      piece_back arg10 x4 _ hw 3 192 384 384 rfl rfl inb_S4x768x2x128_S1x64x2x128_3_192_0_0 inb_S1536x512_S128x128_384_384,
      piece_back arg10 x4 _ hw 2 192 384 256 rfl rfl inb_S4x768x2x128_S1x64x2x128_2_192_0_0 inb_S1536x512_S128x128_384_256,
      piece_back arg10 x4 _ hw 1 192 384 128 rfl rfl inb_S4x768x2x128_S1x64x2x128_1_192_0_0 inb_S1536x512_S128x128_384_128,
      piece_back arg10 x4 _ hw 0 192 384 0 rfl rfl inb_S4x768x2x128_S1x64x2x128_0_192_0_0 inb_S1536x512_S128x128_384_0,
      piece_back arg10 x4 _ hw 3 128 256 384 rfl rfl inb_S4x768x2x128_S1x64x2x128_3_128_0_0 inb_S1536x512_S128x128_256_384,
      piece_back arg10 x4 _ hw 2 128 256 256 rfl rfl inb_S4x768x2x128_S1x64x2x128_2_128_0_0 inb_S1536x512_S128x128_256_256,
      piece_back arg10 x4 _ hw 1 128 256 128 rfl rfl inb_S4x768x2x128_S1x64x2x128_1_128_0_0 inb_S1536x512_S128x128_256_128,
      piece_back arg10 x4 _ hw 0 128 256 0 rfl rfl inb_S4x768x2x128_S1x64x2x128_0_128_0_0 inb_S1536x512_S128x128_256_0,
      piece_back arg10 x4 _ hw 3 64 128 384 rfl rfl inb_S4x768x2x128_S1x64x2x128_3_64_0_0 inb_S1536x512_S128x128_128_384,
      piece_back arg10 x4 _ hw 2 64 128 256 rfl rfl inb_S4x768x2x128_S1x64x2x128_2_64_0_0 inb_S1536x512_S128x128_128_256,
      piece_back arg10 x4 _ hw 1 64 128 128 rfl rfl inb_S4x768x2x128_S1x64x2x128_1_64_0_0 inb_S1536x512_S128x128_128_128,
      piece_back arg10 x4 _ hw 0 64 128 0 rfl rfl inb_S4x768x2x128_S1x64x2x128_0_64_0_0 inb_S1536x512_S128x128_128_0,
      piece_back arg10 x4 _ hw 3 0 0 384 rfl rfl inb_S4x768x2x128_S1x64x2x128_3_0_0_0 inb_S1536x512_S128x128_0_384,
      piece_back arg10 x4 _ hw 2 0 0 256 rfl rfl inb_S4x768x2x128_S1x64x2x128_2_0_0_0 inb_S1536x512_S128x128_0_256,
      piece_back arg10 x4 _ hw 1 0 0 128 rfl rfl inb_S4x768x2x128_S1x64x2x128_1_0_0_0 inb_S1536x512_S128x128_0_128,
      piece_back arg10 x4 _ hw 0 0 0 0 rfl rfl inb_S4x768x2x128_S1x64x2x128_0_0_0_0 inb_S1536x512_S128x128_0_0, trivial⟩
  funext y
  refine View.canon_apply_of_pieces x4 _ hp.mem y (View.cover_of_tiledL (s := S1536x512) _ S128x128.size ?_ y)
  sl_kernel_rfl

end Cert.KernelIdeal.Val

end

end
-- ==== Proof.Carried.lean ====
module

public import proofs.«01_k».proof.Proof.Gen.KernelIdeal.Frame
public import Idealize.ShloMosaic.Lib.Pipeline.Value
public import Idealize.ShloMosaic.Lib.Pipeline.CanonAppend
public import Idealize.ShloMosaic.Lib.Tactic
public import proofs.«01_k».proof.Proof.Copies

@[expose] public section

set_option maxRecDepth 16384

noncomputable section

namespace Cert.KernelIdeal.Val

open Cert.KernelIdeal Cert.KernelIdeal.Gen Idealize.ShloMosaic Idealize.ShloMosaic.TcCoe Idealize.SL.Sem

variable {F : FTy → Type} [FloatOps F]

variable (c : Dev nD) (i : grid0.Coords) (arg1 : Memref sig .tc .smem S1 .f32) (harg1 : arg1.IsWhole) (arg2 : Memref sig .tc .smem S1 .f32) (harg2 : arg2.IsWhole)
  (arg3 : Memref sig .tc .vmem S4096x1536 .bf16) (harg3 : arg3.IsWhole) (arg4 : Memref sig .tc .vmem S1536x512 .bf16) (harg4 : arg4.IsWhole)
  (arg5 : Memref sig .tc .vmem S1536x512 .bf16) (harg5 : arg5.IsWhole) (arg6 : Memref sig .tc .vmem S1536x512 .bf16) (harg6 : arg6.IsWhole)
  (arg7 : Memref sig .tc .vmem S4096x1024 .f32) (harg7 : arg7.IsWhole) (arg8 : Memref sig .tc .vmem S1536x512 .bf16) (harg8 : arg8.IsWhole)
  (arg9 : Memref sig .tc .vmem S1536x512 .bf16) (harg9 : arg9.IsWhole) (arg10 : Memref sig .tc .vmem S4x768x2x128 .bf16) (harg10 : arg10.IsWhole)
  (hc0 : k0_cond1 i = 1#1) (x3 x4 x5 : Vec F S1536x512 .bf16)

theorem off1 : ∀ k : Fin k0_t1_loop.trips, k0_off1 k = ![0, 64 * k.val, 0, 0] := by decide +kernel
theorem off2 : ∀ k : Fin k0_t1_loop.trips, k0_off2 k = ![128 * k.val, 0] := by decide +kernel
theorem off3 : ∀ k : Fin k0_t1_loop.trips, k0_off3 k = ![1, 64 * k.val, 0, 0] := by decide +kernel
theorem off4 : ∀ k : Fin k0_t1_loop.trips, k0_off4 k = ![128 * k.val, 128] := by decide +kernel
theorem off5 : ∀ k : Fin k0_t1_loop.trips, k0_off5 k = ![2, 64 * k.val, 0, 0] := by decide +kernel
theorem off6 : ∀ k : Fin k0_t1_loop.trips, k0_off6 k = ![128 * k.val, 256] := by decide +kernel
theorem off7 : ∀ k : Fin k0_t1_loop.trips, k0_off7 k = ![3, 64 * k.val, 0, 0] := by decide +kernel
theorem off8 : ∀ k : Fin k0_t1_loop.trips, k0_off8 k = ![128 * k.val, 384] := by decide +kernel

/-- A unit read back in the loop, where the offsets are functions of the trip. -/
theorem piece_trip (D : Vec F S1536x512 .bf16) (L : List (View.Piece (Elt F) S4x768x2x128 .bf16)) (hL : View.canon L = W D) (l k q : ℕ) (hq : q = 128 * l)
    (o : Fin 4 → ℕ) (p : Fin 2 → ℕ) (ho : o = ![l, 64 * k, 0, 0]) (hp : p = ![128 * k, q])
    (ib : ∀ a, o a + S1x64x2x128.size a ≤ S4x768x2x128.size a) (ib' : ∀ a, p a + S128x128.size a ≤ S1536x512.size a) (x : S128x128.Idx) :
    k0_pay1 (View.readAt (Elt F) arg10.view (Rect.unit (s := S4x768x2x128) o S1x64x2x128.size ib).toLoadRect
        (arg10.view.writes (Elt F) arg10.view.junk L)) x
      = D ((Rect.unit (s := S1536x512) p S128x128.size ib').emb x) := by
  subst ho hp
  refine piece_load D _ l (64 * k) (128 * k) q (by omega) hq ib ib' (fun j => ?_) x
  rw [View.readAt_writes_junk_eq_canon, hL]; rfl

/-- The four stores of a trip. -/
theorem trip_eq (X : BufTy.Contents (Elt F) arg10.view.ty) (k : Fin k0_t1_loop.trips) :
    tripL_k0_t1 Variants.none c none i arg1 harg1 arg2 harg2 arg3 harg3 arg4 harg4 arg5 harg5 arg6 harg6 arg7 harg7 arg8 harg8 arg9 harg9 arg10 harg10 hc0 X k = [
      ⟨Rect.unit (s := S1536x512) (k0_off8 k) S128x128.size (k0_off8_inb i k hc0), k0_pay13 (View.readAt (Elt F) arg10.view (Rect.unit (s := S4x768x2x128) (k0_off7 k) S1x64x2x128.size (k0_off7_inb i k hc0)).toLoadRect X)⟩,
      ⟨Rect.unit (s := S1536x512) (k0_off6 k) S128x128.size (k0_off6_inb i k hc0), k0_pay1 (View.readAt (Elt F) arg10.view (Rect.unit (s := S4x768x2x128) (k0_off5 k) S1x64x2x128.size (k0_off5_inb i k hc0)).toLoadRect X)⟩,
      ⟨Rect.unit (s := S1536x512) (k0_off4 k) S128x128.size (k0_off4_inb i k hc0), k0_pay3 (View.readAt (Elt F) arg10.view (Rect.unit (s := S4x768x2x128) (k0_off3 k) S1x64x2x128.size (k0_off3_inb i k hc0)).toLoadRect X)⟩,
      ⟨Rect.unit (s := S1536x512) (k0_off2 k) S128x128.size (k0_off2_inb i k hc0), k0_pay2 (View.readAt (Elt F) arg10.view (Rect.unit (s := S4x768x2x128) (k0_off1 k) S1x64x2x128.size (k0_off1_inb i k hc0)).toLoadRect X)⟩] := by
  unfold tripL_k0_t1 trip_k0_t1
  rfl

/-- The trips before `n` hold blocks of the tile and cover its first `128 n` rows. -/
theorem loop_pieces (D : Vec F S1536x512 .bf16) (L : List (View.Piece (Elt F) S4x768x2x128 .bf16)) (hL : View.canon L = W D) (n : ℕ) (hn : n ≤ k0_t1_loop.trips) :
    (∀ p ∈ pb_k0_t1 (F := F) Variants.none c none i arg1 harg1 arg2 harg2 arg3 harg3 arg4 harg4 arg5 harg5 arg6 harg6 arg7 harg7 arg8 harg8 arg9 harg9 arg10 harg10 hc0 (arg10.view.writes (Elt F) arg10.view.junk L) n, ∀ x : p.1.shape.Idx, p.2 x = D (p.1.emb x))
    ∧ ∀ y : S1536x512.Idx, (y 0).val < 128 * n → ∃ p ∈ pb_k0_t1 (F := F) Variants.none c none i arg1 harg1 arg2 harg2 arg3 harg3 arg4 harg4 arg5 harg5 arg6 harg6 arg7 harg7 arg8 harg8 arg9 harg9 arg10 harg10 hc0 (arg10.view.writes (Elt F) arg10.view.junk L) n, y ∈ p.1.set := by
  induction n with
  | zero => exact ⟨fun p hp => absurd hp List.not_mem_nil, fun y hy => absurd hy (Nat.not_lt_zero _)⟩
  | succ n ih =>
    obtain ⟨ih1, ih2⟩ := ih (Nat.le_of_succ_le hn)
    have e := pb_k0_t1_succ (F := F) Variants.none c none i arg1 harg1 arg2 harg2 arg3 harg3 arg4 harg4 arg5 harg5 arg6 harg6 arg7 harg7 arg8 harg8 arg9 harg9 arg10 harg10 hc0 (arg10.view.writes (Elt F) arg10.view.junk L) ⟨n, hn⟩
    simp only at e
    rw [e, trip_eq]
    have hp : View.PiecesOf D [
      ⟨Rect.unit (s := S1536x512) (k0_off8 ⟨n, hn⟩) S128x128.size (k0_off8_inb i ⟨n, hn⟩ hc0), k0_pay13 (View.readAt (Elt F) arg10.view (Rect.unit (s := S4x768x2x128) (k0_off7 ⟨n, hn⟩) S1x64x2x128.size (k0_off7_inb i ⟨n, hn⟩ hc0)).toLoadRect (arg10.view.writes (Elt F) arg10.view.junk L))⟩,
      ⟨Rect.unit (s := S1536x512) (k0_off6 ⟨n, hn⟩) S128x128.size (k0_off6_inb i ⟨n, hn⟩ hc0), k0_pay1 (View.readAt (Elt F) arg10.view (Rect.unit (s := S4x768x2x128) (k0_off5 ⟨n, hn⟩) S1x64x2x128.size (k0_off5_inb i ⟨n, hn⟩ hc0)).toLoadRect (arg10.view.writes (Elt F) arg10.view.junk L))⟩,
      ⟨Rect.unit (s := S1536x512) (k0_off4 ⟨n, hn⟩) S128x128.size (k0_off4_inb i ⟨n, hn⟩ hc0), k0_pay3 (View.readAt (Elt F) arg10.view (Rect.unit (s := S4x768x2x128) (k0_off3 ⟨n, hn⟩) S1x64x2x128.size (k0_off3_inb i ⟨n, hn⟩ hc0)).toLoadRect (arg10.view.writes (Elt F) arg10.view.junk L))⟩,
      ⟨Rect.unit (s := S1536x512) (k0_off2 ⟨n, hn⟩) S128x128.size (k0_off2_inb i ⟨n, hn⟩ hc0), k0_pay2 (View.readAt (Elt F) arg10.view (Rect.unit (s := S4x768x2x128) (k0_off1 ⟨n, hn⟩) S1x64x2x128.size (k0_off1_inb i ⟨n, hn⟩ hc0)).toLoadRect (arg10.view.writes (Elt F) arg10.view.junk L))⟩] :=
      ⟨piece_trip arg10 D L hL 3 n 384 rfl _ _ (off7 _) (off8 _) (k0_off7_inb i _ hc0) (k0_off8_inb i _ hc0), piece_trip arg10 D L hL 2 n 256 rfl _ _ (off5 _) (off6 _) (k0_off5_inb i _ hc0) (k0_off6_inb i _ hc0),
        piece_trip arg10 D L hL 1 n 128 rfl _ _ (off3 _) (off4 _) (k0_off3_inb i _ hc0) (k0_off4_inb i _ hc0), piece_trip arg10 D L hL 0 n 0 rfl _ _ (off1 _) (off2 _) (k0_off1_inb i _ hc0) (k0_off2_inb i _ hc0), trivial⟩
    refine ⟨fun p hp' => ?_, fun y hy => ?_⟩
    · rcases List.mem_append.mp hp' with h | h
      · exact hp.mem p h
      · exact ih1 p h
    · by_cases hlt : (y 0).val < 128 * n
      · obtain ⟨p, hp', hy'⟩ := ih2 y hlt
        exact ⟨p, List.mem_append.mpr (.inr hp'), hy'⟩
      · have h1 : (y 1).val < 512 := (y 1).isLt
        have key : ∀ (o : Fin 2 → ℕ) (q : ℕ) (ho : o = ![128 * n, q]) (ib : ∀ a, o a + S128x128.size a ≤ S1536x512.size a), q ≤ (y 1).val → (y 1).val < q + 128 →
            y ∈ (Rect.unit (s := S1536x512) o S128x128.size ib).set := by
          intro o q ho ib hq1 hq2
          subst ho
          rw [Rect.mem_set_unit]
          intro a
          fin_cases a
          · simp; omega
          · simp; omega
        by_cases c3 : 384 ≤ (y 1).val
        · exact ⟨_, List.mem_append.mpr (.inl (List.mem_cons_self)), key _ 384 (off8 _) (k0_off8_inb i _ hc0) c3 (by omega)⟩
        by_cases c2 : 256 ≤ (y 1).val
        · exact ⟨_, List.mem_append.mpr (.inl (List.mem_cons_of_mem _ List.mem_cons_self)), key _ 256 (off6 _) (k0_off6_inb i _ hc0) c2 (by omega)⟩
        by_cases c1 : 128 ≤ (y 1).val
        · exact ⟨_, List.mem_append.mpr (.inl (List.mem_cons_of_mem _ (List.mem_cons_of_mem _ List.mem_cons_self))), key _ 128 (off4 _) (k0_off4_inb i _ hc0) c1 (by omega)⟩
        · exact ⟨_, List.mem_append.mpr (.inl (List.mem_cons_of_mem _ (List.mem_cons_of_mem _ (List.mem_cons_of_mem _ List.mem_cons_self)))), key _ 0 (off2 _) (k0_off2_inb i _ hc0) (by omega) (by omega)⟩

/-- After the loop the first scratch holds the first tile. -/
theorem q0_loop : View.canon (pb_k0_t1 (F := F) Variants.none c none i arg1 harg1 arg2 harg2 arg3 harg3 arg4 harg4 arg5 harg5 arg6 harg6 arg7 harg7 arg8 harg8 arg9 harg9 arg10 harg10 hc0 (arg10.view.writes (Elt F) arg10.view.junk (kernelRun0_A.sl.HS2_4 c arg4 harg4 x3))
    (Scf.trips k0_t1_loop.lb k0_t1_loop.ub k0_t1_loop.st)) = x3 := by
  have ht : Scf.trips k0_t1_loop.lb k0_t1_loop.ub k0_t1_loop.st = 12 := by decide +kernel
  obtain ⟨h1, h2⟩ := loop_pieces c i arg1 harg1 arg2 harg2 arg3 harg3 arg4 harg4 arg5 harg5 arg6 harg6 arg7 harg7 arg8 harg8 arg9 harg9 arg10 harg10 hc0 x3 _ (words_A4 c arg4 harg4 x3) (Scf.trips k0_t1_loop.lb k0_t1_loop.ub k0_t1_loop.st) (Nat.le_refl _)
  funext y
  refine View.canon_apply_of_pieces x3 _ h1 y (h2 y ?_)
  have h0 : (y 0).val < 1536 := (y 0).isLt
  rw [ht]; omega

variable (x0 x1 : Vec F S1 .f32) (x2 : Vec F S4096x1536 .bf16) (xs0 : Vec F S1536x512 .bf16)

theorem q0_B (hcB : ¬k0_cond1 i = 1#1) : View.canon (kernelRun0_B (F := F) c i arg1 harg1 arg2 harg2 arg3 harg3 arg4 harg4 arg5 harg5 arg6 harg6 arg7 harg7 arg8 harg8 arg9 harg9 arg10 harg10 hcB x0 x1 x2 x3 x4 x5 xs0).2.1 = x5 := by
  have hw := words_B8 c arg5 harg5 arg6 harg6 x4 x5
  have hp : View.PiecesOf x5 (kernelRun0_B (F := F) c i arg1 harg1 arg2 harg2 arg3 harg3 arg4 harg4 arg5 harg5 arg6 harg6 arg7 harg7 arg8 harg8 arg9 harg9 arg10 harg10 hcB x0 x1 x2 x3 x4 x5 xs0).2.1 :=
    ⟨piece_back arg10 x5 _ hw 3 704 1408 384 rfl rfl inb_S4x768x2x128_S1x64x2x128_3_704_0_0 inb_S1536x512_S128x128_1408_384,
      piece_back arg10 x5 _ hw 2 704 1408 256 rfl rfl inb_S4x768x2x128_S1x64x2x128_2_704_0_0 inb_S1536x512_S128x128_1408_256,
      piece_back arg10 x5 _ hw 1 704 1408 128 rfl rfl inb_S4x768x2x128_S1x64x2x128_1_704_0_0 inb_S1536x512_S128x128_1408_128,
      piece_back arg10 x5 _ hw 0 704 1408 0 rfl rfl inb_S4x768x2x128_S1x64x2x128_0_704_0_0 inb_S1536x512_S128x128_1408_0,
      piece_back arg10 x5 _ hw 3 640 1280 384 rfl rfl inb_S4x768x2x128_S1x64x2x128_3_640_0_0 inb_S1536x512_S128x128_1280_384,
      piece_back arg10 x5 _ hw 2 640 1280 256 rfl rfl inb_S4x768x2x128_S1x64x2x128_2_640_0_0 inb_S1536x512_S128x128_1280_256,
      piece_back arg10 x5 _ hw 1 640 1280 128 rfl rfl inb_S4x768x2x128_S1x64x2x128_1_640_0_0 inb_S1536x512_S128x128_1280_128,
      piece_back arg10 x5 _ hw 0 640 1280 0 rfl rfl inb_S4x768x2x128_S1x64x2x128_0_640_0_0 inb_S1536x512_S128x128_1280_0,
      piece_back arg10 x5 _ hw 3 576 1152 384 rfl rfl inb_S4x768x2x128_S1x64x2x128_3_576_0_0 inb_S1536x512_S128x128_1152_384,
      piece_back arg10 x5 _ hw 2 576 1152 256 rfl rfl inb_S4x768x2x128_S1x64x2x128_2_576_0_0 inb_S1536x512_S128x128_1152_256,
      piece_back arg10 x5 _ hw 1 576 1152 128 rfl rfl inb_S4x768x2x128_S1x64x2x128_1_576_0_0 inb_S1536x512_S128x128_1152_128,
      piece_back arg10 x5 _ hw 0 576 1152 0 rfl rfl inb_S4x768x2x128_S1x64x2x128_0_576_0_0 inb_S1536x512_S128x128_1152_0,
      piece_back arg10 x5 _ hw 3 512 1024 384 rfl rfl inb_S4x768x2x128_S1x64x2x128_3_512_0_0 inb_S1536x512_S128x128_1024_384,
      piece_back arg10 x5 _ hw 2 512 1024 256 rfl rfl inb_S4x768x2x128_S1x64x2x128_2_512_0_0 inb_S1536x512_S128x128_1024_256,
      piece_back arg10 x5 _ hw 1 512 1024 128 rfl rfl inb_S4x768x2x128_S1x64x2x128_1_512_0_0 inb_S1536x512_S128x128_1024_128,
      piece_back arg10 x5 _ hw 0 512 1024 0 rfl rfl inb_S4x768x2x128_S1x64x2x128_0_512_0_0 inb_S1536x512_S128x128_1024_0,
      piece_back arg10 x5 _ hw 3 448 896 384 rfl rfl inb_S4x768x2x128_S1x64x2x128_3_448_0_0 inb_S1536x512_S128x128_896_384,
      piece_back arg10 x5 _ hw 2 448 896 256 rfl rfl inb_S4x768x2x128_S1x64x2x128_2_448_0_0 inb_S1536x512_S128x128_896_256,
      piece_back arg10 x5 _ hw 1 448 896 128 rfl rfl inb_S4x768x2x128_S1x64x2x128_1_448_0_0 inb_S1536x512_S128x128_896_128,
      piece_back arg10 x5 _ hw 0 448 896 0 rfl rfl inb_S4x768x2x128_S1x64x2x128_0_448_0_0 inb_S1536x512_S128x128_896_0,
      piece_back arg10 x5 _ hw 3 384 768 384 rfl rfl inb_S4x768x2x128_S1x64x2x128_3_384_0_0 inb_S1536x512_S128x128_768_384,
      piece_back arg10 x5 _ hw 2 384 768 256 rfl rfl inb_S4x768x2x128_S1x64x2x128_2_384_0_0 inb_S1536x512_S128x128_768_256,
      piece_back arg10 x5 _ hw 1 384 768 128 rfl rfl inb_S4x768x2x128_S1x64x2x128_1_384_0_0 inb_S1536x512_S128x128_768_128,
      piece_back arg10 x5 _ hw 0 384 768 0 rfl rfl inb_S4x768x2x128_S1x64x2x128_0_384_0_0 inb_S1536x512_S128x128_768_0,
      piece_back arg10 x5 _ hw 3 320 640 384 rfl rfl inb_S4x768x2x128_S1x64x2x128_3_320_0_0 inb_S1536x512_S128x128_640_384,
      piece_back arg10 x5 _ hw 2 320 640 256 rfl rfl inb_S4x768x2x128_S1x64x2x128_2_320_0_0 inb_S1536x512_S128x128_640_256,
      piece_back arg10 x5 _ hw 1 320 640 128 rfl rfl inb_S4x768x2x128_S1x64x2x128_1_320_0_0 inb_S1536x512_S128x128_640_128,
      piece_back arg10 x5 _ hw 0 320 640 0 rfl rfl inb_S4x768x2x128_S1x64x2x128_0_320_0_0 inb_S1536x512_S128x128_640_0,
      piece_back arg10 x5 _ hw 3 256 512 384 rfl rfl inb_S4x768x2x128_S1x64x2x128_3_256_0_0 inb_S1536x512_S128x128_512_384,
      piece_back arg10 x5 _ hw 2 256 512 256 rfl rfl inb_S4x768x2x128_S1x64x2x128_2_256_0_0 inb_S1536x512_S128x128_512_256,
      piece_back arg10 x5 _ hw 1 256 512 128 rfl rfl inb_S4x768x2x128_S1x64x2x128_1_256_0_0 inb_S1536x512_S128x128_512_128,
      piece_back arg10 x5 _ hw 0 256 512 0 rfl rfl inb_S4x768x2x128_S1x64x2x128_0_256_0_0 inb_S1536x512_S128x128_512_0,
      piece_back arg10 x5 _ hw 3 192 384 384 rfl rfl inb_S4x768x2x128_S1x64x2x128_3_192_0_0 inb_S1536x512_S128x128_384_384,
      piece_back arg10 x5 _ hw 2 192 384 256 rfl rfl inb_S4x768x2x128_S1x64x2x128_2_192_0_0 inb_S1536x512_S128x128_384_256,
      piece_back arg10 x5 _ hw 1 192 384 128 rfl rfl inb_S4x768x2x128_S1x64x2x128_1_192_0_0 inb_S1536x512_S128x128_384_128,
      piece_back arg10 x5 _ hw 0 192 384 0 rfl rfl inb_S4x768x2x128_S1x64x2x128_0_192_0_0 inb_S1536x512_S128x128_384_0,
      piece_back arg10 x5 _ hw 3 128 256 384 rfl rfl inb_S4x768x2x128_S1x64x2x128_3_128_0_0 inb_S1536x512_S128x128_256_384,
      piece_back arg10 x5 _ hw 2 128 256 256 rfl rfl inb_S4x768x2x128_S1x64x2x128_2_128_0_0 inb_S1536x512_S128x128_256_256,
      piece_back arg10 x5 _ hw 1 128 256 128 rfl rfl inb_S4x768x2x128_S1x64x2x128_1_128_0_0 inb_S1536x512_S128x128_256_128,
      piece_back arg10 x5 _ hw 0 128 256 0 rfl rfl inb_S4x768x2x128_S1x64x2x128_0_128_0_0 inb_S1536x512_S128x128_256_0,
      piece_back arg10 x5 _ hw 3 64 128 384 rfl rfl inb_S4x768x2x128_S1x64x2x128_3_64_0_0 inb_S1536x512_S128x128_128_384,
      piece_back arg10 x5 _ hw 2 64 128 256 rfl rfl inb_S4x768x2x128_S1x64x2x128_2_64_0_0 inb_S1536x512_S128x128_128_256,
      piece_back arg10 x5 _ hw 1 64 128 128 rfl rfl inb_S4x768x2x128_S1x64x2x128_1_64_0_0 inb_S1536x512_S128x128_128_128,
      piece_back arg10 x5 _ hw 0 64 128 0 rfl rfl inb_S4x768x2x128_S1x64x2x128_0_64_0_0 inb_S1536x512_S128x128_128_0,
      piece_back arg10 x5 _ hw 3 0 0 384 rfl rfl inb_S4x768x2x128_S1x64x2x128_3_0_0_0 inb_S1536x512_S128x128_0_384,
      piece_back arg10 x5 _ hw 2 0 0 256 rfl rfl inb_S4x768x2x128_S1x64x2x128_2_0_0_0 inb_S1536x512_S128x128_0_256,
      piece_back arg10 x5 _ hw 1 0 0 128 rfl rfl inb_S4x768x2x128_S1x64x2x128_1_0_0_0 inb_S1536x512_S128x128_0_128,
      piece_back arg10 x5 _ hw 0 0 0 0 rfl rfl inb_S4x768x2x128_S1x64x2x128_0_0_0_0 inb_S1536x512_S128x128_0_0, trivial⟩
  funext y
  refine View.canon_apply_of_pieces x5 _ hp.mem y (View.cover_of_tiledL (s := S1536x512) _ S128x128.size ?_ y)
  sl_kernel_rfl

theorem q0_A : View.canon (kernelRun0_A (F := F) c i arg1 harg1 arg2 harg2 arg3 harg3 arg4 harg4 arg5 harg5 arg6 harg6 arg7 harg7 arg8 harg8 arg9 harg9 arg10 harg10 hc0 x0 x1 x2 x3 x4 x5).2.1 = x5 := by
  have hw := words_A12 c arg4 harg4 arg5 harg5 arg6 harg6 x3 x4 x5
  have hp : View.PiecesOf x5 (List.take 48 (kernelRun0_A (F := F) c i arg1 harg1 arg2 harg2 arg3 harg3 arg4 harg4 arg5 harg5 arg6 harg6 arg7 harg7 arg8 harg8 arg9 harg9 arg10 harg10 hc0 x0 x1 x2 x3 x4 x5).2.1) :=
    ⟨piece_back arg10 x5 _ hw 3 704 1408 384 rfl rfl inb_S4x768x2x128_S1x64x2x128_3_704_0_0 inb_S1536x512_S128x128_1408_384,
      piece_back arg10 x5 _ hw 2 704 1408 256 rfl rfl inb_S4x768x2x128_S1x64x2x128_2_704_0_0 inb_S1536x512_S128x128_1408_256,
      piece_back arg10 x5 _ hw 1 704 1408 128 rfl rfl inb_S4x768x2x128_S1x64x2x128_1_704_0_0 inb_S1536x512_S128x128_1408_128,
      piece_back arg10 x5 _ hw 0 704 1408 0 rfl rfl inb_S4x768x2x128_S1x64x2x128_0_704_0_0 inb_S1536x512_S128x128_1408_0,
      piece_back arg10 x5 _ hw 3 640 1280 384 rfl rfl inb_S4x768x2x128_S1x64x2x128_3_640_0_0 inb_S1536x512_S128x128_1280_384,
      piece_back arg10 x5 _ hw 2 640 1280 256 rfl rfl inb_S4x768x2x128_S1x64x2x128_2_640_0_0 inb_S1536x512_S128x128_1280_256,
      piece_back arg10 x5 _ hw 1 640 1280 128 rfl rfl inb_S4x768x2x128_S1x64x2x128_1_640_0_0 inb_S1536x512_S128x128_1280_128,
      piece_back arg10 x5 _ hw 0 640 1280 0 rfl rfl inb_S4x768x2x128_S1x64x2x128_0_640_0_0 inb_S1536x512_S128x128_1280_0,
      piece_back arg10 x5 _ hw 3 576 1152 384 rfl rfl inb_S4x768x2x128_S1x64x2x128_3_576_0_0 inb_S1536x512_S128x128_1152_384,
      piece_back arg10 x5 _ hw 2 576 1152 256 rfl rfl inb_S4x768x2x128_S1x64x2x128_2_576_0_0 inb_S1536x512_S128x128_1152_256,
      piece_back arg10 x5 _ hw 1 576 1152 128 rfl rfl inb_S4x768x2x128_S1x64x2x128_1_576_0_0 inb_S1536x512_S128x128_1152_128,
      piece_back arg10 x5 _ hw 0 576 1152 0 rfl rfl inb_S4x768x2x128_S1x64x2x128_0_576_0_0 inb_S1536x512_S128x128_1152_0,
      piece_back arg10 x5 _ hw 3 512 1024 384 rfl rfl inb_S4x768x2x128_S1x64x2x128_3_512_0_0 inb_S1536x512_S128x128_1024_384,
      piece_back arg10 x5 _ hw 2 512 1024 256 rfl rfl inb_S4x768x2x128_S1x64x2x128_2_512_0_0 inb_S1536x512_S128x128_1024_256,
      piece_back arg10 x5 _ hw 1 512 1024 128 rfl rfl inb_S4x768x2x128_S1x64x2x128_1_512_0_0 inb_S1536x512_S128x128_1024_128,
      piece_back arg10 x5 _ hw 0 512 1024 0 rfl rfl inb_S4x768x2x128_S1x64x2x128_0_512_0_0 inb_S1536x512_S128x128_1024_0,
      piece_back arg10 x5 _ hw 3 448 896 384 rfl rfl inb_S4x768x2x128_S1x64x2x128_3_448_0_0 inb_S1536x512_S128x128_896_384,
      piece_back arg10 x5 _ hw 2 448 896 256 rfl rfl inb_S4x768x2x128_S1x64x2x128_2_448_0_0 inb_S1536x512_S128x128_896_256,
      piece_back arg10 x5 _ hw 1 448 896 128 rfl rfl inb_S4x768x2x128_S1x64x2x128_1_448_0_0 inb_S1536x512_S128x128_896_128,
      piece_back arg10 x5 _ hw 0 448 896 0 rfl rfl inb_S4x768x2x128_S1x64x2x128_0_448_0_0 inb_S1536x512_S128x128_896_0,
      piece_back arg10 x5 _ hw 3 384 768 384 rfl rfl inb_S4x768x2x128_S1x64x2x128_3_384_0_0 inb_S1536x512_S128x128_768_384,
      piece_back arg10 x5 _ hw 2 384 768 256 rfl rfl inb_S4x768x2x128_S1x64x2x128_2_384_0_0 inb_S1536x512_S128x128_768_256,
      piece_back arg10 x5 _ hw 1 384 768 128 rfl rfl inb_S4x768x2x128_S1x64x2x128_1_384_0_0 inb_S1536x512_S128x128_768_128,
      piece_back arg10 x5 _ hw 0 384 768 0 rfl rfl inb_S4x768x2x128_S1x64x2x128_0_384_0_0 inb_S1536x512_S128x128_768_0,
      piece_back arg10 x5 _ hw 3 320 640 384 rfl rfl inb_S4x768x2x128_S1x64x2x128_3_320_0_0 inb_S1536x512_S128x128_640_384,
      piece_back arg10 x5 _ hw 2 320 640 256 rfl rfl inb_S4x768x2x128_S1x64x2x128_2_320_0_0 inb_S1536x512_S128x128_640_256,
      piece_back arg10 x5 _ hw 1 320 640 128 rfl rfl inb_S4x768x2x128_S1x64x2x128_1_320_0_0 inb_S1536x512_S128x128_640_128,
      piece_back arg10 x5 _ hw 0 320 640 0 rfl rfl inb_S4x768x2x128_S1x64x2x128_0_320_0_0 inb_S1536x512_S128x128_640_0,
      piece_back arg10 x5 _ hw 3 256 512 384 rfl rfl inb_S4x768x2x128_S1x64x2x128_3_256_0_0 inb_S1536x512_S128x128_512_384,
      piece_back arg10 x5 _ hw 2 256 512 256 rfl rfl inb_S4x768x2x128_S1x64x2x128_2_256_0_0 inb_S1536x512_S128x128_512_256,
      piece_back arg10 x5 _ hw 1 256 512 128 rfl rfl inb_S4x768x2x128_S1x64x2x128_1_256_0_0 inb_S1536x512_S128x128_512_128,
      piece_back arg10 x5 _ hw 0 256 512 0 rfl rfl inb_S4x768x2x128_S1x64x2x128_0_256_0_0 inb_S1536x512_S128x128_512_0,
      piece_back arg10 x5 _ hw 3 192 384 384 rfl rfl inb_S4x768x2x128_S1x64x2x128_3_192_0_0 inb_S1536x512_S128x128_384_384,
      piece_back arg10 x5 _ hw 2 192 384 256 rfl rfl inb_S4x768x2x128_S1x64x2x128_2_192_0_0 inb_S1536x512_S128x128_384_256,
      piece_back arg10 x5 _ hw 1 192 384 128 rfl rfl inb_S4x768x2x128_S1x64x2x128_1_192_0_0 inb_S1536x512_S128x128_384_128,
      piece_back arg10 x5 _ hw 0 192 384 0 rfl rfl inb_S4x768x2x128_S1x64x2x128_0_192_0_0 inb_S1536x512_S128x128_384_0,
      piece_back arg10 x5 _ hw 3 128 256 384 rfl rfl inb_S4x768x2x128_S1x64x2x128_3_128_0_0 inb_S1536x512_S128x128_256_384,
      piece_back arg10 x5 _ hw 2 128 256 256 rfl rfl inb_S4x768x2x128_S1x64x2x128_2_128_0_0 inb_S1536x512_S128x128_256_256,
      piece_back arg10 x5 _ hw 1 128 256 128 rfl rfl inb_S4x768x2x128_S1x64x2x128_1_128_0_0 inb_S1536x512_S128x128_256_128,
      piece_back arg10 x5 _ hw 0 128 256 0 rfl rfl inb_S4x768x2x128_S1x64x2x128_0_128_0_0 inb_S1536x512_S128x128_256_0,
      piece_back arg10 x5 _ hw 3 64 128 384 rfl rfl inb_S4x768x2x128_S1x64x2x128_3_64_0_0 inb_S1536x512_S128x128_128_384,
      piece_back arg10 x5 _ hw 2 64 128 256 rfl rfl inb_S4x768x2x128_S1x64x2x128_2_64_0_0 inb_S1536x512_S128x128_128_256,
      piece_back arg10 x5 _ hw 1 64 128 128 rfl rfl inb_S4x768x2x128_S1x64x2x128_1_64_0_0 inb_S1536x512_S128x128_128_128,
      piece_back arg10 x5 _ hw 0 64 128 0 rfl rfl inb_S4x768x2x128_S1x64x2x128_0_64_0_0 inb_S1536x512_S128x128_128_0,
      piece_back arg10 x5 _ hw 3 0 0 384 rfl rfl inb_S4x768x2x128_S1x64x2x128_3_0_0_0 inb_S1536x512_S128x128_0_384,
      piece_back arg10 x5 _ hw 2 0 0 256 rfl rfl inb_S4x768x2x128_S1x64x2x128_2_0_0_0 inb_S1536x512_S128x128_0_256,
      piece_back arg10 x5 _ hw 1 0 0 128 rfl rfl inb_S4x768x2x128_S1x64x2x128_1_0_0_0 inb_S1536x512_S128x128_0_128,
      piece_back arg10 x5 _ hw 0 0 0 0 rfl rfl inb_S4x768x2x128_S1x64x2x128_0_0_0_0 inb_S1536x512_S128x128_0_0, trivial⟩
  funext y
  rw [← List.take_append_drop 48 (kernelRun0_A (F := F) c i arg1 harg1 arg2 harg2 arg3 harg3 arg4 harg4 arg5 harg5 arg6 harg6 arg7 harg7 arg8 harg8 arg9 harg9 arg10 harg10 hc0 x0 x1 x2 x3 x4 x5).2.1]
  refine View.canon_append_of_piecesOf x5 _ _ hp y (View.cover_of_tiledL (s := S1536x512) _ S128x128.size ?_ y)
  sl_kernel_rfl

end Cert.KernelIdeal.Val

end

end
-- ==== Proof.Point.lean ====
module

public import proofs.«01_k».proof.Proof.Gen.KernelIdeal.Frame
public import Idealize.ShloMosaic.Lib.Pipeline.Value
public import Idealize.ShloMosaic.Lib.Pipeline.CanonAppend
public import Idealize.ShloMosaic.Lib.Tactic
public import proofs.«01_k».proof.Proof.Carried
public import Idealize.ShloMosaic.Lib.Pointwise

@[expose] public section

set_option maxRecDepth 16384

noncomputable section

namespace Cert.KernelIdeal.Val

open Cert.KernelIdeal Cert.KernelIdeal.Gen Idealize.ShloMosaic Idealize.ShloMosaic.TcCoe Idealize.SL.Sem

variable (c : Dev nD) (i : grid0.Coords) (arg1 : Memref sig .tc .smem S1 .f32) (harg1 : arg1.IsWhole) (arg2 : Memref sig .tc .smem S1 .f32) (harg2 : arg2.IsWhole)
  (arg3 : Memref sig .tc .vmem S4096x1536 .bf16) (harg3 : arg3.IsWhole) (arg4 : Memref sig .tc .vmem S1536x512 .bf16) (harg4 : arg4.IsWhole)
  (arg5 : Memref sig .tc .vmem S1536x512 .bf16) (harg5 : arg5.IsWhole) (arg6 : Memref sig .tc .vmem S1536x512 .bf16) (harg6 : arg6.IsWhole)
  (arg7 : Memref sig .tc .vmem S4096x1024 .f32) (harg7 : arg7.IsWhole) (arg8 : Memref sig .tc .vmem S1536x512 .bf16) (harg8 : arg8.IsWhole)
  (arg9 : Memref sig .tc .vmem S1536x512 .bf16) (harg9 : arg9.IsWhole) (arg10 : Memref sig .tc .vmem S4x768x2x128 .bf16) (harg10 : arg10.IsWhole)
  (x0 x1 : Vec Ideal S1 .f32) (x2 : Vec Ideal S4096x1536 .bf16) (x3 x4 x5 xs0 : Vec Ideal S1536x512 .bf16)

/-- One point's output block: the scaled product of the left operand with two tiles side by side. -/
def tile (s : Ideal .f32) (X : Vec Ideal S4096x1536 .bf16) (Q0 Q1 : Vec Ideal S1536x512 .bf16) : Vec Ideal S4096x1024 .f32 := fun y =>
  s * ∑ k : Fin 1536, X (ix2 (y 0) k) * (if h : (y 1).val < 512 then Q0 (ix2 k ⟨(y 1).val, h⟩)
    else Q1 (ix2 k ⟨(y 1).val - 512, by have h1 : (y 1).val < 1024 := (y 1).isLt; omega⟩))

/-- One scaled product of a block of rows at a position. -/
theorem dot_apply (s : Ideal .f32) (A : Vec Ideal S512x1536 .bf16) (B : Vec Ideal S1536x512 .bf16) (x : S512x512.Idx) :
    k0_pay20 s A B x = s * ∑ k : Fin 1536, A (ix2 (x 0) k) * B (ix2 k (x 1)) := by
  pointwise [k0_pay20]

/-- A product over the first tile is the block of `tile` at column 0. -/
theorem piece_first (s : Ideal .f32) (A : Vec Ideal S512x1536 .bf16) (B Q0 Q1 : Vec Ideal S1536x512 .bf16) (r : ℕ)
    (ib : ∀ a, ![r, 0] a + S512x1536.size a ≤ S4096x1536.size a) (ib' : ∀ a, ![r, 0] a + S512x512.size a ≤ S4096x1024.size a)
    (hA : ∀ j, A j = x2 ((Rect.unit (s := S4096x1536) ![r, 0] S512x1536.size ib).emb j)) (hB : B = Q0) (x : S512x512.Idx) :
    k0_pay20 s A B x = tile s x2 Q0 Q1 ((Rect.unit (s := S4096x1024) ![r, 0] S512x512.size ib').emb x) := by
  subst hB
  rw [dot_apply]; unfold tile
  have h1 : (x 1).val < 512 := (x 1).isLt
  congr 1
  refine Finset.sum_congr rfl fun k _ => ?_
  rw [hA]
  rw [dif_pos (by simpa [Rect.emb, Rect.unit] using h1)]
  congr 2
  · funext a; apply Fin.ext; fin_cases a <;> simp [Rect.emb, Rect.unit, ix2]
  · funext a; apply Fin.ext; fin_cases a <;> simp [Rect.emb, Rect.unit, ix2]

/-- A product over the second tile is the block of `tile` at column 512. -/
theorem piece_second (s : Ideal .f32) (A : Vec Ideal S512x1536 .bf16) (B Q0 Q1 : Vec Ideal S1536x512 .bf16) (r : ℕ)
    (ib : ∀ a, ![r, 0] a + S512x1536.size a ≤ S4096x1536.size a) (ib' : ∀ a, ![r, 512] a + S512x512.size a ≤ S4096x1024.size a)
    (hA : ∀ j, A j = x2 ((Rect.unit (s := S4096x1536) ![r, 0] S512x1536.size ib).emb j)) (hB : B = Q1) (x : S512x512.Idx) :
    k0_pay20 s A B x = tile s x2 Q0 Q1 ((Rect.unit (s := S4096x1024) ![r, 512] S512x512.size ib').emb x) := by
  subst hB
  rw [dot_apply]; unfold tile
  congr 1
  refine Finset.sum_congr rfl fun k _ => ?_
  rw [hA]
  rw [dif_neg (by simp [Rect.emb, Rect.unit])]
  congr 2
  · funext a; apply Fin.ext; fin_cases a <;> simp [Rect.emb, Rect.unit, ix2]
  · funext a; apply Fin.ext; fin_cases a <;> simp [Rect.emb, Rect.unit, ix2]

/-- A load of a block of rows of the left operand at a position. -/
theorem read_rows (r : Rect S4096x1536) (j : r.shape.Idx) : View.readAt (Elt Ideal) arg3.view r.toLoadRect (harg3.unread x2) j = x2 (r.emb j) :=
  congrFun (harg3.read_unread x2) (r.emb j)

theorem one_idx (a b : S1.Idx) : a = b := by
  funext k; apply Fin.ext; fin_cases k
  have ha : (a 0).val < 1 := (a 0).isLt
  have hb : (b 0).val < 1 := (b 0).isLt
  show (a 0).val = (b 0).val
  omega

/-- The scale of a point: the product of the two one-element operands. -/
def scale : Ideal .f32 := x0 (ix1 0) * x1 (ix1 0)

theorem whole_emb (ib : ∀ a, ![0, 0] a + S1536x512.size a ≤ S1536x512.size a) (j : S1536x512.Idx) : (Rect.unit (s := S1536x512) ![0, 0] S1536x512.size ib).emb j = j := by
  funext a; apply Fin.ext; fin_cases a <;> simp [Rect.emb, Rect.unit]

/-- A load of a whole scratch from its stores. -/
theorem back_whole (m : Memref sig .tc .vmem S1536x512 .bf16) (L : List (View.Piece (Elt Ideal) S1536x512 .bf16)) (D : Vec Ideal S1536x512 .bf16) (hL : View.canon L = D)
    (ib : ∀ a, ![0, 0] a + S1536x512.size a ≤ S1536x512.size a) :
    m.view.readCov L (Rect.unit (s := S1536x512) ![0, 0] S1536x512.size ib).toLoadRect = D := by
  rw [View.readCov_eq_canon', hL]
  exact funext fun j => congrArg D (whole_emb ib j)

/-- A load of a whole scratch's contents. -/
theorem read_whole (m : Memref sig .tc .vmem S1536x512 .bf16) (hm : m.IsWhole) (D : Vec Ideal S1536x512 .bf16)
    (ib : ∀ a, ![0, 0] a + S1536x512.size a ≤ S1536x512.size a) :
    View.readAt (Elt Ideal) m.view (Rect.unit (s := S1536x512) ![0, 0] S1536x512.size ib).toLoadRect (hm.unread D) = D :=
  funext fun j => (congrFun (hm.read_unread D) _).trans (congrArg D (whole_emb ib j))

theorem out_B (hc : ¬k0_cond1 i = 1#1) : View.canon (kernelRun0_B (F := Ideal) c i arg1 harg1 arg2 harg2 arg3 harg3 arg4 harg4 arg5 harg5 arg6 harg6 arg7 harg7 arg8 harg8 arg9 harg9 arg10 harg10 hc x0 x1 x2 x3 x4 x5 xs0).1 = tile (scale x0 x1) x2 xs0 x4 := by
  obtain ⟨s, hs⟩ : ∃ s, s = kernelRun0_B.sl.r_2 (F := Ideal) c arg1 harg1 arg2 harg2 x0 x1 := ⟨_, rfl⟩
  have hsc : s = scale x0 x1 := by
    rw [hs]
    have e0 : kernelRun0_B.sl.r_1 (F := Ideal) c arg1 harg1 x0 = x0 (ix1 0) :=
      (congrFun (harg1.read_unread x0) _).trans (congrArg x0 (one_idx _ _))
    have e1 : kernelRun0_B.sl.r (F := Ideal) c arg2 harg2 x1 = x1 (ix1 0) :=
      (congrFun (harg2.read_unread x1) _).trans (congrArg x1 (one_idx _ _))
    show k0_pay10 (kernelRun0_B.sl.r (F := Ideal) c arg2 harg2 x1) (kernelRun0_B.sl.r_1 (F := Ideal) c arg1 harg1 x0) = _
    rw [e0, e1]
    rfl
  have hp : View.PiecesOf (tile s x2 xs0 x4) (kernelRun0_B (F := Ideal) c i arg1 harg1 arg2 harg2 arg3 harg3 arg4 harg4 arg5 harg5 arg6 harg6 arg7 harg7 arg8 harg8 arg9 harg9 arg10 harg10 hc x0 x1 x2 x3 x4 x5 xs0).1 := by
    rw [hs]
    exact ⟨piece_second x2 (kernelRun0_B.sl.r_2 (F := Ideal) c arg1 harg1 arg2 harg2 x0 x1) _ _ xs0 x4 3584 inb_S4096x1536_S512x1536_3584_0 inb_S4096x1024_S512x512_3584_512 (read_rows arg3 harg3 x2 (Rect.unit (s := S4096x1536) ![3584, 0] S512x1536.size inb_S4096x1536_S512x1536_3584_0)) (back_whole arg9 _ x4 (q1_B c arg5 harg5 arg10 x4) _),
      piece_second x2 (kernelRun0_B.sl.r_2 (F := Ideal) c arg1 harg1 arg2 harg2 x0 x1) _ _ xs0 x4 3072 inb_S4096x1536_S512x1536_3072_0 inb_S4096x1024_S512x512_3072_512 (read_rows arg3 harg3 x2 (Rect.unit (s := S4096x1536) ![3072, 0] S512x1536.size inb_S4096x1536_S512x1536_3072_0)) (back_whole arg9 _ x4 (q1_B c arg5 harg5 arg10 x4) _),
      piece_second x2 (kernelRun0_B.sl.r_2 (F := Ideal) c arg1 harg1 arg2 harg2 x0 x1) _ _ xs0 x4 2560 inb_S4096x1536_S512x1536_2560_0 inb_S4096x1024_S512x512_2560_512 (read_rows arg3 harg3 x2 (Rect.unit (s := S4096x1536) ![2560, 0] S512x1536.size inb_S4096x1536_S512x1536_2560_0)) (back_whole arg9 _ x4 (q1_B c arg5 harg5 arg10 x4) _),
      piece_second x2 (kernelRun0_B.sl.r_2 (F := Ideal) c arg1 harg1 arg2 harg2 x0 x1) _ _ xs0 x4 2048 inb_S4096x1536_S512x1536_2048_0 inb_S4096x1024_S512x512_2048_512 (read_rows arg3 harg3 x2 (Rect.unit (s := S4096x1536) ![2048, 0] S512x1536.size inb_S4096x1536_S512x1536_2048_0)) (back_whole arg9 _ x4 (q1_B c arg5 harg5 arg10 x4) _),
      piece_second x2 (kernelRun0_B.sl.r_2 (F := Ideal) c arg1 harg1 arg2 harg2 x0 x1) _ _ xs0 x4 1536 inb_S4096x1536_S512x1536_1536_0 inb_S4096x1024_S512x512_1536_512 (read_rows arg3 harg3 x2 (Rect.unit (s := S4096x1536) ![1536, 0] S512x1536.size inb_S4096x1536_S512x1536_1536_0)) (back_whole arg9 _ x4 (q1_B c arg5 harg5 arg10 x4) _),
      piece_second x2 (kernelRun0_B.sl.r_2 (F := Ideal) c arg1 harg1 arg2 harg2 x0 x1) _ _ xs0 x4 1024 inb_S4096x1536_S512x1536_1024_0 inb_S4096x1024_S512x512_1024_512 (read_rows arg3 harg3 x2 (Rect.unit (s := S4096x1536) ![1024, 0] S512x1536.size inb_S4096x1536_S512x1536_1024_0)) (back_whole arg9 _ x4 (q1_B c arg5 harg5 arg10 x4) _),
      piece_second x2 (kernelRun0_B.sl.r_2 (F := Ideal) c arg1 harg1 arg2 harg2 x0 x1) _ _ xs0 x4 512 inb_S4096x1536_S512x1536_512_0 inb_S4096x1024_S512x512_512_512 (read_rows arg3 harg3 x2 (Rect.unit (s := S4096x1536) ![512, 0] S512x1536.size inb_S4096x1536_S512x1536_512_0)) (back_whole arg9 _ x4 (q1_B c arg5 harg5 arg10 x4) _),
      piece_second x2 (kernelRun0_B.sl.r_2 (F := Ideal) c arg1 harg1 arg2 harg2 x0 x1) _ _ xs0 x4 0 inb_S4096x1536_S512x1536_0_0 inb_S4096x1024_S512x512_0_512 (read_rows arg3 harg3 x2 (Rect.unit (s := S4096x1536) ![0, 0] S512x1536.size inb_S4096x1536_S512x1536_0_0)) (back_whole arg9 _ x4 (q1_B c arg5 harg5 arg10 x4) _),
      piece_first x2 (kernelRun0_B.sl.r_2 (F := Ideal) c arg1 harg1 arg2 harg2 x0 x1) _ _ xs0 x4 3584 inb_S4096x1536_S512x1536_3584_0 inb_S4096x1024_S512x512_3584_0 (read_rows arg3 harg3 x2 (Rect.unit (s := S4096x1536) ![3584, 0] S512x1536.size inb_S4096x1536_S512x1536_3584_0)) (read_whole arg8 harg8 xs0 _),
      piece_first x2 (kernelRun0_B.sl.r_2 (F := Ideal) c arg1 harg1 arg2 harg2 x0 x1) _ _ xs0 x4 3072 inb_S4096x1536_S512x1536_3072_0 inb_S4096x1024_S512x512_3072_0 (read_rows arg3 harg3 x2 (Rect.unit (s := S4096x1536) ![3072, 0] S512x1536.size inb_S4096x1536_S512x1536_3072_0)) (read_whole arg8 harg8 xs0 _),
      piece_first x2 (kernelRun0_B.sl.r_2 (F := Ideal) c arg1 harg1 arg2 harg2 x0 x1) _ _ xs0 x4 2560 inb_S4096x1536_S512x1536_2560_0 inb_S4096x1024_S512x512_2560_0 (read_rows arg3 harg3 x2 (Rect.unit (s := S4096x1536) ![2560, 0] S512x1536.size inb_S4096x1536_S512x1536_2560_0)) (read_whole arg8 harg8 xs0 _),
      piece_first x2 (kernelRun0_B.sl.r_2 (F := Ideal) c arg1 harg1 arg2 harg2 x0 x1) _ _ xs0 x4 2048 inb_S4096x1536_S512x1536_2048_0 inb_S4096x1024_S512x512_2048_0 (read_rows arg3 harg3 x2 (Rect.unit (s := S4096x1536) ![2048, 0] S512x1536.size inb_S4096x1536_S512x1536_2048_0)) (read_whole arg8 harg8 xs0 _),
      piece_first x2 (kernelRun0_B.sl.r_2 (F := Ideal) c arg1 harg1 arg2 harg2 x0 x1) _ _ xs0 x4 1536 inb_S4096x1536_S512x1536_1536_0 inb_S4096x1024_S512x512_1536_0 (read_rows arg3 harg3 x2 (Rect.unit (s := S4096x1536) ![1536, 0] S512x1536.size inb_S4096x1536_S512x1536_1536_0)) (read_whole arg8 harg8 xs0 _),
      piece_first x2 (kernelRun0_B.sl.r_2 (F := Ideal) c arg1 harg1 arg2 harg2 x0 x1) _ _ xs0 x4 1024 inb_S4096x1536_S512x1536_1024_0 inb_S4096x1024_S512x512_1024_0 (read_rows arg3 harg3 x2 (Rect.unit (s := S4096x1536) ![1024, 0] S512x1536.size inb_S4096x1536_S512x1536_1024_0)) (read_whole arg8 harg8 xs0 _),
      piece_first x2 (kernelRun0_B.sl.r_2 (F := Ideal) c arg1 harg1 arg2 harg2 x0 x1) _ _ xs0 x4 512 inb_S4096x1536_S512x1536_512_0 inb_S4096x1024_S512x512_512_0 (read_rows arg3 harg3 x2 (Rect.unit (s := S4096x1536) ![512, 0] S512x1536.size inb_S4096x1536_S512x1536_512_0)) (read_whole arg8 harg8 xs0 _),
      piece_first x2 (kernelRun0_B.sl.r_2 (F := Ideal) c arg1 harg1 arg2 harg2 x0 x1) _ _ xs0 x4 0 inb_S4096x1536_S512x1536_0_0 inb_S4096x1024_S512x512_0_0 (read_rows arg3 harg3 x2 (Rect.unit (s := S4096x1536) ![0, 0] S512x1536.size inb_S4096x1536_S512x1536_0_0)) (read_whole arg8 harg8 xs0 _), trivial⟩
  rw [← hsc]
  funext y
  refine View.canon_apply_of_pieces _ _ hp.mem y (View.cover_of_tiledL (s := S4096x1024) _ S512x512.size ?_ y)
  sl_kernel_rfl

theorem out_A (hc : k0_cond1 i = 1#1) : View.canon (kernelRun0_A (F := Ideal) c i arg1 harg1 arg2 harg2 arg3 harg3 arg4 harg4 arg5 harg5 arg6 harg6 arg7 harg7 arg8 harg8 arg9 harg9 arg10 harg10 hc x0 x1 x2 x3 x4 x5).1 = tile (scale x0 x1) x2 x3 x4 := by
  obtain ⟨s, hs⟩ : ∃ s, s = kernelRun0_A.sl.r_2 (F := Ideal) c arg1 harg1 arg2 harg2 x0 x1 := ⟨_, rfl⟩
  have hsc : s = scale x0 x1 := by
    rw [hs]
    have e0 : kernelRun0_A.sl.r_1 (F := Ideal) c arg1 harg1 x0 = x0 (ix1 0) :=
      (congrFun (harg1.read_unread x0) _).trans (congrArg x0 (one_idx _ _))
    have e1 : kernelRun0_A.sl.r (F := Ideal) c arg2 harg2 x1 = x1 (ix1 0) :=
      (congrFun (harg2.read_unread x1) _).trans (congrArg x1 (one_idx _ _))
    show k0_pay10 (kernelRun0_A.sl.r (F := Ideal) c arg2 harg2 x1) (kernelRun0_A.sl.r_1 (F := Ideal) c arg1 harg1 x0) = _
    rw [e0, e1]
    rfl
  have hp : View.PiecesOf (tile s x2 x3 x4) (kernelRun0_A (F := Ideal) c i arg1 harg1 arg2 harg2 arg3 harg3 arg4 harg4 arg5 harg5 arg6 harg6 arg7 harg7 arg8 harg8 arg9 harg9 arg10 harg10 hc x0 x1 x2 x3 x4 x5).1 := by
    rw [hs]
    exact ⟨piece_second x2 (kernelRun0_A.sl.r_2 (F := Ideal) c arg1 harg1 arg2 harg2 x0 x1) _ _ x3 x4 3584 inb_S4096x1536_S512x1536_3584_0 inb_S4096x1024_S512x512_3584_512 (read_rows arg3 harg3 x2 (Rect.unit (s := S4096x1536) ![3584, 0] S512x1536.size inb_S4096x1536_S512x1536_3584_0)) (back_whole arg9 _ x4 (q1_A c arg4 harg4 arg5 harg5 arg10 x3 x4) _),
      piece_second x2 (kernelRun0_A.sl.r_2 (F := Ideal) c arg1 harg1 arg2 harg2 x0 x1) _ _ x3 x4 3072 inb_S4096x1536_S512x1536_3072_0 inb_S4096x1024_S512x512_3072_512 (read_rows arg3 harg3 x2 (Rect.unit (s := S4096x1536) ![3072, 0] S512x1536.size inb_S4096x1536_S512x1536_3072_0)) (back_whole arg9 _ x4 (q1_A c arg4 harg4 arg5 harg5 arg10 x3 x4) _),
      piece_second x2 (kernelRun0_A.sl.r_2 (F := Ideal) c arg1 harg1 arg2 harg2 x0 x1) _ _ x3 x4 2560 inb_S4096x1536_S512x1536_2560_0 inb_S4096x1024_S512x512_2560_512 (read_rows arg3 harg3 x2 (Rect.unit (s := S4096x1536) ![2560, 0] S512x1536.size inb_S4096x1536_S512x1536_2560_0)) (back_whole arg9 _ x4 (q1_A c arg4 harg4 arg5 harg5 arg10 x3 x4) _),
      piece_second x2 (kernelRun0_A.sl.r_2 (F := Ideal) c arg1 harg1 arg2 harg2 x0 x1) _ _ x3 x4 2048 inb_S4096x1536_S512x1536_2048_0 inb_S4096x1024_S512x512_2048_512 (read_rows arg3 harg3 x2 (Rect.unit (s := S4096x1536) ![2048, 0] S512x1536.size inb_S4096x1536_S512x1536_2048_0)) (back_whole arg9 _ x4 (q1_A c arg4 harg4 arg5 harg5 arg10 x3 x4) _),
      piece_second x2 (kernelRun0_A.sl.r_2 (F := Ideal) c arg1 harg1 arg2 harg2 x0 x1) _ _ x3 x4 1536 inb_S4096x1536_S512x1536_1536_0 inb_S4096x1024_S512x512_1536_512 (read_rows arg3 harg3 x2 (Rect.unit (s := S4096x1536) ![1536, 0] S512x1536.size inb_S4096x1536_S512x1536_1536_0)) (back_whole arg9 _ x4 (q1_A c arg4 harg4 arg5 harg5 arg10 x3 x4) _),
      piece_second x2 (kernelRun0_A.sl.r_2 (F := Ideal) c arg1 harg1 arg2 harg2 x0 x1) _ _ x3 x4 1024 inb_S4096x1536_S512x1536_1024_0 inb_S4096x1024_S512x512_1024_512 (read_rows arg3 harg3 x2 (Rect.unit (s := S4096x1536) ![1024, 0] S512x1536.size inb_S4096x1536_S512x1536_1024_0)) (back_whole arg9 _ x4 (q1_A c arg4 harg4 arg5 harg5 arg10 x3 x4) _),
      piece_second x2 (kernelRun0_A.sl.r_2 (F := Ideal) c arg1 harg1 arg2 harg2 x0 x1) _ _ x3 x4 512 inb_S4096x1536_S512x1536_512_0 inb_S4096x1024_S512x512_512_512 (read_rows arg3 harg3 x2 (Rect.unit (s := S4096x1536) ![512, 0] S512x1536.size inb_S4096x1536_S512x1536_512_0)) (back_whole arg9 _ x4 (q1_A c arg4 harg4 arg5 harg5 arg10 x3 x4) _),
      piece_second x2 (kernelRun0_A.sl.r_2 (F := Ideal) c arg1 harg1 arg2 harg2 x0 x1) _ _ x3 x4 0 inb_S4096x1536_S512x1536_0_0 inb_S4096x1024_S512x512_0_512 (read_rows arg3 harg3 x2 (Rect.unit (s := S4096x1536) ![0, 0] S512x1536.size inb_S4096x1536_S512x1536_0_0)) (back_whole arg9 _ x4 (q1_A c arg4 harg4 arg5 harg5 arg10 x3 x4) _),
      piece_first x2 (kernelRun0_A.sl.r_2 (F := Ideal) c arg1 harg1 arg2 harg2 x0 x1) _ _ x3 x4 3584 inb_S4096x1536_S512x1536_3584_0 inb_S4096x1024_S512x512_3584_0 (read_rows arg3 harg3 x2 (Rect.unit (s := S4096x1536) ![3584, 0] S512x1536.size inb_S4096x1536_S512x1536_3584_0)) (back_whole arg8 _ x3 (q0_loop c i arg1 harg1 arg2 harg2 arg3 harg3 arg4 harg4 arg5 harg5 arg6 harg6 arg7 harg7 arg8 harg8 arg9 harg9 arg10 harg10 hc x3) _),
      piece_first x2 (kernelRun0_A.sl.r_2 (F := Ideal) c arg1 harg1 arg2 harg2 x0 x1) _ _ x3 x4 3072 inb_S4096x1536_S512x1536_3072_0 inb_S4096x1024_S512x512_3072_0 (read_rows arg3 harg3 x2 (Rect.unit (s := S4096x1536) ![3072, 0] S512x1536.size inb_S4096x1536_S512x1536_3072_0)) (back_whole arg8 _ x3 (q0_loop c i arg1 harg1 arg2 harg2 arg3 harg3 arg4 harg4 arg5 harg5 arg6 harg6 arg7 harg7 arg8 harg8 arg9 harg9 arg10 harg10 hc x3) _),
      piece_first x2 (kernelRun0_A.sl.r_2 (F := Ideal) c arg1 harg1 arg2 harg2 x0 x1) _ _ x3 x4 2560 inb_S4096x1536_S512x1536_2560_0 inb_S4096x1024_S512x512_2560_0 (read_rows arg3 harg3 x2 (Rect.unit (s := S4096x1536) ![2560, 0] S512x1536.size inb_S4096x1536_S512x1536_2560_0)) (back_whole arg8 _ x3 (q0_loop c i arg1 harg1 arg2 harg2 arg3 harg3 arg4 harg4 arg5 harg5 arg6 harg6 arg7 harg7 arg8 harg8 arg9 harg9 arg10 harg10 hc x3) _),
      piece_first x2 (kernelRun0_A.sl.r_2 (F := Ideal) c arg1 harg1 arg2 harg2 x0 x1) _ _ x3 x4 2048 inb_S4096x1536_S512x1536_2048_0 inb_S4096x1024_S512x512_2048_0 (read_rows arg3 harg3 x2 (Rect.unit (s := S4096x1536) ![2048, 0] S512x1536.size inb_S4096x1536_S512x1536_2048_0)) (back_whole arg8 _ x3 (q0_loop c i arg1 harg1 arg2 harg2 arg3 harg3 arg4 harg4 arg5 harg5 arg6 harg6 arg7 harg7 arg8 harg8 arg9 harg9 arg10 harg10 hc x3) _),
      piece_first x2 (kernelRun0_A.sl.r_2 (F := Ideal) c arg1 harg1 arg2 harg2 x0 x1) _ _ x3 x4 1536 inb_S4096x1536_S512x1536_1536_0 inb_S4096x1024_S512x512_1536_0 (read_rows arg3 harg3 x2 (Rect.unit (s := S4096x1536) ![1536, 0] S512x1536.size inb_S4096x1536_S512x1536_1536_0)) (back_whole arg8 _ x3 (q0_loop c i arg1 harg1 arg2 harg2 arg3 harg3 arg4 harg4 arg5 harg5 arg6 harg6 arg7 harg7 arg8 harg8 arg9 harg9 arg10 harg10 hc x3) _),
      piece_first x2 (kernelRun0_A.sl.r_2 (F := Ideal) c arg1 harg1 arg2 harg2 x0 x1) _ _ x3 x4 1024 inb_S4096x1536_S512x1536_1024_0 inb_S4096x1024_S512x512_1024_0 (read_rows arg3 harg3 x2 (Rect.unit (s := S4096x1536) ![1024, 0] S512x1536.size inb_S4096x1536_S512x1536_1024_0)) (back_whole arg8 _ x3 (q0_loop c i arg1 harg1 arg2 harg2 arg3 harg3 arg4 harg4 arg5 harg5 arg6 harg6 arg7 harg7 arg8 harg8 arg9 harg9 arg10 harg10 hc x3) _),
      piece_first x2 (kernelRun0_A.sl.r_2 (F := Ideal) c arg1 harg1 arg2 harg2 x0 x1) _ _ x3 x4 512 inb_S4096x1536_S512x1536_512_0 inb_S4096x1024_S512x512_512_0 (read_rows arg3 harg3 x2 (Rect.unit (s := S4096x1536) ![512, 0] S512x1536.size inb_S4096x1536_S512x1536_512_0)) (back_whole arg8 _ x3 (q0_loop c i arg1 harg1 arg2 harg2 arg3 harg3 arg4 harg4 arg5 harg5 arg6 harg6 arg7 harg7 arg8 harg8 arg9 harg9 arg10 harg10 hc x3) _),
      piece_first x2 (kernelRun0_A.sl.r_2 (F := Ideal) c arg1 harg1 arg2 harg2 x0 x1) _ _ x3 x4 0 inb_S4096x1536_S512x1536_0_0 inb_S4096x1024_S512x512_0_0 (read_rows arg3 harg3 x2 (Rect.unit (s := S4096x1536) ![0, 0] S512x1536.size inb_S4096x1536_S512x1536_0_0)) (back_whole arg8 _ x3 (q0_loop c i arg1 harg1 arg2 harg2 arg3 harg3 arg4 harg4 arg5 harg5 arg6 harg6 arg7 harg7 arg8 harg8 arg9 harg9 arg10 harg10 hc x3) _), trivial⟩
  rw [← hsc]
  funext y
  refine View.canon_apply_of_pieces _ _ hp.mem y (View.cover_of_tiledL (s := S4096x1024) _ S512x512.size ?_ y)
  sl_kernel_rfl

end Cert.KernelIdeal.Val

end

end
-- ==== Proof.Array.lean ====
module

public import proofs.«01_k».proof.Proof.Gen.KernelIdeal.Frame
public import Idealize.ShloMosaic.Lib.Pipeline.Value
public import Idealize.ShloMosaic.Lib.Pipeline.CanonAppend
public import Idealize.ShloMosaic.Lib.Tactic
public import proofs.«01_k».proof.Proof.Point

@[expose] public section

set_option maxRecDepth 16384

noncomputable section

namespace Cert.KernelIdeal.Val

open Cert.KernelIdeal Cert.KernelIdeal.Gen Idealize.ShloMosaic Idealize.ShloMosaic.TcCoe Idealize.SL.Sem

open Idealize.ShloMosaic.Pipeline (Dat)

variable (m : (ℓ : Loc nD τ sig) → Buf (Elt Ideal) ℓ) (ρ : Dev nD → PrngReg)

/-- Tile `q` of the right operand: its 512 columns from `512 q`. -/
def dyTile (c : Dev nD) (q : ℕ) (hq : q < 28) : Vec Ideal S1536x512 .bf16 := fun y =>
  (m ((c : Thread nD τ).loc main_arg1) : Vec Ideal S1536x14336 .bf16) (ix2 (y 0) ⟨512 * q + (y 1).val, by have h : (y 1).val < 512 := (y 1).isLt; omega⟩)

theorem dyTile_congr (c : Dev nD) {q q' : ℕ} (e : q = q') (hq : q < 28) (hq' : q' < 28) : dyTile m c q hq = dyTile m c q' hq' := by
  subst e; rfl

theorem point_lt (t : Fin cfg0.N) : t.val < 14 := lt_of_lt_of_eq t.isLt N_0

theorem idx2 : ∀ t : Fin grid0.N, win0_2.index t (0 : Fin 2) = 0 ∧ win0_2.index t (1 : Fin 2) = 0 := by decide +kernel
theorem idx3 : ∀ t : Fin grid0.N, win0_3.index t (0 : Fin 2) = 0 ∧ win0_3.index t (1 : Fin 2) = 0 := by decide +kernel
theorem idx4 : ∀ t : Fin grid0.N, win0_4.index t (0 : Fin 2) = 0 ∧ win0_4.index t (1 : Fin 2) = 2 * t.val + 1 := by decide +kernel
theorem idx5 : ∀ t : Fin grid0.N, win0_5.index t (0 : Fin 2) = 0 ∧ win0_5.index t (1 : Fin 2) = min (2 * t.val + 2) 27 := by decide +kernel
theorem idx6 : ∀ t : Fin grid0.N, win0_6.index t (0 : Fin 2) = 0 ∧ win0_6.index t (1 : Fin 2) = t.val := by decide +kernel

theorem blk0 (c : Dev nD) (t : Fin cfg0.N) : (iblk m c 0 t : Vec Ideal S1 .f32) = m ((c : Thread nD τ).loc main_arg2) := by
  funext j
  unfold iblk
  rw [View.read_apply]
  exact congrArg (m ((c : Thread nD τ).loc main_arg2) : Vec Ideal S1 .f32) (one_idx _ _)

theorem blk1 (c : Dev nD) (t : Fin cfg0.N) : (iblk m c 1 t : Vec Ideal S1 .f32) = m ((c : Thread nD τ).loc main_arg3) := by
  funext j
  unfold iblk
  rw [View.read_apply]
  exact congrArg (m ((c : Thread nD τ).loc main_arg3) : Vec Ideal S1 .f32) (one_idx _ _)

theorem blk2 (c : Dev nD) (t : Fin cfg0.N) : (iblk m c 2 t : Vec Ideal S4096x1536 .bf16) = m ((c : Thread nD τ).loc main_arg0) := by
  have hi := idx2 t
  funext j
  unfold iblk
  rw [View.read_apply]
  refine congrArg (m ((c : Thread nD τ).loc main_arg0) : Vec Ideal S4096x1536 .bf16) ?_
  funext a
  apply Fin.ext
  match a with
  | ⟨0, _⟩ => show win0_2.index t 0 * 4096 + 1 * (j 0).val = (j 0).val; rw [hi.1]; omega
  | ⟨1, _⟩ => show win0_2.index t 1 * 1536 + 1 * (j 1).val = (j 1).val; rw [hi.2]; omega

theorem blk3 (c : Dev nD) (t : Fin cfg0.N) : (iblk m c 3 t : Vec Ideal S1536x512 .bf16) = dyTile m c (0) (by have := point_lt t; omega) := by
  have hi := idx3 t
  funext j
  unfold iblk
  rw [View.read_apply]
  refine congrArg (m ((c : Thread nD τ).loc main_arg1) : Vec Ideal S1536x14336 .bf16) ?_
  funext a
  apply Fin.ext
  match a with
  | ⟨0, _⟩ => show win0_3.index t 0 * 1536 + 1 * (j 0).val = (j 0).val; rw [hi.1]; omega
  | ⟨1, _⟩ => show win0_3.index t 1 * 512 + 1 * (j 1).val = 512 * (0) + (j 1).val; rw [hi.2]; omega

theorem blk4 (c : Dev nD) (t : Fin cfg0.N) : (iblk m c 4 t : Vec Ideal S1536x512 .bf16) = dyTile m c (2 * t.val + 1) (by have := point_lt t; omega) := by
  have hi := idx4 t
  funext j
  unfold iblk
  rw [View.read_apply]
  refine congrArg (m ((c : Thread nD τ).loc main_arg1) : Vec Ideal S1536x14336 .bf16) ?_
  funext a
  apply Fin.ext
  match a with
  | ⟨0, _⟩ => show win0_4.index t 0 * 1536 + 1 * (j 0).val = (j 0).val; rw [hi.1]; omega
  | ⟨1, _⟩ => show win0_4.index t 1 * 512 + 1 * (j 1).val = 512 * (2 * t.val + 1) + (j 1).val; rw [hi.2]; omega

theorem blk5 (c : Dev nD) (t : Fin cfg0.N) : (iblk m c 5 t : Vec Ideal S1536x512 .bf16) = dyTile m c (min (2 * t.val + 2) 27) (by have := point_lt t; omega) := by
  have hi := idx5 t
  funext j
  unfold iblk
  rw [View.read_apply]
  refine congrArg (m ((c : Thread nD τ).loc main_arg1) : Vec Ideal S1536x14336 .bf16) ?_
  funext a
  apply Fin.ext
  match a with
  | ⟨0, _⟩ => show win0_5.index t 0 * 1536 + 1 * (j 0).val = (j 0).val; rw [hi.1]; omega
  | ⟨1, _⟩ => show win0_5.index t 1 * 512 + 1 * (j 1).val = 512 * (min (2 * t.val + 2) 27) + (j 1).val; rw [hi.2]; omega

/-- What the carried scratch holds after a point: the tile that the next point multiplies first. -/
theorem carried (c : Dev nD) (t : Fin cfg0.N) : (outsAt0 m c t.val t.isLt).2 = dyTile m c (min (2 * t.val + 2) 27) (by omega) := by
  by_cases h0 : t.val % 14 = 0
  · rw [outsAt0_A m c t h0]
    dsimp only
    unfold sout0_A_0
    rw [View.read_writes_junk_eq_canon, q0_A, blk5]
  · rw [outsAt0_B m c t h0]
    dsimp only
    unfold sout0_B_0
    rw [View.read_writes_junk_eq_canon, q0_B, blk5]

/-- The scale of the whole result. -/
def sc (c : Dev nD) : Ideal .f32 := scale (m ((c : Thread nD τ).loc main_arg2) : Vec Ideal S1 .f32) (m ((c : Thread nD τ).loc main_arg3) : Vec Ideal S1 .f32)

/-- A point's output block: the scaled product with tiles `2 t` and `2 t + 1`. -/
theorem outAt (c : Dev nD) (t : Fin cfg0.N) : (outsAt0 m c t.val t.isLt).1
    = tile (sc m c) (m ((c : Thread nD τ).loc main_arg0) : Vec Ideal S4096x1536 .bf16) (dyTile m c (2 * t.val) (by have := point_lt t; omega)) (dyTile m c (2 * t.val + 1) (by have := point_lt t; omega)) := by
  have hlt := point_lt t
  by_cases h0 : t.val % 14 = 0
  · rw [outsAt0_A m c t h0]
    dsimp only
    unfold out0_A_6
    rw [View.read_writes_junk_eq_canon, out_A, blk0, blk1, blk2, blk3, blk4]
    have h : t.val = 0 := by omega
    rw [dyTile_congr m c (show 0 = 2 * t.val by omega) _ (by omega)]
    rfl
  · rw [outsAt0_B m c t h0]
    dsimp only
    unfold out0_B_6
    rw [View.read_writes_junk_eq_canon, out_B, blk0, blk1, blk2, blk4]
    have hc := carried m c ⟨t.val - 1, by have := t.isLt; omega⟩
    dsimp only at hc
    rw [hc]
    have e : min (2 * (t.val - 1) + 2) 27 = 2 * t.val := by omega
    rw [dyTile_congr m c e _ (by omega)]
    rfl

/-- The scaled product of two arrays. -/
def prod (s : Ideal .f32) (X : Vec Ideal S4096x1536 .bf16) (Y : Vec Ideal S1536x14336 .bf16) : Vec Ideal S4096x14336 .f32 := fun i =>
  s * ∑ k : Fin 1536, X (ix2 (i 0) k) * Y (ix2 k (i 1))

/-- The product of the whole operands, scaled. -/
def G (c : Dev nD) : Buf (Elt Ideal) ((c : Thread nD τ).loc main_v0) :=
  prod (sc m c) (m ((c : Thread nD τ).loc main_arg0)) (m ((c : Thread nD τ).loc main_arg1))

/-- What a point writes back is its block of the product. -/
theorem flushed (c : Dev nD) (t : Fin cfg0.N) : (dats m 0 c).flushed 6 t = ((cfg0.win 6).blk t).view.read (Elt Ideal) (G m c) := by
  show (cfg0.win 6).cut (grid0.coords t) ((dats m 0 c).after 6 t) = _
  rw [after0_6, outAt]
  have hi := idx6 t
  funext y
  have hy0 : (y 0).val < 4096 := (y 0).isLt
  have hy1 : (y 1).val < 1024 := (y 1).isLt
  have hb0 : (((cfg0.win 6).blk t).view.emb y 0).val = win0_6.index t (0 : Fin 2) * 4096 + 1 * (y 0).val := rfl
  have hb1 : (((cfg0.win 6).blk t).view.emb y 1).val = win0_6.index t (1 : Fin 2) * 1024 + 1 * (y 1).val := rfl
  rw [View.read_apply]
  show tile _ _ _ _ ((cfg0.win 6).xinj (grid0.coords t) y) = G m c (((cfg0.win 6).blk t).view.emb y)
  have hx0 : ((cfg0.win 6).xinj (grid0.coords t) y 0).val = (y 0).val := rfl
  have hx1 : ((cfg0.win 6).xinj (grid0.coords t) y 1).val = (y 1).val := rfl
  unfold tile G prod
  congr 1
  refine Finset.sum_congr rfl fun k _ => ?_
  congr 1
  · refine congrArg (m ((c : Thread nD τ).loc main_arg0) : Vec Ideal S4096x1536 .bf16) ?_
    funext a; apply Fin.ext
    match a with
    | ⟨0, _⟩ => show ((cfg0.win 6).xinj (grid0.coords t) y 0).val = (((cfg0.win 6).blk t).view.emb y 0).val; rw [hx0, hb0, hi.1]; omega
    | ⟨1, _⟩ => rfl
  · split
    · rename_i h
      unfold dyTile
      refine congrArg (m ((c : Thread nD τ).loc main_arg1) : Vec Ideal S1536x14336 .bf16) ?_
      funext a; apply Fin.ext
      match a with
      | ⟨0, _⟩ => rfl
      | ⟨1, _⟩ => show 512 * (2 * t.val) + ((cfg0.win 6).xinj (grid0.coords t) y 1).val = (((cfg0.win 6).blk t).view.emb y 1).val; rw [hx1, hb1, hi.2]; omega
    · rename_i h
      unfold dyTile
      refine congrArg (m ((c : Thread nD τ).loc main_arg1) : Vec Ideal S1536x14336 .bf16) ?_
      funext a; apply Fin.ext
      match a with
      | ⟨0, _⟩ => rfl
      | ⟨1, _⟩ => show 512 * (2 * t.val + 1) + (((cfg0.win 6).xinj (grid0.coords t) y 1).val - 512) = (((cfg0.win 6).blk t).view.emb y 1).val; rw [hx1] at h ⊢; rw [hb1, hi.2]; omega

/-- An index of the array is in a point's block iff each coordinate is in the block's range. -/
theorem mem_blk (t : Fin cfg0.N) (i : S4096x14336.Idx) :
    i ∈ ((cfg0.win 6).blk t).view.set ↔ ∀ a : Fin 2, win0_6.index t a * S4096x1024.size a ≤ (i a).val ∧ (i a).val < win0_6.index t a * S4096x1024.size a + S4096x1024.size a := by
  show i ∈ ((View.whole main_v0).slice (win0_6.rect t)).set ↔ _
  rw [View.set_slice_whole, Rect.mem_set_unit]
  exact Iff.rfl

/-- The array after the run. -/
theorem final (c : Dev nD) : (dats m 0 c).arrAt 6 cfg0.N = G m c :=
  (dats m 0 c).arrAt_eq_of_cover 6 _ (fun t _ => flushed m c t) (fun (i : S4096x14336.Idx) => by
    have h0 : (i 0).val < 4096 := (i 0).isLt
    have h1 : (i 1).val < 14336 := (i 1).isLt
    obtain ⟨t, ht⟩ : ∃ t : Fin cfg0.N, t.val = (i 1).val / 1024 := ⟨⟨(i 1).val / 1024, lt_of_lt_of_eq (by omega) N_0.symm⟩, rfl⟩
    have hi := idx6 t
    refine ⟨t, flush0_6 t, ?_⟩
    rw [mem_blk]
    intro a
    match a with
    | ⟨0, _⟩ => show win0_6.index t (0 : Fin 2) * 4096 ≤ (i 0).val ∧ (i 0).val < win0_6.index t (0 : Fin 2) * 4096 + 4096; rw [hi.1]; omega
    | ⟨1, _⟩ => show win0_6.index t (1 : Fin 2) * 1024 ≤ (i 1).val ∧ (i 1).val < win0_6.index t (1 : Fin 2) * 1024 + 1024; rw [hi.2]; omega)

/-- The run: the result array ends at the scaled product, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 6).trans (final m c),
      ((h c).1 2).trans (((dats m 0 c).arrAt_in 2 rfl _).trans ((A_eq m c 2).trans (V_main_arg0 m c))),
      ((h c).1 5).trans (((dats m 0 c).arrAt_in 5 rfl _).trans ((A_eq m c 5).trans (V_main_arg1 m c))),
      ((h c).1 0).trans (((dats m 0 c).arrAt_in 0 rfl _).trans ((A_eq m c 0).trans (V_main_arg2 m c))),
      ((h c).1 1).trans (((dats m 0 c).arrAt_in 1 rfl _).trans ((A_eq m c 1).trans (V_main_arg3 m c)))⟩)
    (run_main m ρ)

end Cert.KernelIdeal.Val

end

end
-- ==== Proof.DxUnit.lean ====
module

public import proofs.«01_k».proof.Proof.Gen.DxIdeal.Skeleton
public import Idealize.ShloMosaic.Lib.Pipeline.Value
public import Idealize.ShloMosaic.Lib.Pointwise
public import Idealize.ShloMosaic.Lib.Tactic

@[expose] public section

set_option maxRecDepth 16384

noncomputable section

namespace Cert.DxIdeal.Val

open Cert.DxIdeal Cert.DxIdeal.Gen Idealize.ShloMosaic Idealize.ShloMosaic.TcCoe Idealize.SL.Sem

/-- The column of a tile that stands at column `q` after the de-interleave: of 256 columns, the 128 even ones first and the odd ones after, each half
    in the order of the places `16 (l % 16) + 2 (l / 16)`. -/
def src (q : ℕ) : ℕ := 256 * (q / 256) + 16 * (q % 16) + 2 * (q % 128 / 16) + q % 256 / 128

theorem src_lt (q : ℕ) (h : q < 512) : src q < 512 := by unfold src; omega

/-- A tile with its columns de-interleaved. -/
def Q (D : Vec Ideal S1536x512 .bf16) : Vec Ideal S1536x512 .bf16 := fun y => D (ix2 (y 0) ⟨src (y 1).val, src_lt _ (y 1).isLt⟩)

/-- The even columns of two neighbouring 128-column blocks, as the kernel gathers them. -/
def unitEven (A B : Vec Ideal S32x128 .bf16) : FVec Ideal S32x128 .bf16 := k0_pay8 k0_pay2 k0_pay4 (k0_pay6 B) (k0_pay7 A)
/-- The odd columns. -/
def unitOdd (A B : Vec Ideal S32x128 .bf16) : FVec Ideal S32x128 .bf16 := k0_pay9 k0_pay3 k0_pay4 (k0_pay5 A) (k0_pay6 B)

/-- The gather's place for the even columns, as the words compute it. -/
theorem even_place : ∀ l : Fin 128, (Scalar.select
      (IntOp.cmpi CmpIPredicate.slt (IntOp.addi (IntOp.muli (16#32) (IntOp.andi (BitVec.ofNat 32 l.val) 7#32))
          (IntOp.muli (2#32) (IntOp.shrsi ArithUnit.vector (BitVec.ofNat 32 l.val) 4#32))) 0#32)
      (IntOp.addi (IntOp.addi (IntOp.muli (16#32) (IntOp.andi (BitVec.ofNat 32 l.val) 7#32))
          (IntOp.muli (2#32) (IntOp.shrsi ArithUnit.vector (BitVec.ofNat 32 l.val) 4#32))) 128#32)
      (IntOp.addi (IntOp.muli (16#32) (IntOp.andi (BitVec.ofNat 32 l.val) 7#32))
        (IntOp.muli (2#32) (IntOp.shrsi ArithUnit.vector (BitVec.ofNat 32 l.val) 4#32)))).toNat % 128
    = 16 * (l.val % 8) + 2 * (l.val / 16) := by decide +kernel

/-- The gather's place for the odd columns. -/
theorem odd_place : ∀ l : Fin 128, (Scalar.select
      (IntOp.cmpi CmpIPredicate.slt (IntOp.addi (IntOp.addi (IntOp.muli (16#32) (IntOp.andi (BitVec.ofNat 32 l.val) 7#32))
          (IntOp.muli (2#32) (IntOp.shrsi ArithUnit.vector (BitVec.ofNat 32 l.val) 4#32))) 1#32) 0#32)
      (IntOp.addi (IntOp.addi (IntOp.addi (IntOp.muli (16#32) (IntOp.andi (BitVec.ofNat 32 l.val) 7#32))
          (IntOp.muli (2#32) (IntOp.shrsi ArithUnit.vector (BitVec.ofNat 32 l.val) 4#32))) 1#32) 128#32)
      (IntOp.addi (IntOp.addi (IntOp.muli (16#32) (IntOp.andi (BitVec.ofNat 32 l.val) 7#32))
        (IntOp.muli (2#32) (IntOp.shrsi ArithUnit.vector (BitVec.ofNat 32 l.val) 4#32))) 1#32)).toNat % 128
    = 16 * (l.val % 8) + 2 * (l.val / 16) + 1 := by decide +kernel

/-- Which of the two blocks a column comes from. -/
theorem low_half : ∀ l : Fin 128, (IntOp.cmpi CmpIPredicate.eq (IntOp.andi (BitVec.ofNat 32 l.val) 8#32) 0#32) = if l.val % 16 < 8 then 1#1 else 0#1 := by
  decide +kernel

theorem even_apply (A B : Vec Ideal S32x128 .bf16) (x : S32x128.Idx) : unitEven A B x =
    if (x 1).val % 16 < 8 then A (ix2 (x 0) ⟨16 * ((x 1).val % 8) + 2 * ((x 1).val / 16), by have := (x 1).isLt; simp at *; omega⟩)
      else B (ix2 (x 0) ⟨16 * ((x 1).val % 8) + 2 * ((x 1).val / 16), by have := (x 1).isLt; simp at *; omega⟩) := by
  pointwise [unitEven, k0_pay8, k0_pay2, k0_pay4, k0_pay5, k0_pay6, k0_pay7]
  simp only [low_half (x 1), even_place (x 1)]
  split <;> rfl

theorem odd_apply (A B : Vec Ideal S32x128 .bf16) (x : S32x128.Idx) : unitOdd A B x =
    if (x 1).val % 16 < 8 then A (ix2 (x 0) ⟨16 * ((x 1).val % 8) + 2 * ((x 1).val / 16) + 1, by have := (x 1).isLt; simp at *; omega⟩)
      else B (ix2 (x 0) ⟨16 * ((x 1).val % 8) + 2 * ((x 1).val / 16) + 1, by have := (x 1).isLt; simp at *; omega⟩) := by
  pointwise [unitOdd, k0_pay9, k0_pay3, k0_pay4, k0_pay5, k0_pay6]
  simp only [low_half (x 1), odd_place (x 1)]
  split <;> rfl

/-- The even columns stored at row `r` and column `q` are the block of the de-interleaved tile there. -/
theorem piece_even (D : Vec Ideal S1536x512 .bf16) (A B : Vec Ideal S32x128 .bf16) (r q q' : ℕ) (hq : q % 256 = 0) (hq' : q' = q + 128)
    (ia : ∀ a, ![r, q] a + S32x128.size a ≤ S1536x512.size a) (ib : ∀ a, ![r, q'] a + S32x128.size a ≤ S1536x512.size a) (io : ∀ a, ![r, q] a + S32x128.size a ≤ S1536x512.size a)
    (hA : ∀ j, A j = D ((Rect.unit (s := S1536x512) ![r, q] S32x128.size ia).emb j)) (hB : ∀ j, B j = D ((Rect.unit (s := S1536x512) ![r, q'] S32x128.size ib).emb j))
    (x : S32x128.Idx) : unitEven A B x = Q D ((Rect.unit (s := S1536x512) ![r, q] S32x128.size io).emb x) := by
  subst hq'
  have h1 : (x 1).val < 128 := (x 1).isLt
  rw [even_apply]; unfold Q
  split
  · rw [hA]; congr 1; funext a; apply Fin.ext
    fin_cases a
    · simp [Rect.emb, Rect.unit, ix2]
    · simp [Rect.emb, Rect.unit, ix2, src]; omega
  · rw [hB]; congr 1; funext a; apply Fin.ext
    fin_cases a
    · simp [Rect.emb, Rect.unit, ix2]
    · simp [Rect.emb, Rect.unit, ix2, src]; omega

/-- The odd columns stored beside them are the block of the de-interleaved tile there. -/
theorem piece_odd (D : Vec Ideal S1536x512 .bf16) (A B : Vec Ideal S32x128 .bf16) (r q q' : ℕ) (hq : q % 256 = 0) (hq' : q' = q + 128)
    (ia : ∀ a, ![r, q] a + S32x128.size a ≤ S1536x512.size a) (ib : ∀ a, ![r, q'] a + S32x128.size a ≤ S1536x512.size a) (io : ∀ a, ![r, q'] a + S32x128.size a ≤ S1536x512.size a)
    (hA : ∀ j, A j = D ((Rect.unit (s := S1536x512) ![r, q] S32x128.size ia).emb j)) (hB : ∀ j, B j = D ((Rect.unit (s := S1536x512) ![r, q'] S32x128.size ib).emb j))
    (x : S32x128.Idx) : unitOdd A B x = Q D ((Rect.unit (s := S1536x512) ![r, q'] S32x128.size io).emb x) := by
  subst hq'
  have h1 : (x 1).val < 128 := (x 1).isLt
  rw [odd_apply]; unfold Q
  split
  · rw [hA]; congr 1; funext a; apply Fin.ext
    fin_cases a
    · simp [Rect.emb, Rect.unit, ix2]
    · simp [Rect.emb, Rect.unit, ix2, src]; omega
  · rw [hB]; congr 1; funext a; apply Fin.ext
    fin_cases a
    · simp [Rect.emb, Rect.unit, ix2]
    · simp [Rect.emb, Rect.unit, ix2, src]; omega

/-- A load of a block of a staged array. -/
theorem read_block {s : Shape} {e : EltTy} {sp : Space} (m : Memref sig .tc sp s e) (hm : m.IsWhole) (D : Vec Ideal s e) (r : Rect s) (j : r.shape.Idx) :
    View.readAt (Elt Ideal) m.view r.toLoadRect (hm.unread D) j = D (r.emb j) :=
  congrFun (hm.read_unread D) (r.emb j)

end Cert.DxIdeal.Val

end

end
-- ==== Proof.DxBytes.lean ====
module

public import Idealize.ShloMosaic.Lib.BitcastPair
public import Idealize.ShloMosaic.Lib.Pointwise
public import Idealize.ShloMosaic.Lib.Tactic

@[expose] public section

set_option maxRecDepth 16384

noncomputable section

namespace Cert.DxIdeal.Val

open Idealize.ShloMosaic

/-- The low codes of four packed bytes as fp8 patterns, one per byte: magnitude bits to the exponent and mantissa, sign to the top. -/
def loWord (w : BitVec 32) : BitVec 32 := ((w &&& 117901063#32) <<< 2) ||| ((w &&& 134744072#32) <<< 4)
/-- The high codes of four packed bytes as fp8 patterns, one per byte. -/
def hiWord (w : BitVec 32) : BitVec 32 := ((w >>> 2) &&& 471604252#32) ||| (w &&& 2155905152#32)

/-- The low code of one byte as an fp8 pattern. -/
def loByte (b : BitVec 8) : BitVec 8 := ((b &&& 7#8) <<< 2) ||| ((b &&& 8#8) <<< 4)
/-- The high code of one byte as an fp8 pattern. -/
def hiByte (b : BitVec 8) : BitVec 8 := ((b >>> 2) &&& 28#8) ||| (b &&& 128#8)

theorem loWord_bit (w : BitVec 32) (b : BitVec 8) (q : ℕ) (hq : q < 4) (h : ∀ k < 8, w.getLsbD (8 * q + k) = b.getLsbD k) (k : ℕ) (hk : k < 8) :
    (loWord w).getLsbD (8 * q + k) = (loByte b).getLsbD k := by
  have h0 := h 0 (by omega)
  have h1 := h 1 (by omega)
  have h2 := h 2 (by omega)
  have h3 := h 3 (by omega)
  unfold loWord loByte
  interval_cases q <;> interval_cases k <;> simp at h0 h1 h2 h3 ⊢ <;> simp [h0, h1, h2, h3]

theorem hiWord_bit (w : BitVec 32) (b : BitVec 8) (q : ℕ) (hq : q < 4) (h : ∀ k < 8, w.getLsbD (8 * q + k) = b.getLsbD k) (k : ℕ) (hk : k < 8) :
    (hiWord w).getLsbD (8 * q + k) = (hiByte b).getLsbD k := by
  have h0 := h 4 (by omega)
  have h1 := h 5 (by omega)
  have h2 := h 6 (by omega)
  have h3 := h 7 (by omega)
  unfold hiWord hiByte
  interval_cases q <;> interval_cases k <;> simp at h0 h1 h2 h3 ⊢ <;> simp [h0, h1, h2, h3]

/-- The value of a four-bit code of the e2m1 format: a sign bit over the magnitudes 0, 1/2, 1, 3/2, 2, 3, 4, 6. -/
def e2m1 (k : BitVec 32) : EReal :=
  let n : ℝ := ((k &&& 7#32).toNat : ℝ)
  let mag : ℝ := if (k &&& 7#32).toNat < 4 then n / 2 else if (k &&& 7#32).toNat < 6 then n - 2 else 2 * (n - 4)
  ((if k &&& 8#32 = 0#32 then mag else -mag : ℝ) : EReal)

theorem fp8_lo (b : BitVec 8) : Ideal.e4m3fn (loByte b) * ((64 : ℝ) : EReal) = e2m1 (b.setWidth 32 &&& 15#32) := by
  have key : ∀ n : Fin 256, Ideal.e4m3fn (loByte (BitVec.ofNat 8 n.val)) * ((64 : ℝ) : EReal) = e2m1 ((BitVec.ofNat 8 n.val).setWidth 32 &&& 15#32) := by
    have red : ∀ n : Fin 256, loByte (BitVec.ofNat 8 n.val) = loByte (BitVec.ofNat 8 (n.val % 16)) ∧ (BitVec.ofNat 8 n.val).setWidth 32 &&& 15#32 = BitVec.ofNat 32 (n.val % 16) := by decide +kernel
    have main : ∀ n : Fin 16, Ideal.e4m3fn (loByte (BitVec.ofNat 8 n.val)) * ((64 : ℝ) : EReal) = e2m1 (BitVec.ofNat 32 n.val) := by
      intro n
      unfold Ideal.e4m3fn e2m1 loByte
      fin_cases n <;> simp <;> norm_cast <;> norm_num
    intro n
    rw [(red n).1, (red n).2]
    exact main ⟨n.val % 16, Nat.mod_lt _ (by omega)⟩
  have := key ⟨b.toNat, b.isLt⟩
  simpa using this

theorem fp8_hi (b : BitVec 8) : Ideal.e4m3fn (hiByte b) * ((64 : ℝ) : EReal) = e2m1 (b.setWidth 32 >>> 4) := by
  have key : ∀ n : Fin 256, Ideal.e4m3fn (hiByte (BitVec.ofNat 8 n.val)) * ((64 : ℝ) : EReal) = e2m1 ((BitVec.ofNat 8 n.val).setWidth 32 >>> 4) := by
    have red : ∀ n : Fin 256, hiByte (BitVec.ofNat 8 n.val) = loByte (BitVec.ofNat 8 (n.val / 16)) ∧ (BitVec.ofNat 8 n.val).setWidth 32 >>> 4 = (BitVec.ofNat 8 (n.val / 16)).setWidth 32 &&& 15#32 := by decide +kernel
    intro n
    rw [(red n).1, (red n).2]
    exact fp8_lo _
  have := key ⟨b.toNat, b.isLt⟩
  simpa using this

end Cert.DxIdeal.Val

end

end
-- ==== Proof.DxDecode.lean ====
module

public import proofs.«01_k».proof.Proof.Gen.DxIdeal.Skeleton
public import proofs.«01_k».proof.Proof.DxBytes
public import Idealize.ShloMosaic.Lib.Pipeline.Value

@[expose] public section

set_option maxRecDepth 16384

noncomputable section

namespace Cert.DxIdeal.Val

open Cert.DxIdeal Cert.DxIdeal.Gen Idealize.ShloMosaic Idealize.ShloMosaic.TcCoe Idealize.SL.Sem

/-- The places of the scales of one block of 256 columns, from the first place `b`. -/
def selV (b : BitVec 32) : IVec S512x128 32 := addi (andi (iota .tc S512x128 32 [1] iota_S512x128_d1_w32) (broadcast S512x128 15#32)) (broadcast S512x128 b)

/-- The decoded low codes of 512 rows times their scales, as the kernel computes them. -/
def decLo (A : Vec Ideal S512x128 .fp8e4m3) (B : Vec Ideal S512x128 .i8) (b : BitVec 32) : FVec Ideal S1x512x128 .bf16 :=
  k0_pay26 (k0_pay21 A) (k0_pay22 (F := Ideal) B) (selV b) (cmpi .slt (selV b) (broadcast S512x128 0#32))
/-- The decoded high codes. -/
def decHi (A : Vec Ideal S512x128 .fp8e4m3) (B : Vec Ideal S512x128 .i8) (b : BitVec 32) : FVec Ideal S1x512x128 .bf16 :=
  k0_pay27 (k0_pay21 A) (k0_pay22 (F := Ideal) B) (selV b) (cmpi .slt (selV b) (broadcast S512x128 0#32))

/-- The place in a row from which a packed byte is gathered. -/
theorem byte_place : ∀ l : Fin 128, (Scalar.select
                (IntOp.cmpi CmpIPredicate.slt
                  (IntOp.addi (IntOp.muli (8#32) (IntOp.andi (BitVec.ofNat 32 l.val) 15#32))
                    (IntOp.shrsi ArithUnit.vector (BitVec.ofNat 32 l.val) 4#32))
                  0#32)
                (IntOp.addi
                  (IntOp.addi (IntOp.muli (8#32) (IntOp.andi (BitVec.ofNat 32 l.val) 15#32))
                    (IntOp.shrsi ArithUnit.vector (BitVec.ofNat 32 l.val) 4#32))
                  128#32)
                (IntOp.addi (IntOp.muli (8#32) (IntOp.andi (BitVec.ofNat 32 l.val) 15#32))
                  (IntOp.shrsi ArithUnit.vector (BitVec.ofNat 32 l.val) 4#32))).toNat % 128 = 8 * (l.val % 16) + l.val / 16 := by decide +kernel

/-- The place in a row from which a scale is gathered. -/
theorem scale_place : ∀ (k : Fin 8) (l : Fin 128), (Scalar.select
                    (IntOp.cmpi CmpIPredicate.slt (IntOp.addi (IntOp.andi (BitVec.ofNat 32 l.val) 15#32) (BitVec.ofNat 32 (16 * k.val))) 0#32)
                    (IntOp.addi (IntOp.addi (IntOp.andi (BitVec.ofNat 32 l.val) 15#32) (BitVec.ofNat 32 (16 * k.val))) 128#32)
                    (IntOp.addi (IntOp.andi (BitVec.ofNat 32 l.val) 15#32) (BitVec.ofNat 32 (16 * k.val)))).toNat % 128 = 16 * k.val + l.val % 16 := by decide +kernel

/-- A bit of the gathered words: of the byte in row `4 R + q` of the same column. -/
theorem word_bit (B : Vec Ideal S512x128 .i8) (R : Fin 512) (l : Fin 128) (k : ℕ) (hk : k < 8) :
    (k0_pay22 (F := Ideal) B (ix2 ⟨R.val / 4, by omega⟩ l)).getLsbD (8 * (R.val % 4) + k)
      = (B (ix2 R ⟨8 * (l.val % 16) + l.val / 16, by omega⟩)).getLsbD k := by
  pointwise [k0_pay22]
  rw [bitcast_getLsbD _ _ _ _ (by omega) (by omega)]
  have e : (Shape.row S128x128 (ix2 ⟨R.val / 4, by omega⟩ ⟨(Scalar.select
                (IntOp.cmpi CmpIPredicate.slt
                  (IntOp.addi (IntOp.muli (8#32) (IntOp.andi (BitVec.ofNat 32 l.val) 15#32))
                    (IntOp.shrsi ArithUnit.vector (BitVec.ofNat 32 l.val) 4#32))
                  0#32)
                (IntOp.addi
                  (IntOp.addi (IntOp.muli (8#32) (IntOp.andi (BitVec.ofNat 32 l.val) 15#32))
                    (IntOp.shrsi ArithUnit.vector (BitVec.ofNat 32 l.val) 4#32))
                  128#32)
                (IntOp.addi (IntOp.muli (8#32) (IntOp.andi (BitVec.ofNat 32 l.val) 15#32))
                  (IntOp.shrsi ArithUnit.vector (BitVec.ofNat 32 l.val) 4#32))).toNat % 128, Nat.mod_lt _ (by omega)⟩)) = R.val / 4 := rfl
  congr 1
  · congr 1
    funext a; apply Fin.ext
    fin_cases a
    · rw [Shape.Bitcasts.srcIdx_row _ _ _ _ _ rfl]
      show (R.val / 4 * 32 + (8 * (R.val % 4) + k)) / 8 = R.val
      omega
    · rw [Shape.Bitcasts.srcIdx_other _ _ _ _ _ (by decide)]
      exact byte_place l
  · show (R.val / 4 * 32 + (8 * (R.val % 4) + k)) % 8 = k
    omega

/-- A byte of words whose bits are known. -/
theorem byte_of_word (w : IVec S128x128 32) (h : S128x128.Bitcasts 32 S512x128 8) (R : Fin 512) (l : Fin 128) (b : BitVec 8)
    (hb : ∀ k < 8, (w (ix2 ⟨R.val / 4, by omega⟩ l)).getLsbD (8 * (R.val % 4) + k) = b.getLsbD k) :
    bitcast S512x128 8 w h (ix2 R l) = b := by
  refine BitVec.eq_of_getLsbD_eq fun k hk => ?_
  rw [bitcast_getLsbD _ _ _ _ hk (by omega), ← hb k hk]
  congr 1
  · congr 1
    funext a; apply Fin.ext
    fin_cases a
    · rw [Shape.Bitcasts.srcIdx_row _ _ _ _ _ rfl]
      show (R.val * 8 + k) / 32 = R.val / 4
      omega
    · rw [Shape.Bitcasts.srcIdx_other _ _ _ _ _ (by decide)]
      rfl
  · show (R.val * 8 + k) % 32 = 8 * (R.val % 4) + k
    omega

theorem sixty_four : Ideal.ofBits .f32 1115684864#32 = ((64 : ℝ) : EReal) := by
  simp [Ideal.ofBits, Ideal.ieee]
  norm_cast
  norm_num

theorem lo_apply (A : Vec Ideal S512x128 .fp8e4m3) (B : Vec Ideal S512x128 .i8) (k : Fin 8) (x : S1x512x128.Idx) :
    decLo A B (BitVec.ofNat 32 (16 * k.val)) x = e2m1 ((B (ix2 (x 1) ⟨8 * ((x 2).val % 16) + (x 2).val / 16, by have : (x 2).val < 128 := (x 2).isLt; omega⟩)).setWidth 32 &&& 15#32)
      * A (ix2 (x 1) ⟨16 * k.val + (x 2).val % 16, by omega⟩) := by
  pointwise [decLo, k0_pay26, k0_pay25, k0_pay21, selV]
  rw [byte_of_word _ _ (x 1) (x 2) (loByte (B (ix2 (x 1) ⟨8 * ((x 2).val % 16) + (x 2).val / 16, by have : (x 2).val < 128 := (x 2).isLt; omega⟩)))
    (fun q hq => loWord_bit _ _ _ (by omega) (word_bit B (x 1) (x 2)) q hq), ← fp8_lo, sixty_four, mul_assoc, mul_comm ((64 : ℝ) : EReal)]
  simp only [scale_place k (x 2)]
  rfl

/-- The word operations of the high codes act on each word alone. -/
theorem hi_words (w : IVec S128x128 32) :
    ori (andi (shrui w (broadcast S128x128 2#32)) (broadcast S128x128 471604252#32)) (andi w (broadcast S128x128 2155905152#32)) = fun i => hiWord (w i) := by
  funext i
  rfl

/-- A byte of the high codes. -/
theorem byte_of_hi (w : IVec S128x128 32) (h : S128x128.Bitcasts 32 S512x128 8) (R : Fin 512) (l : Fin 128) (b : BitVec 8)
    (hb : ∀ k < 8, (w (ix2 ⟨R.val / 4, by omega⟩ l)).getLsbD (8 * (R.val % 4) + k) = b.getLsbD k) :
    bitcast S512x128 8 (ori (andi (shrui w (broadcast S128x128 2#32)) (broadcast S128x128 471604252#32)) (andi w (broadcast S128x128 2155905152#32))) h (ix2 R l) = hiByte b := by
  rw [hi_words]
  exact byte_of_word _ h R l _ (fun q hq => hiWord_bit (w _) b _ (by omega) hb q hq)

theorem hi_apply (A : Vec Ideal S512x128 .fp8e4m3) (B : Vec Ideal S512x128 .i8) (k : Fin 8) (x : S1x512x128.Idx) :
    decHi A B (BitVec.ofNat 32 (16 * k.val)) x = e2m1 ((B (ix2 (x 1) ⟨8 * ((x 2).val % 16) + (x 2).val / 16, by have : (x 2).val < 128 := (x 2).isLt; omega⟩)).setWidth 32 >>> 4)
      * A (ix2 (x 1) ⟨16 * k.val + (x 2).val % 16, by omega⟩) := by
  pointwise [decHi, k0_pay27, k0_pay25, k0_pay21, selV]
  rw [byte_of_hi _ _ (x 1) (x 2) (B (ix2 (x 1) ⟨8 * ((x 2).val % 16) + (x 2).val / 16, by have : (x 2).val < 128 := (x 2).isLt; omega⟩)) (word_bit B (x 1) (x 2)), ← fp8_hi, sixty_four, mul_assoc, mul_comm ((64 : ℝ) : EReal)]
  simp only [scale_place k (x 2)]
  rfl

end Cert.DxIdeal.Val

end

end
-- ==== Proof.DxLists.lean ====
module

public import proofs.«01_k».proof.Proof.Gen.DxIdeal.Skeleton
public import proofs.«01_k».proof.Proof.DxUnit
public import proofs.«01_k».proof.Proof.DxDecode
public import Idealize.ShloMosaic.Lib.Pipeline.Value
public import Idealize.ShloMosaic.Lib.Pipeline.CanonAppend
public import Idealize.ShloMosaic.Lib.Pointwise

@[expose] public section

set_option maxRecDepth 16384

noncomputable section

namespace Cert.DxIdeal.Val

open Cert.DxIdeal Cert.DxIdeal.Gen Idealize.ShloMosaic Idealize.ShloMosaic.TcCoe Idealize.SL.Sem

/-! ## The de-interleaved tile -/

theorem unit_inb (r : Fin 48) (h : Fin 2) (o : ℕ) (ho : o ≤ 128) : ∀ a, ![32 * r.val, 256 * h.val + o] a + S32x128.size a ≤ S1536x512.size a := by
  intro a; fin_cases a
  · simp; omega
  · simp; omega

/-- One load of a unit: 32 rows of 128 columns of a tile. -/
def rdUnit (m : Memref sig .tc .vmem S1536x512 .bf16) (X : BufTy.Contents (Elt Ideal) m.view.ty) (r : Fin 48) (h : Fin 2) (o : ℕ) (ho : o ≤ 128) : Vec Ideal S32x128 .bf16 :=
  View.readAt (Elt Ideal) m.view (Rect.unit (s := S1536x512) ![32 * r.val, 256 * h.val + o] S32x128.size (unit_inb r h o ho)).toLoadRect X

/-- The two stores of a unit, last first. -/
def unit2 (m : Memref sig .tc .vmem S1536x512 .bf16) (X : BufTy.Contents (Elt Ideal) m.view.ty) (r : Fin 48) (h : Fin 2) : List (View.Piece (Elt Ideal) S1536x512 .bf16) :=
  [⟨Rect.unit (s := S1536x512) ![32 * r.val, 256 * h.val + 128] S32x128.size (unit_inb r h 128 (by omega)), unitOdd (rdUnit m X r h 0 (by omega)) (rdUnit m X r h 128 (by omega))⟩,
   ⟨Rect.unit (s := S1536x512) ![32 * r.val, 256 * h.val + 0] S32x128.size (unit_inb r h 0 (by omega)), unitEven (rdUnit m X r h 0 (by omega)) (rdUnit m X r h 128 (by omega))⟩]

/-- The stores of the first `u` units of a tile. -/
def unitL (m : Memref sig .tc .vmem S1536x512 .bf16) (X : BufTy.Contents (Elt Ideal) m.view.ty) : ℕ → List (View.Piece (Elt Ideal) S1536x512 .bf16)
  | 0 => []
  | u + 1 => unit2 m X ⟨u / 2 % 48, Nat.mod_lt _ (by omega)⟩ ⟨u % 2, Nat.mod_lt _ (by omega)⟩ ++ unitL m X u

theorem unit2_pieces (m : Memref sig .tc .vmem S1536x512 .bf16) (hm : m.IsWhole) (D : Vec Ideal S1536x512 .bf16) (r : Fin 48) (h : Fin 2) :
    (∀ p ∈ unit2 m (hm.unread D) r h, ∀ x : p.1.shape.Idx, p.2 x = Q D (p.1.emb x))
    ∧ ∀ y : S1536x512.Idx, (y 0).val / 32 = r.val → (y 1).val / 256 = h.val → ∃ p ∈ unit2 m (hm.unread D) r h, y ∈ p.1.set := by
  have hq : (256 * h.val + 0) % 256 = 0 := by omega
  refine ⟨fun p hp => ?_, fun y h0 h1 => ?_⟩
  · rcases List.mem_cons.mp hp with rfl | hp
    · exact fun x => piece_odd D _ _ (32 * r.val) (256 * h.val + 0) (256 * h.val + 128) hq rfl (unit_inb r h 0 (by omega)) (unit_inb r h 128 (by omega)) (unit_inb r h 128 (by omega))
        (fun j => read_block m hm D (Rect.unit (s := S1536x512) _ _ (unit_inb r h 0 (by omega))) j) (fun j => read_block m hm D (Rect.unit (s := S1536x512) _ _ (unit_inb r h 128 (by omega))) j) x
    rcases List.mem_cons.mp hp with rfl | hp
    · exact fun x => piece_even D _ _ (32 * r.val) (256 * h.val + 0) (256 * h.val + 128) hq rfl (unit_inb r h 0 (by omega)) (unit_inb r h 128 (by omega)) (unit_inb r h 0 (by omega))
        (fun j => read_block m hm D (Rect.unit (s := S1536x512) _ _ (unit_inb r h 0 (by omega))) j) (fun j => read_block m hm D (Rect.unit (s := S1536x512) _ _ (unit_inb r h 128 (by omega))) j) x
    · exact absurd hp List.not_mem_nil
  · by_cases c : (y 1).val < 256 * h.val + 128
    · refine ⟨_, List.mem_cons_of_mem _ List.mem_cons_self, ?_⟩
      rw [Rect.mem_set_unit]; intro a; fin_cases a
      · simp; omega
      · simp; omega
    · refine ⟨_, List.mem_cons_self, ?_⟩
      rw [Rect.mem_set_unit]; intro a; fin_cases a
      · simp; omega
      · simp; omega

theorem unitL_pieces (m : Memref sig .tc .vmem S1536x512 .bf16) (hm : m.IsWhole) (D : Vec Ideal S1536x512 .bf16) (u : ℕ) (hu : u ≤ 96) :
    (∀ p ∈ unitL m (hm.unread D) u, ∀ x : p.1.shape.Idx, p.2 x = Q D (p.1.emb x))
    ∧ ∀ y : S1536x512.Idx, 2 * ((y 0).val / 32) + (y 1).val / 256 < u → ∃ p ∈ unitL m (hm.unread D) u, y ∈ p.1.set := by
  induction u with
  | zero => exact ⟨fun p hp => absurd hp List.not_mem_nil, fun y hy => absurd hy (Nat.not_lt_zero _)⟩
  | succ u ih =>
    obtain ⟨ih1, ih2⟩ := ih (by omega)
    obtain ⟨a1, a2⟩ := unit2_pieces m hm D ⟨u / 2 % 48, Nat.mod_lt _ (by omega)⟩ ⟨u % 2, Nat.mod_lt _ (by omega)⟩
    refine ⟨fun p hp => ?_, fun y hy => ?_⟩
    · rcases List.mem_append.mp hp with hp | hp
      · exact a1 p hp
      · exact ih1 p hp
    · have h0 : (y 0).val < 1536 := (y 0).isLt
      have h1 : (y 1).val < 512 := (y 1).isLt
      by_cases c : 2 * ((y 0).val / 32) + (y 1).val / 256 < u
      · obtain ⟨p, hp, hy'⟩ := ih2 y c
        exact ⟨p, List.mem_append.mpr (.inr hp), hy'⟩
      · obtain ⟨p, hp, hy'⟩ := a2 y (by show _ = u / 2 % 48; omega) (by show _ = u % 2; omega)
        exact ⟨p, List.mem_append.mpr (.inl hp), hy'⟩

/-- After its 96 units a buffer holds the de-interleaved tile, whatever it held before. -/
theorem unitL_canon (m : Memref sig .tc .vmem S1536x512 .bf16) (hm : m.IsWhole) (D : Vec Ideal S1536x512 .bf16) (L : List (View.Piece (Elt Ideal) S1536x512 .bf16)) :
    View.canon (unitL m (hm.unread D) 96 ++ L) = Q D := by
  obtain ⟨h1, h2⟩ := unitL_pieces m hm D 96 (Nat.le_refl _)
  funext y
  refine View.canon_append_of_pieces _ L _ h1 y (h2 y ?_)
  have h0 : (y 0).val < 1536 := (y 0).isLt
  have h1 : (y 1).val < 512 := (y 1).isLt
  omega

/-! ## The decoded weights in their two slots -/

/-- One code of a packed byte: the low one or the high one. -/
def nib (h : ℕ) (b : BitVec 8) : BitVec 32 := if h = 0 then b.setWidth 32 &&& 15#32 else b.setWidth 32 >>> 4

/-- A decoded weight: row `r`, column `q` of the 512 columns of a phase `p`, whose scales start at `32 kb`. -/
def Wt (C : Vec Ideal S4096x512 .i8) (S : Vec Ideal S4096x128 .fp8e4m3) (kb : Fin 4) (p : Fin 2) (r : Fin 4096) (q : Fin 512) : EReal :=
  e2m1 (nib (q.val % 256 / 128) (C (ix2 r ⟨256 * p.val + 128 * (q.val / 256) + (8 * (q.val % 128 % 16) + q.val % 128 / 16), by omega⟩)))
    * S (ix2 r ⟨32 * kb.val + 16 * (q.val / 256) + q.val % 128 % 16, by omega⟩)

/-- The first place of the scales, as the kernel computes it. -/
def base (i : grid0.Coords) (p ct : ℕ) : BitVec 32 :=
  Scalar.addi (Scalar.muli (Scalar.andi (Scalar.addi (Scalar.muli 2#32 (BitVec.ofNat 32 (i 0).val)) (BitVec.ofNat 32 p)) 3#32) 32#32) (BitVec.ofNat 32 (16 * ct))

/-- Which quarter of the block of scales a phase of a point takes. -/
def quarter (i : grid0.Coords) (p : Fin 2) : Fin 4 := ⟨(2 * (i 0).val + p.val) % 4, Nat.mod_lt _ (by omega)⟩

theorem base_eq (i : grid0.Coords) (p ct : Fin 2) : base i p.val ct.val = BitVec.ofNat 32 (16 * (⟨2 * (quarter i p).val + ct.val, by omega⟩ : Fin 8).val) := by
  have key : ∀ (j : Fin 14) (p ct : Fin 2), Scalar.addi (Scalar.muli (Scalar.andi (Scalar.addi (Scalar.muli 2#32 (BitVec.ofNat 32 j.val)) (BitVec.ofNat 32 p.val)) 3#32) 32#32) (BitVec.ofNat 32 (16 * ct.val))
      = BitVec.ofNat 32 (16 * (2 * ((2 * j.val + p.val) % 4) + ct.val)) := by decide +kernel
  exact key (i 0) p ct

variable (arg6 : Memref sig .tc .vmem S4096x512 .i8) (harg6 : arg6.IsWhole) (arg7 : Memref sig .tc .vmem S4096x128 .fp8e4m3) (harg7 : arg7.IsWhole)
  (arg12 : Memref sig .tc .vmem S2x512x512 .bf16) (i : grid0.Coords)
  (x5 : Vec Ideal S4096x512 .i8) (x6 : Vec Ideal S4096x128 .fp8e4m3)

theorem codes_inb (n : Fin 8) (p ct : Fin 2) : ∀ a, ![512 * n.val, 256 * p.val + 128 * ct.val] a + S512x128.size a ≤ S4096x512.size a := by
  intro a; fin_cases a
  · simp; omega
  · simp; omega

theorem scales_inb (n : Fin 8) : ∀ a, ![512 * n.val, 0] a + S512x128.size a ≤ S4096x128.size a := by
  intro a; fin_cases a
  · simp; omega
  · simp

theorem slot_inb (s : Fin 2) (q : ℕ) (hq : q ≤ 384) : ∀ a, ![s.val, 0, q] a + S1x512x128.size a ≤ S2x512x512.size a := by
  intro a; fin_cases a
  · simp; omega
  · simp
  · simp; omega

theorem whole_slot_inb (s : Fin 2) : ∀ a, ![s.val, 0, 0] a + S1x512x512.size a ≤ S2x512x512.size a := by
  intro a; fin_cases a
  · simp; omega
  · simp
  · simp

/-- A load of packed codes. -/
def rdC (n : Fin 8) (p ct : Fin 2) : Vec Ideal S512x128 .i8 :=
  View.readAt (Elt Ideal) arg6.view (Rect.unit (s := S4096x512) ![512 * n.val, 256 * p.val + 128 * ct.val] S512x128.size (codes_inb n p ct)).toLoadRect (harg6.unread x5)
/-- A load of scales. -/
def rdS (n : Fin 8) : Vec Ideal S512x128 .fp8e4m3 :=
  View.readAt (Elt Ideal) arg7.view (Rect.unit (s := S4096x128) ![512 * n.val, 0] S512x128.size (scales_inb n)).toLoadRect (harg7.unread x6)

/-- The four stores of one decoding, last first. -/
def dec4 (s : Fin 2) (n : Fin 8) (p : Fin 2) : List (View.Piece (Elt Ideal) S2x512x512 .bf16) :=
  [⟨Rect.unit (s := S2x512x512) ![s.val, 0, 384] S1x512x128.size (slot_inb s 384 (by omega)), decHi (rdS arg7 harg7 x6 n) (rdC arg6 harg6 x5 n p 1) (base i p.val 1)⟩,
   ⟨Rect.unit (s := S2x512x512) ![s.val, 0, 256] S1x512x128.size (slot_inb s 256 (by omega)), decLo (rdS arg7 harg7 x6 n) (rdC arg6 harg6 x5 n p 1) (base i p.val 1)⟩,
   ⟨Rect.unit (s := S2x512x512) ![s.val, 0, 128] S1x512x128.size (slot_inb s 128 (by omega)), decHi (rdS arg7 harg7 x6 n) (rdC arg6 harg6 x5 n p 0) (base i p.val 0)⟩,
   ⟨Rect.unit (s := S2x512x512) ![s.val, 0, 0] S1x512x128.size (slot_inb s 0 (by omega)), decLo (rdS arg7 harg7 x6 n) (rdC arg6 harg6 x5 n p 0) (base i p.val 0)⟩]

/-- The stores of the first `g` decodings of a point: eight of the first phase and eight of the second, the slots by turns. -/
def wdL : ℕ → List (View.Piece (Elt Ideal) S2x512x512 .bf16)
  | 0 => []
  | g + 1 => dec4 arg6 harg6 arg7 harg7 i x5 x6 ⟨g % 2, Nat.mod_lt _ (by omega)⟩ ⟨g % 8, Nat.mod_lt _ (by omega)⟩ ⟨g / 8 % 2, Nat.mod_lt _ (by omega)⟩ ++ wdL g

/-- The weights of one decoding, in either slot. -/
def Wslot (n : Fin 8) (p : Fin 2) : Vec Ideal S2x512x512 .bf16 := fun y => Wt x5 x6 (quarter i p) p ⟨512 * n.val + (y 1).val, by have : (y 1).val < 512 := (y 1).isLt; omega⟩ (y 2)

theorem lo_piece (s : Fin 2) (n : Fin 8) (p ct : Fin 2) (q : ℕ) (hq : q = 256 * ct.val) (ib : ∀ a, ![s.val, 0, q] a + S1x512x128.size a ≤ S2x512x512.size a) (x : S1x512x128.Idx) :
    decLo (rdS arg7 harg7 x6 n) (rdC arg6 harg6 x5 n p ct) (base i p.val ct.val) x = Wslot i x5 x6 n p ((Rect.unit (s := S2x512x512) ![s.val, 0, q] S1x512x128.size ib).emb x) := by
  subst hq
  have h2 : (x 2).val < 128 := (x 2).isLt
  have h1 : (x 1).val < 512 := (x 1).isLt
  rw [base_eq, lo_apply]
  unfold Wslot Wt rdS rdC
  rw [read_block arg7 harg7 x6, read_block arg6 harg6 x5]
  have en : nib (((Rect.unit (s := S2x512x512) ![s.val, 0, 256 * ct.val] S1x512x128.size ib).emb x 2).val % 256 / 128) = fun b : BitVec 8 => b.setWidth 32 &&& 15#32 := by
    funext b; unfold nib; rw [if_pos]; simp [Rect.emb, Rect.unit]; omega
  rw [en]
  congr 1
  · congr 3
    congr 1
    funext a; apply Fin.ext; fin_cases a
    · simp [Rect.emb, Rect.unit, ix2]
    · simp [Rect.emb, Rect.unit, ix2]; omega
  · congr 1
    funext a; apply Fin.ext; fin_cases a
    · simp [Rect.emb, Rect.unit, ix2]
    · simp [Rect.emb, Rect.unit, ix2]; omega

theorem hi_piece (s : Fin 2) (n : Fin 8) (p ct : Fin 2) (q : ℕ) (hq : q = 256 * ct.val + 128) (ib : ∀ a, ![s.val, 0, q] a + S1x512x128.size a ≤ S2x512x512.size a) (x : S1x512x128.Idx) :
    decHi (rdS arg7 harg7 x6 n) (rdC arg6 harg6 x5 n p ct) (base i p.val ct.val) x = Wslot i x5 x6 n p ((Rect.unit (s := S2x512x512) ![s.val, 0, q] S1x512x128.size ib).emb x) := by
  subst hq
  have h2 : (x 2).val < 128 := (x 2).isLt
  have h1 : (x 1).val < 512 := (x 1).isLt
  rw [base_eq, hi_apply]
  unfold Wslot Wt rdS rdC
  rw [read_block arg7 harg7 x6, read_block arg6 harg6 x5]
  have en : nib (((Rect.unit (s := S2x512x512) ![s.val, 0, 256 * ct.val + 128] S1x512x128.size ib).emb x 2).val % 256 / 128) = fun b : BitVec 8 => b.setWidth 32 >>> 4 := by
    funext b; unfold nib; rw [if_neg]; simp [Rect.emb, Rect.unit]; omega
  rw [en]
  congr 1
  · congr 3
    congr 1
    funext a; apply Fin.ext; fin_cases a
    · simp [Rect.emb, Rect.unit, ix2]
    · simp [Rect.emb, Rect.unit, ix2]; omega
  · congr 1
    funext a; apply Fin.ext; fin_cases a
    · simp [Rect.emb, Rect.unit, ix2]
    · simp [Rect.emb, Rect.unit, ix2]; omega

theorem dec4_pieces (s : Fin 2) (n : Fin 8) (p : Fin 2) :
    (∀ q ∈ dec4 arg6 harg6 arg7 harg7 i x5 x6 s n p, ∀ x : q.1.shape.Idx, q.2 x = Wslot i x5 x6 n p (q.1.emb x))
    ∧ (∀ y : S2x512x512.Idx, (y 0).val = s.val → ∃ q ∈ dec4 arg6 harg6 arg7 harg7 i x5 x6 s n p, y ∈ q.1.set)
    ∧ ∀ y : S2x512x512.Idx, (y 0).val ≠ s.val → ∀ q ∈ dec4 arg6 harg6 arg7 harg7 i x5 x6 s n p, y ∉ q.1.set := by
  refine ⟨fun q hq => ?_, fun y h0 => ?_, fun y h0 q hq => ?_⟩
  · rcases List.mem_cons.mp hq with rfl | hq
    · exact fun x => hi_piece arg6 harg6 arg7 harg7 i x5 x6 s n p 1 384 rfl (slot_inb s 384 (by omega)) x
    rcases List.mem_cons.mp hq with rfl | hq
    · exact fun x => lo_piece arg6 harg6 arg7 harg7 i x5 x6 s n p 1 256 rfl (slot_inb s 256 (by omega)) x
    rcases List.mem_cons.mp hq with rfl | hq
    · exact fun x => hi_piece arg6 harg6 arg7 harg7 i x5 x6 s n p 0 128 rfl (slot_inb s 128 (by omega)) x
    rcases List.mem_cons.mp hq with rfl | hq
    · exact fun x => lo_piece arg6 harg6 arg7 harg7 i x5 x6 s n p 0 0 rfl (slot_inb s 0 (by omega)) x
    · exact absurd hq List.not_mem_nil
  · have h1 : (y 1).val < 512 := (y 1).isLt
    have h2 : (y 2).val < 512 := (y 2).isLt
    have key : ∀ (q : ℕ) (ib : ∀ a, ![s.val, 0, q] a + S1x512x128.size a ≤ S2x512x512.size a), q ≤ (y 2).val → (y 2).val < q + 128 →
        y ∈ (Rect.unit (s := S2x512x512) ![s.val, 0, q] S1x512x128.size ib).set := by
      intro q ib hq1 hq2
      rw [Rect.mem_set_unit]; intro a; fin_cases a
      · simp; omega
      · simp; omega
      · simp; omega
    by_cases c3 : 384 ≤ (y 2).val
    · exact ⟨_, List.mem_cons_self, key 384 (slot_inb s 384 (by omega)) c3 (by omega)⟩
    by_cases c2 : 256 ≤ (y 2).val
    · exact ⟨_, List.mem_cons_of_mem _ List.mem_cons_self, key 256 (slot_inb s 256 (by omega)) c2 (by omega)⟩
    by_cases c1 : 128 ≤ (y 2).val
    · exact ⟨_, List.mem_cons_of_mem _ (List.mem_cons_of_mem _ List.mem_cons_self), key 128 (slot_inb s 128 (by omega)) c1 (by omega)⟩
    · exact ⟨_, List.mem_cons_of_mem _ (List.mem_cons_of_mem _ (List.mem_cons_of_mem _ List.mem_cons_self)), key 0 (slot_inb s 0 (by omega)) (by omega) (by omega)⟩
  · have key : ∀ (q : ℕ) (ib : ∀ a, ![s.val, 0, q] a + S1x512x128.size a ≤ S2x512x512.size a),
        y ∉ (Rect.unit (s := S2x512x512) ![s.val, 0, q] S1x512x128.size ib).set := by
      intro q ib hm
      rw [Rect.mem_set_unit] at hm
      have h := hm 0
      simp at h
      omega
    rcases List.mem_cons.mp hq with rfl | hq
    · exact key 384 (slot_inb s 384 (by omega))
    rcases List.mem_cons.mp hq with rfl | hq
    · exact key 256 (slot_inb s 256 (by omega))
    rcases List.mem_cons.mp hq with rfl | hq
    · exact key 128 (slot_inb s 128 (by omega))
    rcases List.mem_cons.mp hq with rfl | hq
    · exact key 0 (slot_inb s 0 (by omega))
    · exact absurd hq List.not_mem_nil

/-- Stores that do not touch an index do not matter there. -/
theorem canon_append_of_not_mem {s : Shape} {e : EltTy} (L' : List (View.Piece (Elt Ideal) s e)) (y : s.Idx) :
    ∀ L : List (View.Piece (Elt Ideal) s e), (∀ q ∈ L, y ∉ q.1.set) → View.canon (L ++ L') y = View.canon L' y
  | [], _ => rfl
  | q :: L, h => by
    rw [List.cons_append, View.canon_cons_of_not_mem _ _ (h q List.mem_cons_self)]
    exact canon_append_of_not_mem L' y L fun r hr => h r (List.mem_cons_of_mem _ hr)

/-- The last decoding's slot holds its weights; -/
theorem wd_last (g : ℕ) (y : S2x512x512.Idx) (hy : (y 0).val = g % 2) :
    View.canon (wdL arg6 harg6 arg7 harg7 i x5 x6 (g + 1)) y = Wslot i x5 x6 ⟨g % 8, Nat.mod_lt _ (by omega)⟩ ⟨g / 8 % 2, Nat.mod_lt _ (by omega)⟩ y := by
  obtain ⟨h1, h2, h3⟩ := dec4_pieces arg6 harg6 arg7 harg7 i x5 x6 ⟨g % 2, Nat.mod_lt _ (by omega)⟩ ⟨g % 8, Nat.mod_lt _ (by omega)⟩ ⟨g / 8 % 2, Nat.mod_lt _ (by omega)⟩
  exact View.canon_append_of_pieces _ _ _ h1 y (h2 y hy)

/-- and still holds them after the next decoding, which goes to the other slot. -/
theorem wd_before (g : ℕ) (y : S2x512x512.Idx) (hy : (y 0).val = g % 2) :
    View.canon (wdL arg6 harg6 arg7 harg7 i x5 x6 (g + 2)) y = Wslot i x5 x6 ⟨g % 8, Nat.mod_lt _ (by omega)⟩ ⟨g / 8 % 2, Nat.mod_lt _ (by omega)⟩ y := by
  obtain ⟨h1, h2, h3⟩ := dec4_pieces arg6 harg6 arg7 harg7 i x5 x6 ⟨(g + 1) % 2, Nat.mod_lt _ (by omega)⟩ ⟨(g + 1) % 8, Nat.mod_lt _ (by omega)⟩ ⟨(g + 1) / 8 % 2, Nat.mod_lt _ (by omega)⟩
  refine (canon_append_of_not_mem _ y _ (h3 y (by show _ ≠ (g + 1) % 2; omega))).trans ?_
  exact wd_last arg6 harg6 arg7 harg7 i x5 x6 g y hy

/-- How many decodings come before the product of block `g`. -/
def ahead (g : ℕ) : ℕ := 8 * (g / 8) + cond (Nat.blt (g % 8) 6) (g % 8 + 2) 8

/-- The load of the weights of block `g`. -/
def rdW (g : ℕ) : Vec Ideal S1x512x512 .bf16 :=
  arg12.view.readCov (wdL arg6 harg6 arg7 harg7 i x5 x6 (ahead g)) (Rect.unit (s := S2x512x512) ![(⟨g % 2, Nat.mod_lt _ (by omega)⟩ : Fin 2).val, 0, 0] S1x512x512.size (whole_slot_inb ⟨g % 2, Nat.mod_lt _ (by omega)⟩)).toLoadRect

theorem rdW_apply (g : ℕ) (j : S1x512x512.Idx) :
    rdW arg6 harg6 arg7 harg7 arg12 i x5 x6 g j = Wt x5 x6 (quarter i ⟨g / 8 % 2, Nat.mod_lt _ (by omega)⟩) ⟨g / 8 % 2, Nat.mod_lt _ (by omega)⟩
      ⟨512 * (g % 8) + (j 1).val, by have : (j 1).val < 512 := (j 1).isLt; omega⟩ (j 2) := by
  unfold rdW
  rw [View.readCov_eq_canon']
  have h0 : (j 0).val < 1 := (j 0).isLt
  have hs : (((Rect.unit (s := S2x512x512) ![(⟨g % 2, Nat.mod_lt _ (by omega)⟩ : Fin 2).val, 0, 0] S1x512x512.size (whole_slot_inb ⟨g % 2, Nat.mod_lt _ (by omega)⟩)).emb j) 0).val = g % 2 := by
    simp [Rect.emb, Rect.unit]; omega
  have fin : Wslot i x5 x6 ⟨g % 8, Nat.mod_lt _ (by omega)⟩ ⟨g / 8 % 2, Nat.mod_lt _ (by omega)⟩
      ((Rect.unit (s := S2x512x512) ![(⟨g % 2, Nat.mod_lt _ (by omega)⟩ : Fin 2).val, 0, 0] S1x512x512.size (whole_slot_inb ⟨g % 2, Nat.mod_lt _ (by omega)⟩)).emb j)
      = Wt x5 x6 (quarter i ⟨g / 8 % 2, Nat.mod_lt _ (by omega)⟩) ⟨g / 8 % 2, Nat.mod_lt _ (by omega)⟩
      ⟨512 * (g % 8) + (j 1).val, by have : (j 1).val < 512 := (j 1).isLt; omega⟩ (j 2) := by
    unfold Wslot
    congr 1
    · apply Fin.ext; simp [Rect.emb, Rect.unit]
    · apply Fin.ext; simp [Rect.emb, Rect.unit]
  refine Eq.trans ?_ fin
  by_cases c : g % 8 < 7
  · have e : ahead g = g + 2 := by
      unfold ahead
      by_cases c' : g % 8 < 6
      · rw [show Nat.blt (g % 8) 6 = true from by simpa [Nat.blt_eq] using c']; show 8 * (g / 8) + (g % 8 + 2) = g + 2; omega
      · rw [show Nat.blt (g % 8) 6 = false from by rw [Bool.eq_false_iff]; simpa [Nat.blt_eq] using c']; show 8 * (g / 8) + 8 = g + 2; omega
    rw [e]
    exact wd_before arg6 harg6 arg7 harg7 i x5 x6 g _ hs
  · have e : ahead g = g + 1 := by
      unfold ahead
      rw [show Nat.blt (g % 8) 6 = false from by rw [Bool.eq_false_iff]; simp [Nat.blt_eq]; omega]; show 8 * (g / 8) + 8 = g + 1; omega
    rw [e]
    exact wd_last arg6 harg6 arg7 harg7 i x5 x6 g _ hs

/-! ## The accumulator -/

/-- One product added to a block of the accumulator, at an index. -/
theorem dot_apply (A : Vec Ideal S512x512 .f32) (D : Vec Ideal S512x512 .bf16) (W : Vec Ideal S1x512x512 .bf16) (x : S512x512.Idx) :
    k0_pay47 A D W x = A x + ∑ k : Fin 512, D (ix2 (x 0) k) * W (ix3 (0 : Fin 1) (x 1) k) := by
  pointwise [k0_pay47]

theorem acc_inb (m : Fin 3) (n : Fin 8) : ∀ a, ![512 * m.val, 512 * n.val] a + S512x512.size a ≤ S1536x4096.size a := by
  intro a; fin_cases a
  · simp; omega
  · simp; omega

/-- The block of the accumulator that product `t` of a point goes to. -/
abbrev accRect (t : ℕ) : Rect S1536x4096 :=
  Rect.unit (s := S1536x4096) ![512 * (⟨t % 3, Nat.mod_lt _ (by omega)⟩ : Fin 3).val, 512 * (⟨t / 3 % 8, Nat.mod_lt _ (by omega)⟩ : Fin 8).val] S512x512.size
    (acc_inb ⟨t % 3, Nat.mod_lt _ (by omega)⟩ ⟨t / 3 % 8, Nat.mod_lt _ (by omega)⟩)

/-- The stores of the first `t` products of a point, after the stores `L0`. -/
def accL (rd : ℕ → List (View.Piece (Elt Ideal) S1536x4096 .f32) → Vec Ideal S512x512 .f32) (L0 : List (View.Piece (Elt Ideal) S1536x4096 .f32))
    (dR : ℕ → Fin 3 → Vec Ideal S512x512 .bf16) (wR : ℕ → Vec Ideal S1x512x512 .bf16) : ℕ → List (View.Piece (Elt Ideal) S1536x4096 .f32)
  | 0 => L0
  | t + 1 => ⟨accRect t, k0_pay47 (rd t (accL rd L0 dR wR t)) (dR (t / 24) ⟨t % 3, Nat.mod_lt _ (by omega)⟩) (wR (t / 3))⟩ :: accL rd L0 dR wR t

/-- The number of an index's block. -/
def blk (y : S1536x4096.Idx) : ℕ := 3 * ((y 1).val / 512) + (y 0).val / 512

theorem mem_accRect (t : ℕ) (y : S1536x4096.Idx) : y ∈ (accRect t).set ↔ blk y = t % 24 := by
  have h0 : (y 0).val < 1536 := (y 0).isLt
  have h1 : (y 1).val < 4096 := (y 1).isLt
  rw [Rect.mem_set_unit]
  unfold blk
  constructor
  · intro h
    have a0 := h 0
    have a1 := h 1
    simp at a0 a1
    omega
  · intro h a
    fin_cases a
    · simp; omega
    · simp; omega

/-- The sum that a phase adds to an entry of the accumulator. -/
def phase (D : Vec Ideal S1536x512 .bf16) (W : Fin 4096 → Fin 512 → EReal) (y : S1536x4096.Idx) : EReal := ∑ k : Fin 512, D (ix2 (y 0) k) * W (y 1) k

/-- What the accumulator holds after the first `t` products of a point. -/
theorem accL_canon (Z : Prop) (a0 : Vec Ideal S1536x4096 .f32) (D : ℕ → Vec Ideal S1536x512 .bf16) (W : ℕ → Fin 4096 → Fin 512 → EReal)
    (rd : ℕ → List (View.Piece (Elt Ideal) S1536x4096 .f32) → Vec Ideal S512x512 .f32) (L0 : List (View.Piece (Elt Ideal) S1536x4096 .f32))
    (dR : ℕ → Fin 3 → Vec Ideal S512x512 .bf16) (wR : ℕ → Vec Ideal S1x512x512 .bf16)
    (h0 : Z → ∀ y, View.canon L0 y = a0 y)
    (hd : ∀ p < 2, ∀ (m : Fin 3) (j : S512x512.Idx), dR p m j = D p (ix2 ⟨512 * m.val + (j 0).val, by have : (j 0).val < 512 := (j 0).isLt; omega⟩ (j 1)))
    (hw : ∀ g < 16, ∀ j : S1x512x512.Idx, wR g j = W (g / 8) ⟨512 * (g % 8) + (j 1).val, by have : (j 1).val < 512 := (j 1).isLt; omega⟩ (j 2))
    (hrd : ∀ t < 48, ∀ j : S512x512.Idx, ((Z ∨ 24 ≤ t) ∧ rd t (accL rd L0 dR wR t) j = View.canon (accL rd L0 dR wR t) ((accRect t).emb j))
      ∨ (t < 24 ∧ rd t (accL rd L0 dR wR t) j = a0 ((accRect t).emb j)))
    (t : ℕ) (ht : t ≤ 48) (y : S1536x4096.Idx) (hy : Z ∨ blk y < t) :
    View.canon (accL rd L0 dR wR t) y = a0 y + (if blk y < t then phase (D 0) (W 0) y else 0) + (if blk y + 24 < t then phase (D 1) (W 1) y else 0) := by
  induction t generalizing y with
  | zero =>
    rw [if_neg (by omega), if_neg (by omega), add_zero, add_zero]
    exact h0 (hy.resolve_right (Nat.not_lt_zero _)) y
  | succ t ih =>
    have hb : blk y < 24 := by
      have h0 : (y 0).val < 1536 := (y 0).isLt
      have h1 : (y 1).val < 4096 := (y 1).isLt
      unfold blk; omega
    by_cases hm : y ∈ (accRect t).set
    · have hbt := (mem_accRect t y).mp hm
      obtain ⟨x, rfl⟩ := (accRect t).exists_idx_of_mem hm
      rw [show (accRect t).idx x = (accRect t).emb x from rfl] at *
      have hsum : ∀ p < 2, t / 24 = p → ∑ k : Fin 512, dR (t / 24) ⟨t % 3, Nat.mod_lt _ (by omega)⟩ (ix2 (x 0) k) * wR (t / 3) (ix3 (0 : Fin 1) (x 1) k) = phase (D p) (W p) ((accRect t).emb x) := by
        intro p hp e
        unfold phase
        refine Finset.sum_congr rfl fun k _ => ?_
        rw [hd (t / 24) (by omega), hw (t / 3) (by omega), e, show t / 3 / 8 = p by omega]
        congr 2
        · funext a; apply Fin.ext; fin_cases a
          · simp [Rect.emb, Rect.unit, ix2]
          · simp [ix2]
        · apply Fin.ext; simp [Rect.emb, Rect.unit, ix3]
      have e1 : View.canon (accL rd L0 dR wR (t + 1)) ((accRect t).emb x) = k0_pay47 (rd t (accL rd L0 dR wR t)) (dR (t / 24) ⟨t % 3, Nat.mod_lt _ (by omega)⟩) (wR (t / 3)) x :=
        View.canon_cons_emb (accRect t) _ _ x
      rw [e1, dot_apply]
      by_cases c : t < 24
      · have hrv : rd t (accL rd L0 dR wR t) x = a0 ((accRect t).emb x) := by
          rcases hrd t (by omega) x with ⟨hz, e⟩ | ⟨_, e⟩
          · rw [e, ih (by omega) _ (.inl (hz.resolve_right (by omega))), if_neg (by omega), if_neg (by omega), add_zero, add_zero]
          · exact e
        rw [hrv, hsum 0 (by omega) (by omega), if_pos (by omega), if_neg (by omega), add_zero]
      · have hrv : rd t (accL rd L0 dR wR t) x = a0 ((accRect t).emb x) + phase (D 0) (W 0) ((accRect t).emb x) := by
          rcases hrd t (by omega) x with ⟨hz, e⟩ | ⟨h, _⟩
          · rw [e, ih (by omega) _ (.inr (by omega)), if_pos (by omega), if_neg (by omega), add_zero]
          · exact absurd h c
        rw [hrv, hsum 1 (by omega) (by omega), if_pos (by omega), if_pos (by omega)]
    · have hbt : blk y ≠ t % 24 := fun h => hm ((mem_accRect t y).mpr h)
      have e1 : View.canon (accL rd L0 dR wR (t + 1)) y = View.canon (accL rd L0 dR wR t) y := View.canon_cons_of_not_mem _ _ hm
      rw [e1, ih (by omega) y (hy.imp_right (by omega)), if_congr (show blk y < t + 1 ↔ blk y < t by omega) rfl rfl,
        if_congr (show blk y + 24 < t + 1 ↔ blk y + 24 < t by omega) rfl rfl]

end Cert.DxIdeal.Val

end

end
-- ==== Proof.DxPoint.lean ====
module

public import proofs.«01_k».proof.Proof.Gen.DxIdeal.Frame
public import proofs.«01_k».proof.Proof.DxLists
public import Idealize.ShloMosaic.Lib.Tactic

@[expose] public section

set_option maxRecDepth 16384

noncomputable section

namespace Cert.DxIdeal.Val

open Cert.DxIdeal Cert.DxIdeal.Gen Idealize.ShloMosaic Idealize.ShloMosaic.TcCoe Idealize.SL.Sem

variable (c : Dev nD) (i : grid0.Coords) (arg1 : Memref sig .tc .smem S1 .f32) (harg1 : arg1.IsWhole) (arg2 : Memref sig .tc .smem S1 .f32) (harg2 : arg2.IsWhole)
  (arg3 : Memref sig .tc .vmem S1536x512 .bf16) (harg3 : arg3.IsWhole) (arg4 : Memref sig .tc .vmem S1536x512 .bf16) (harg4 : arg4.IsWhole)
  (arg5 : Memref sig .tc .vmem S1536x512 .bf16) (harg5 : arg5.IsWhole) (arg6 : Memref sig .tc .vmem S4096x512 .i8) (harg6 : arg6.IsWhole)
  (arg7 : Memref sig .tc .vmem S4096x128 .fp8e4m3) (harg7 : arg7.IsWhole) (arg8 : Memref sig .tc .vmem S1536x4096 .bf16) (harg8 : arg8.IsWhole)
  (arg9 : Memref sig .tc .vmem S1536x4096 .f32) (harg9 : arg9.IsWhole) (arg10 : Memref sig .tc .vmem S1536x512 .bf16) (harg10 : arg10.IsWhole)
  (arg11 : Memref sig .tc .vmem S1536x512 .bf16) (harg11 : arg11.IsWhole) (arg12 : Memref sig .tc .vmem S2x512x512 .bf16) (harg12 : arg12.IsWhole)
  (x0 x1 : Vec Ideal S1 .f32) (x2 x3 x4 : Vec Ideal S1536x512 .bf16) (x5 : Vec Ideal S4096x512 .i8) (x6 : Vec Ideal S4096x128 .fp8e4m3)
  (xs0 : Vec Ideal S1536x4096 .f32) (xs1 : Vec Ideal S1536x512 .bf16)

theorem tile_inb (m : Fin 3) : ∀ a, ![512 * m.val, 0] a + S512x512.size a ≤ S1536x512.size a := by
  intro a; fin_cases a
  · simp; omega
  · simp

/-- Rows `512 m …` of a tile. -/
abbrev tileRect (m : Fin 3) : Rect S1536x512 := Rect.unit (s := S1536x512) ![512 * m.val, 0] S512x512.size (tile_inb m)

/-- The loads of the accumulator where an earlier point left it: of that until a block has been stored to. -/
def rdOld (t : ℕ) (L : List (View.Piece (Elt Ideal) S1536x4096 .f32)) : Vec Ideal S512x512 .f32 :=
  cond (Nat.blt t 24) (View.readAt (Elt Ideal) arg9.view (accRect t).toLoadRect (harg9.unread xs0)) (arg9.view.readCov L (accRect t).toLoadRect)
/-- The loads of the accumulator at the first point, where it is cleared first. -/
def rdNew (t : ℕ) (L : List (View.Piece (Elt Ideal) S1536x4096 .f32)) : Vec Ideal S512x512 .f32 := arg9.view.readCov L (accRect t).toLoadRect
/-- The loads of the two tiles, where an earlier point left the first. -/
def dOld (p : ℕ) (m : Fin 3) : Vec Ideal S512x512 .bf16 :=
  cond (Nat.beq p 0) (View.readAt (Elt Ideal) arg10.view (tileRect m).toLoadRect (harg10.unread xs1)) (arg11.view.readCov (unitL arg4 (harg4.unread x3) 96) (tileRect m).toLoadRect)
/-- The stores of the loop that fills the first tile at the first point. -/
abbrev loopL (hc0 : cond0_0 i) : List (View.Piece (Elt Ideal) S1536x512 .bf16) :=
  pb_k0_t1 (F := Ideal) Variants.none c none i arg1 harg1 arg2 harg2 arg3 harg3 arg4 harg4 arg5 harg5 arg6 harg6 arg7 harg7 arg8 harg8 arg9 harg9 arg10 harg10 arg11 harg11 arg12 harg12 hc0 (harg3.unread x2) (Scf.trips k0_t1_loop.lb k0_t1_loop.ub k0_t1_loop.st)
/-- The loads of the two tiles at the first point. -/
def dNew (hc0 : cond0_0 i) (p : ℕ) (m : Fin 3) : Vec Ideal S512x512 .bf16 :=
  cond (Nat.beq p 0) (arg10.view.readCov (loopL c i arg1 harg1 arg2 harg2 arg3 harg3 arg4 harg4 arg5 harg5 arg6 harg6 arg7 harg7 arg8 harg8 arg9 harg9 arg10 harg10 arg11 harg11 arg12 harg12 x2 hc0) (tileRect m).toLoadRect)
    (arg11.view.readCov (unitL arg4 (harg4.unread x3) 96) (tileRect m).toLoadRect)
/-- The clearing of the accumulator. -/
abbrev zeroL : List (View.Piece (Elt Ideal) S1536x4096 .f32) :=
  [⟨Rect.unit (s := S1536x4096) ![0, 0] S1536x4096.size inb_S1536x4096_S1536x4096_0_0, k0_pay18 (F := Ideal)⟩]

/-! ## The loop that de-interleaves the first tile -/

theorem off1 : ∀ k : Fin k0_t1_loop.trips, k0_off1 k = ![32 * k.val, 256 * (0 : Fin 2).val + 0] := by decide +kernel
theorem off2 : ∀ k : Fin k0_t1_loop.trips, k0_off2 k = ![32 * k.val, 256 * (0 : Fin 2).val + 128] := by decide +kernel
theorem off3 : ∀ k : Fin k0_t1_loop.trips, k0_off3 k = ![32 * k.val, 256 * (1 : Fin 2).val + 0] := by decide +kernel
theorem off4 : ∀ k : Fin k0_t1_loop.trips, k0_off4 k = ![32 * k.val, 256 * (1 : Fin 2).val + 128] := by decide +kernel

/-- A trip's stores, at offsets that are functions of the trip, are those of two units. -/
theorem two_units (m : Memref sig .tc .vmem S1536x512 .bf16) (X : BufTy.Contents (Elt Ideal) m.view.ty) (r : Fin 48) (o1 o2 o3 o4 : Fin 2 → ℕ)
    (e1 : o1 = ![32 * r.val, 256 * (0 : Fin 2).val + 0]) (e2 : o2 = ![32 * r.val, 256 * (0 : Fin 2).val + 128])
    (e3 : o3 = ![32 * r.val, 256 * (1 : Fin 2).val + 0]) (e4 : o4 = ![32 * r.val, 256 * (1 : Fin 2).val + 128])
    (i1 : ∀ a, o1 a + S32x128.size a ≤ S1536x512.size a) (i2 : ∀ a, o2 a + S32x128.size a ≤ S1536x512.size a)
    (i3 : ∀ a, o3 a + S32x128.size a ≤ S1536x512.size a) (i4 : ∀ a, o4 a + S32x128.size a ≤ S1536x512.size a) :
    ([⟨Rect.unit (s := S1536x512) o4 S32x128.size i4, unitOdd (View.readAt (Elt Ideal) m.view (Rect.unit (s := S1536x512) o3 S32x128.size i3).toLoadRect X) (View.readAt (Elt Ideal) m.view (Rect.unit (s := S1536x512) o4 S32x128.size i4).toLoadRect X)⟩,
      ⟨Rect.unit (s := S1536x512) o3 S32x128.size i3, unitEven (View.readAt (Elt Ideal) m.view (Rect.unit (s := S1536x512) o3 S32x128.size i3).toLoadRect X) (View.readAt (Elt Ideal) m.view (Rect.unit (s := S1536x512) o4 S32x128.size i4).toLoadRect X)⟩,
      ⟨Rect.unit (s := S1536x512) o2 S32x128.size i2, unitOdd (View.readAt (Elt Ideal) m.view (Rect.unit (s := S1536x512) o1 S32x128.size i1).toLoadRect X) (View.readAt (Elt Ideal) m.view (Rect.unit (s := S1536x512) o2 S32x128.size i2).toLoadRect X)⟩,
      ⟨Rect.unit (s := S1536x512) o1 S32x128.size i1, unitEven (View.readAt (Elt Ideal) m.view (Rect.unit (s := S1536x512) o1 S32x128.size i1).toLoadRect X) (View.readAt (Elt Ideal) m.view (Rect.unit (s := S1536x512) o2 S32x128.size i2).toLoadRect X)⟩]
      : List (View.Piece (Elt Ideal) S1536x512 .bf16)) = unit2 m X r 1 ++ unit2 m X r 0 := by
  subst e1 e2 e3 e4
  rfl

theorem trips_eq : k0_t1_loop.trips = 48 := by decide +kernel

theorem trip_eq (hc0 : cond0_0 i) (X : BufTy.Contents (Elt Ideal) arg3.view.ty) (k : Fin k0_t1_loop.trips) :
    tripL_k0_t1 (F := Ideal) Variants.none c none i arg1 harg1 arg2 harg2 arg3 harg3 arg4 harg4 arg5 harg5 arg6 harg6 arg7 harg7 arg8 harg8 arg9 harg9 arg10 harg10 arg11 harg11 arg12 harg12 hc0 X k = unit2 arg3 X ⟨k.val, lt_of_lt_of_eq k.isLt trips_eq⟩ 1 ++ unit2 arg3 X ⟨k.val, lt_of_lt_of_eq k.isLt trips_eq⟩ 0 := by
  refine Eq.trans ?_ (two_units arg3 X ⟨k.val, lt_of_lt_of_eq k.isLt trips_eq⟩ _ _ _ _ (off1 k) (off2 k) (off3 k) (off4 k) (k0_off1_inb i k hc0) (k0_off2_inb i k hc0) (k0_off3_inb i k hc0) (k0_off4_inb i k hc0))
  unfold tripL_k0_t1 trip_k0_t1
  rfl

/-- After some trips the stores are de-interleaved blocks of the tile and cover its first rows. -/
theorem loop_pieces (hc0 : cond0_0 i) (n : ℕ) (hn : n ≤ k0_t1_loop.trips) :
    (∀ p ∈ pb_k0_t1 (F := Ideal) Variants.none c none i arg1 harg1 arg2 harg2 arg3 harg3 arg4 harg4 arg5 harg5 arg6 harg6 arg7 harg7 arg8 harg8 arg9 harg9 arg10 harg10 arg11 harg11 arg12 harg12 hc0 (harg3.unread x2) n, ∀ x : p.1.shape.Idx, p.2 x = Q x2 (p.1.emb x))
    ∧ ∀ y : S1536x512.Idx, (y 0).val / 32 < n → ∃ p ∈ pb_k0_t1 (F := Ideal) Variants.none c none i arg1 harg1 arg2 harg2 arg3 harg3 arg4 harg4 arg5 harg5 arg6 harg6 arg7 harg7 arg8 harg8 arg9 harg9 arg10 harg10 arg11 harg11 arg12 harg12 hc0 (harg3.unread x2) n, y ∈ p.1.set := by
  induction n with
  | zero => exact ⟨fun p hp => absurd hp List.not_mem_nil, fun y hy => absurd hy (Nat.not_lt_zero _)⟩
  | succ n ih =>
    obtain ⟨ih1, ih2⟩ := ih (Nat.le_of_succ_le hn)
    have e := pb_k0_t1_succ (F := Ideal) Variants.none c none i arg1 harg1 arg2 harg2 arg3 harg3 arg4 harg4 arg5 harg5 arg6 harg6 arg7 harg7 arg8 harg8 arg9 harg9 arg10 harg10 arg11 harg11 arg12 harg12 hc0 (harg3.unread x2) ⟨n, hn⟩
    simp only at e
    rw [e, trip_eq]
    have a := unit2_pieces arg3 harg3 x2 ⟨n, lt_of_lt_of_eq hn trips_eq⟩
    refine ⟨fun p hp => ?_, fun y hy => ?_⟩
    · rcases List.mem_append.mp hp with h | h
      · rcases List.mem_append.mp h with h | h
        · exact (a 1).1 p h
        · exact (a 0).1 p h
      · exact ih1 p h
    · by_cases hlt : (y 0).val / 32 < n
      · obtain ⟨p, hp, hy'⟩ := ih2 y hlt
        exact ⟨p, List.mem_append.mpr (.inr hp), hy'⟩
      · have h1 : (y 1).val < 512 := (y 1).isLt
        by_cases c1 : 256 ≤ (y 1).val
        · obtain ⟨p, hp, hy'⟩ := (a 1).2 y (by show _ = n; omega) (by show _ = 1; omega)
          exact ⟨p, List.mem_append.mpr (.inl (List.mem_append.mpr (.inl hp))), hy'⟩
        · obtain ⟨p, hp, hy'⟩ := (a 0).2 y (by show _ = n; omega) (by show _ = 0; omega)
          exact ⟨p, List.mem_append.mpr (.inl (List.mem_append.mpr (.inr hp))), hy'⟩

theorem loop_canon (hc0 : cond0_0 i) : View.canon (loopL c i arg1 harg1 arg2 harg2 arg3 harg3 arg4 harg4 arg5 harg5 arg6 harg6 arg7 harg7 arg8 harg8 arg9 harg9 arg10 harg10 arg11 harg11 arg12 harg12 x2 hc0) = Q x2 := by
  have ht : Scf.trips k0_t1_loop.lb k0_t1_loop.ub k0_t1_loop.st = 48 := by decide +kernel
  obtain ⟨h1, h2⟩ := loop_pieces c i arg1 harg1 arg2 harg2 arg3 harg3 arg4 harg4 arg5 harg5 arg6 harg6 arg7 harg7 arg8 harg8 arg9 harg9 arg10 harg10 arg11 harg11 arg12 harg12 x2 hc0 (Scf.trips k0_t1_loop.lb k0_t1_loop.ub k0_t1_loop.st) (Nat.le_refl _)
  funext y
  refine View.canon_apply_of_pieces (Q x2) _ h1 y (h2 y ?_)
  have h0 : (y 0).val < 1536 := (y 0).isLt
  rw [ht]; omega

/-! ## The lists of stores of a point -/

theorem acc_A (hc0 : cond0_0 i) (hc1 : ¬cond0_1 i) : (kernelRun0_A (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.1 = accL (rdNew arg9) zeroL (dNew c i arg1 harg1 arg2 harg2 arg3 harg3 arg4 harg4 arg5 harg5 arg6 harg6 arg7 harg7 arg8 harg8 arg9 harg9 arg10 harg10 arg11 harg11 arg12 harg12 x2 x3 hc0) (rdW arg6 harg6 arg7 harg7 arg12 i x5 x6) 48 := by
  sl_kernel_rfl
theorem d0_A (hc0 : cond0_0 i) (hc1 : ¬cond0_1 i) : (kernelRun0_A (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.2.1 = unitL arg5 (harg5.unread x4) 96 ++ loopL c i arg1 harg1 arg2 harg2 arg3 harg3 arg4 harg4 arg5 harg5 arg6 harg6 arg7 harg7 arg8 harg8 arg9 harg9 arg10 harg10 arg11 harg11 arg12 harg12 x2 hc0 := by
  sl_kernel_rfl

theorem acc_B (hc0 : ¬cond0_0 i) (hc1 : ¬cond0_1 i) : (kernelRun0_B (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1 = accL (rdOld arg9 harg9 xs0) [] (dOld arg4 harg4 arg10 harg10 arg11 x3 xs1) (rdW arg6 harg6 arg7 harg7 arg12 i x5 x6) 48 := by
  sl_kernel_rfl
theorem d0_B (hc0 : ¬cond0_0 i) (hc1 : ¬cond0_1 i) : (kernelRun0_B (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1 = unitL arg5 (harg5.unread x4) 96 := by
  sl_kernel_rfl

theorem acc_C (hc0 : ¬cond0_0 i) (hc1 : cond0_1 i) : (kernelRun0_C (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1 = accL (rdOld arg9 harg9 xs0) [] (dOld arg4 harg4 arg10 harg10 arg11 x3 xs1) (rdW arg6 harg6 arg7 harg7 arg12 i x5 x6) 48 := by
  sl_kernel_rfl
theorem d0_C (hc0 : ¬cond0_0 i) (hc1 : cond0_1 i) : (kernelRun0_C (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1 = unitL arg5 (harg5.unread x4) 96 := by
  sl_kernel_rfl

/-! ## What a point leaves -/

/-- The weights of the two phases of a point. -/
def Wp (p : ℕ) : Fin 4096 → Fin 512 → EReal := Wt x5 x6 (quarter i ⟨p % 2, Nat.mod_lt _ (by omega)⟩) ⟨p % 2, Nat.mod_lt _ (by omega)⟩

theorem tile_emb (m : Fin 3) (j : S512x512.Idx) : (tileRect m).emb j = ix2 ⟨512 * m.val + (j 0).val, by have : (j 0).val < 512 := (j 0).isLt; omega⟩ (j 1) := by
  funext a; apply Fin.ext; fin_cases a
  · simp [Rect.emb, Rect.unit, ix2]
  · simp [Rect.emb, Rect.unit, ix2]

theorem second_tile (m : Fin 3) (j : S512x512.Idx) :
    arg11.view.readCov (unitL arg4 (harg4.unread x3) 96) (tileRect m).toLoadRect j = Q x3 (ix2 ⟨512 * m.val + (j 0).val, by have : (j 0).val < 512 := (j 0).isLt; omega⟩ (j 1)) := by
  have e := unitL_canon arg4 harg4 x3 []
  rw [List.append_nil] at e
  rw [View.readCov_eq_canon', e]
  exact congrArg (Q x3) (tile_emb m j)

theorem dOld_apply (p : ℕ) (hp : p < 2) (m : Fin 3) (j : S512x512.Idx) : dOld arg4 harg4 arg10 harg10 arg11 x3 xs1 p m j
    = (if p = 0 then xs1 else Q x3) (ix2 ⟨512 * m.val + (j 0).val, by have : (j 0).val < 512 := (j 0).isLt; omega⟩ (j 1)) := by
  unfold dOld
  match p, hp with
  | 0, _ => exact (read_block arg10 harg10 xs1 (tileRect m) j).trans (congrArg xs1 (tile_emb m j))
  | 1, _ => exact second_tile arg4 harg4 arg11 x3 m j

theorem dNew_apply (hc0 : cond0_0 i) (p : ℕ) (hp : p < 2) (m : Fin 3) (j : S512x512.Idx) : dNew c i arg1 harg1 arg2 harg2 arg3 harg3 arg4 harg4 arg5 harg5 arg6 harg6 arg7 harg7 arg8 harg8 arg9 harg9 arg10 harg10 arg11 harg11 arg12 harg12 x2 x3 hc0 p m j
    = (if p = 0 then Q x2 else Q x3) (ix2 ⟨512 * m.val + (j 0).val, by have : (j 0).val < 512 := (j 0).isLt; omega⟩ (j 1)) := by
  unfold dNew
  match p, hp with
  | 0, _ =>
    refine Eq.trans (congrFun (View.readCov_eq_canon' arg10.view (loopL c i arg1 harg1 arg2 harg2 arg3 harg3 arg4 harg4 arg5 harg5 arg6 harg6 arg7 harg7 arg8 harg8 arg9 harg9 arg10 harg10 arg11 harg11 arg12 harg12 x2 hc0) (tileRect m).toLoadRect) j) ?_
    rw [loop_canon]
    exact congrArg (Q x2) (tile_emb m j)
  | 1, _ => exact second_tile arg4 harg4 arg11 x3 m j

theorem zero_canon (y : S1536x4096.Idx) : View.canon zeroL y = 0 := by
  have e : (Rect.unit (s := S1536x4096) ![0, 0] S1536x4096.size inb_S1536x4096_S1536x4096_0_0).emb y = y := by
    funext a; apply Fin.ext; fin_cases a <;> simp [Rect.emb, Rect.unit]
  have h := View.canon_cons_emb (Val := Elt Ideal) (e := .f32) (Rect.unit (s := S1536x4096) ![0, 0] S1536x4096.size inb_S1536x4096_S1536x4096_0_0) (k0_pay18 (F := Ideal)) [] y
  rw [e] at h
  refine h.trans ?_
  pointwise [k0_pay18]

/-- The accumulator after all products of a point that is not the first. -/
theorem acc_old (y : S1536x4096.Idx) :
    View.canon (accL (rdOld arg9 harg9 xs0) [] (dOld arg4 harg4 arg10 harg10 arg11 x3 xs1) (rdW arg6 harg6 arg7 harg7 arg12 i x5 x6) 48) y
      = xs0 y + phase xs1 (Wp i x5 x6 0) y + phase (Q x3) (Wp i x5 x6 1) y := by
  have hb : blk y < 24 := by
    have h0 : (y 0).val < 1536 := (y 0).isLt
    have h1 : (y 1).val < 4096 := (y 1).isLt
    unfold blk; omega
  have h := accL_canon False xs0 (fun p => if p = 0 then xs1 else Q x3) (Wp i x5 x6) (rdOld arg9 harg9 xs0) [] (dOld arg4 harg4 arg10 harg10 arg11 x3 xs1) (rdW arg6 harg6 arg7 harg7 arg12 i x5 x6)
    (fun h => h.elim) (dOld_apply arg4 harg4 arg10 harg10 arg11 x3 xs1) (fun g _ j => rdW_apply arg6 harg6 arg7 harg7 arg12 i x5 x6 g j)
    (fun t ht j => by
      by_cases hc : t < 24
      · right
        refine ⟨hc, ?_⟩
        unfold rdOld
        rw [show Nat.blt t 24 = true from by simpa [Nat.blt_eq] using hc]
        exact read_block arg9 harg9 xs0 (accRect t) j
      · left
        refine ⟨.inr (by omega), ?_⟩
        generalize accL (rdOld arg9 harg9 xs0) [] (dOld arg4 harg4 arg10 harg10 arg11 x3 xs1) (rdW arg6 harg6 arg7 harg7 arg12 i x5 x6) t = L
        unfold rdOld
        rw [show Nat.blt t 24 = false from by rw [Bool.eq_false_iff]; simp [Nat.blt_eq]; omega]
        exact congrFun (View.readCov_eq_canon' arg9.view L (accRect t).toLoadRect) j) 48 (Nat.le_refl _) y (.inr (by omega))
  rw [h, if_pos (show blk y < 48 by omega), if_pos (show blk y + 24 < 48 by omega)]
  rfl

/-- The accumulator after all products of the first point. -/
theorem acc_new (hc0 : cond0_0 i) (y : S1536x4096.Idx) :
    View.canon (accL (rdNew arg9) zeroL (dNew c i arg1 harg1 arg2 harg2 arg3 harg3 arg4 harg4 arg5 harg5 arg6 harg6 arg7 harg7 arg8 harg8 arg9 harg9 arg10 harg10 arg11 harg11 arg12 harg12 x2 x3 hc0) (rdW arg6 harg6 arg7 harg7 arg12 i x5 x6) 48) y
      = phase (Q x2) (Wp i x5 x6 0) y + phase (Q x3) (Wp i x5 x6 1) y := by
  have hb : blk y < 24 := by
    have h0 : (y 0).val < 1536 := (y 0).isLt
    have h1 : (y 1).val < 4096 := (y 1).isLt
    unfold blk; omega
  have h := accL_canon True (fun _ => (0 : EReal)) (fun p => if p = 0 then Q x2 else Q x3) (Wp i x5 x6) (rdNew arg9) zeroL (dNew c i arg1 harg1 arg2 harg2 arg3 harg3 arg4 harg4 arg5 harg5 arg6 harg6 arg7 harg7 arg8 harg8 arg9 harg9 arg10 harg10 arg11 harg11 arg12 harg12 x2 x3 hc0) (rdW arg6 harg6 arg7 harg7 arg12 i x5 x6)
    (fun _ y => zero_canon y) (dNew_apply c i arg1 harg1 arg2 harg2 arg3 harg3 arg4 harg4 arg5 harg5 arg6 harg6 arg7 harg7 arg8 harg8 arg9 harg9 arg10 harg10 arg11 harg11 arg12 harg12 x2 x3 hc0) (fun g _ j => rdW_apply arg6 harg6 arg7 harg7 arg12 i x5 x6 g j)
    (fun t ht j => .inl ⟨.inl trivial, by
        generalize accL (rdNew arg9) zeroL (dNew c i arg1 harg1 arg2 harg2 arg3 harg3 arg4 harg4 arg5 harg5 arg6 harg6 arg7 harg7 arg8 harg8 arg9 harg9 arg10 harg10 arg11 harg11 arg12 harg12 x2 x3 hc0) (rdW arg6 harg6 arg7 harg7 arg12 i x5 x6) t = L
        unfold rdNew
        exact congrFun (View.readCov_eq_canon' arg9.view L (accRect t).toLoadRect) j⟩) 48 (Nat.le_refl _) y (.inl trivial)
  rw [h, if_pos (show blk y < 48 by omega), if_pos (show blk y + 24 < 48 by omega), zero_add]
  rfl

theorem carried_old : View.canon (unitL arg5 (harg5.unread x4) 96) = Q x4 := by
  have e := unitL_canon arg5 harg5 x4 []
  rwa [List.append_nil] at e

theorem one_idx (a b : S1.Idx) : a = b := by
  funext k; apply Fin.ext; fin_cases k
  have ha : (a 0).val < 1 := (a 0).isLt
  have hb : (b 0).val < 1 := (b 0).isLt
  show (a 0).val = (b 0).val
  omega

theorem out_list (hc0 : ¬cond0_0 i) (hc1 : cond0_1 i) : (kernelRun0_C (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1
    = [⟨Rect.unit (s := S1536x4096) ![0, 0] S1536x4096.size inb_S1536x4096_S1536x4096_0_0, k0_pay1 (F := Ideal) (kernelRun0_C.sl.r (F := Ideal) c arg1 harg1 x0)
        (arg9.view.readCov (accL (rdOld arg9 harg9 xs0) [] (dOld arg4 harg4 arg10 harg10 arg11 x3 xs1) (rdW arg6 harg6 arg7 harg7 arg12 i x5 x6) 48)
          (Rect.unit (s := S1536x4096) ![0, 0] S1536x4096.size inb_S1536x4096_S1536x4096_0_0).toLoadRect) (kernelRun0_C.sl.r_615 (F := Ideal) c arg2 harg2 x1)⟩] := by
  sl_kernel_rfl

theorem pay1_apply (s w : Ideal .f32) (A : Vec Ideal S1536x4096 .f32) (y : S1536x4096.Idx) : k0_pay1 (F := Ideal) s A w y = A y * (s * w) := by
  pointwise [k0_pay1]

/-- The output of the last point: the accumulator, scaled. -/
theorem out_C (hc0 : ¬cond0_0 i) (hc1 : cond0_1 i) (y : S1536x4096.Idx) : View.canon (kernelRun0_C (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1 y
    = (xs0 y + phase xs1 (Wp i x5 x6 0) y + phase (Q x3) (Wp i x5 x6 1) y) * (x0 (ix1 0) * x1 (ix1 0)) := by
  rw [out_list]
  have e : (Rect.unit (s := S1536x4096) ![0, 0] S1536x4096.size inb_S1536x4096_S1536x4096_0_0).emb y = y := by
    funext a; apply Fin.ext; fin_cases a <;> simp [Rect.emb, Rect.unit]
  have e0 : kernelRun0_C.sl.r (F := Ideal) c arg1 harg1 x0 = x0 (ix1 0) := (congrFun (harg1.read_unread x0) _).trans (congrArg x0 (one_idx _ _))
  have e1 : kernelRun0_C.sl.r_615 (F := Ideal) c arg2 harg2 x1 = x1 (ix1 0) := (congrFun (harg2.read_unread x1) _).trans (congrArg x1 (one_idx _ _))
  have ha := acc_old i arg4 harg4 arg6 harg6 arg7 harg7 arg9 harg9 arg10 harg10 arg11 arg12 x3 x5 x6 xs0 xs1 y
  generalize accL (rdOld arg9 harg9 xs0) [] (dOld arg4 harg4 arg10 harg10 arg11 x3 xs1) (rdW arg6 harg6 arg7 harg7 arg12 i x5 x6) 48 = L at ha ⊢
  have h := View.canon_cons_emb (Val := Elt Ideal) (e := .bf16) (Rect.unit (s := S1536x4096) ![0, 0] S1536x4096.size inb_S1536x4096_S1536x4096_0_0)
    (k0_pay1 (F := Ideal) (kernelRun0_C.sl.r (F := Ideal) c arg1 harg1 x0) (arg9.view.readCov L (Rect.unit (s := S1536x4096) ![0, 0] S1536x4096.size inb_S1536x4096_S1536x4096_0_0).toLoadRect) (kernelRun0_C.sl.r_615 (F := Ideal) c arg2 harg2 x1)) [] y
  rw [e] at h
  refine h.trans ?_
  rw [e0, e1, ← ha]
  refine (pay1_apply _ _ _ y).trans ?_
  have hr : arg9.view.readCov L (Rect.unit (s := S1536x4096) ![0, 0] S1536x4096.size inb_S1536x4096_S1536x4096_0_0).toLoadRect y = View.canon L y := by
    rw [View.readCov_eq_canon']
    exact congrArg (View.canon L) e
  exact congrArg (fun z => z * (x0 (ix1 0) * x1 (ix1 0))) hr

end Cert.DxIdeal.Val

end

end
-- ==== Proof.DxArray.lean ====
module

public import proofs.«01_k».proof.Proof.Gen.DxIdeal.Frame
public import proofs.«01_k».proof.Proof.DxPoint

@[expose] public section

set_option maxRecDepth 16384

noncomputable section

namespace Cert.DxIdeal.Val

open Cert.DxIdeal Cert.DxIdeal.Gen Idealize.ShloMosaic Idealize.ShloMosaic.TcCoe Idealize.SL.Sem

open Idealize.ShloMosaic.Pipeline (Dat)

/-! ## The sum over the columns, by tiles and by pairs -/

/-- A sum over `a b` places, by blocks of `b`. -/
theorem sum_blocks {n : ℕ} (a b : ℕ) (h : n = a * b) (g : Fin n → EReal) :
    ∑ x, g x = ∑ i : Fin a, ∑ j : Fin b, g ⟨b * i.val + j.val, by subst h; have := i.isLt; have := j.isLt; nlinarith⟩ := by
  subst h
  rw [← (finProdFinEquiv (m := a) (n := b)).sum_comp, Fintype.sum_prod_type]
  refine Finset.sum_congr rfl fun i _ => Finset.sum_congr rfl fun j _ => congrArg g (Fin.ext ?_)
  show j.val + b * i.val = b * i.val + j.val
  omega

/-- Where a column of a tile goes. -/
def dst (q : ℕ) : ℕ := 256 * (q / 256) + 128 * (q % 2) + 16 * (q % 16 / 2) + q % 256 / 16

theorem dst_lt (q : ℕ) (h : q < 512) : dst q < 512 := by unfold dst; omega

theorem dst_src : ∀ q : Fin 512, dst (src q.val) = q.val ∧ src (dst q.val) = q.val := by decide +kernel

/-- The word, the half and the block of sixteen that a column of a tile lies in. -/
theorem src_parts : ∀ q : Fin 512, src q.val % 2 = q.val % 256 / 128 ∧ src q.val / 2 = 128 * (q.val / 256) + (8 * (q.val % 128 % 16) + q.val % 128 / 16)
    ∧ src q.val / 16 = 16 * (q.val / 256) + q.val % 128 % 16 := by decide +kernel

/-- The de-interleave is a permutation of a tile's columns. -/
def cols : Fin 512 ≃ Fin 512 where
  toFun q := ⟨src q.val, src_lt _ q.isLt⟩
  invFun q := ⟨dst q.val, dst_lt _ q.isLt⟩
  left_inv q := Fin.ext (dst_src q).1
  right_inv q := Fin.ext (dst_src q).2

/-- The sum over all columns, tile by tile in the kernel's order, is the sum over the pairs of neighbouring columns. -/
theorem sum_tiles (g : Fin 14336 → EReal) :
    ∑ T : Fin 28, ∑ q : Fin 512, g ⟨512 * T.val + src q.val, by have := src_lt q.val q.isLt; omega⟩
      = ∑ o : Fin 7168, g ⟨2 * o.val, by omega⟩ + ∑ o : Fin 7168, g ⟨2 * o.val + 1, by omega⟩ := by
  have e1 : ∑ x, g x = ∑ T : Fin 28, ∑ q : Fin 512, g ⟨512 * T.val + src q.val, by have := src_lt q.val q.isLt; omega⟩ := by
    rw [sum_blocks 28 512 rfl g]
    refine Finset.sum_congr rfl fun T _ => ?_
    exact (cols.sum_comp fun q : Fin 512 => g ⟨512 * T.val + q.val, by omega⟩).symm
  have e2 : ∑ x, g x = ∑ o : Fin 7168, (g ⟨2 * o.val, by omega⟩ + g ⟨2 * o.val + 1, by omega⟩) := by
    rw [sum_blocks 7168 2 rfl g]
    refine Finset.sum_congr rfl fun o _ => ?_
    rw [Fin.sum_univ_two]
    rfl
  rw [← e1, e2, Finset.sum_add_distrib]

/-! ## The arrays and their blocks -/

variable (D : Vec Ideal S1536x14336 .bf16) (C : Vec Ideal S4096x7168 .i8) (S : Vec Ideal S4096x896 .fp8e4m3)

/-- Tile `q` of the left operand: its 512 columns from `512 q`. -/
def dTile (q : Fin 28) : Vec Ideal S1536x512 .bf16 := fun y => D (ix2 (y 0) ⟨512 * q.val + (y 1).val, by have h : (y 1).val < 512 := (y 1).isLt; omega⟩)

/-- Block `t` of the codes. -/
def cTile (t : Fin 14) : Vec Ideal S4096x512 .i8 := fun y => C (ix2 (y 0) ⟨512 * t.val + (y 1).val, by have h : (y 1).val < 512 := (y 1).isLt; omega⟩)

/-- The block of the scales of point `t`. -/
def sTile (t : Fin 14) : Vec Ideal S4096x128 .fp8e4m3 := fun y => S (ix2 (y 0) ⟨128 * (t.val / 2) + (y 1).val, by have h : (y 1).val < 128 := (y 1).isLt; omega⟩)

/-- A weight: row `r`, column `x` of the original columns. -/
def wt (r : Fin 4096) (x : Fin 14336) : EReal := e2m1 (nib (x.val % 2) (C (ix2 r ⟨x.val / 2, by omega⟩))) * S (ix2 r ⟨x.val / 16, by omega⟩)

/-- What tile `T` adds to an entry. -/
def tsum (T : Fin 28) (y : S1536x4096.Idx) : EReal :=
  ∑ q : Fin 512, D (ix2 (y 0) ⟨512 * T.val + src q.val, by have := src_lt q.val q.isLt; omega⟩) * wt C S (y 1) ⟨512 * T.val + src q.val, by have := src_lt q.val q.isLt; omega⟩

theorem phase_eq (i : grid0.Coords) (t : Fin 14) (hi : (i 0).val = t.val) (p : ℕ) (hp : p < 2) (y : S1536x4096.Idx) :
    phase (Q (dTile D ⟨2 * t.val + p, by omega⟩)) (Wp i (cTile C t) (sTile S t) p) y = tsum D C S ⟨2 * t.val + p, by omega⟩ y := by
  unfold phase tsum
  refine Finset.sum_congr rfl fun q _ => ?_
  have hq : q.val < 512 := q.isLt
  obtain ⟨p1, p2, p3⟩ := src_parts q
  congr 1
  unfold Wp Wt wt cTile sTile
  have e1 : (⟨p % 2, Nat.mod_lt _ (by omega)⟩ : Fin 2).val = p := Nat.mod_eq_of_lt hp
  congr 1
  · have a : q.val % 256 / 128 = (512 * (2 * t.val + p) + src q.val) % 2 := by omega
    show e2m1 (nib (q.val % 256 / 128) _) = e2m1 (nib ((512 * (2 * t.val + p) + src q.val) % 2) _)
    rw [← a]
    refine congrArg (fun z => e2m1 (nib (q.val % 256 / 128) (C z))) ?_
    funext k; apply Fin.ext
    match k with
    | ⟨0, _⟩ => rfl
    | ⟨1, _⟩ =>
      show 512 * t.val + (256 * (p % 2) + 128 * (q.val / 256) + (8 * (q.val % 128 % 16) + q.val % 128 / 16)) = (512 * (2 * t.val + p) + src q.val) / 2
      omega
  · refine congrArg S ?_
    funext k; apply Fin.ext
    match k with
    | ⟨0, _⟩ => rfl
    | ⟨1, _⟩ =>
      show 128 * (t.val / 2) + (32 * ((2 * (i 0).val + p % 2) % 4) + 16 * (q.val / 256) + q.val % 128 % 16) = (512 * (2 * t.val + p) + src q.val) / 16
      rw [hi]
      show 128 * (t.val / 2) + (32 * ((2 * t.val + p % 2) % 4) + 16 * (q.val / 256) + q.val % 128 % 16) = (512 * (2 * t.val + p) + src q.val) / 16
      rw [Nat.mod_eq_of_lt hp, show (512 * (2 * t.val + p) + src q.val) / 16 = 32 * (2 * t.val + p) + src q.val / 16 by omega, p3]
      omega

/-- The result: the product with the decoded weights, scaled. -/
def dprod (s w : Ideal .f32) : Vec Ideal S1536x4096 .bf16 := fun y =>
  (∑ o : Fin 7168, D (ix2 (y 0) ⟨2 * o.val, by omega⟩) * (e2m1 (nib 0 (C (ix2 (y 1) o))) * S (ix2 (y 1) ⟨o.val / 8, by omega⟩))
    + ∑ o : Fin 7168, D (ix2 (y 0) ⟨2 * o.val + 1, by omega⟩) * (e2m1 (nib 1 (C (ix2 (y 1) o))) * S (ix2 (y 1) ⟨o.val / 8, by omega⟩))) * (s * w)

theorem tsum_total (y : S1536x4096.Idx) : ∑ T : Fin 28, tsum D C S T y
    = ∑ o : Fin 7168, D (ix2 (y 0) ⟨2 * o.val, by omega⟩) * (e2m1 (nib 0 (C (ix2 (y 1) o))) * S (ix2 (y 1) ⟨o.val / 8, by omega⟩))
      + ∑ o : Fin 7168, D (ix2 (y 0) ⟨2 * o.val + 1, by omega⟩) * (e2m1 (nib 1 (C (ix2 (y 1) o))) * S (ix2 (y 1) ⟨o.val / 8, by omega⟩)) := by
  unfold tsum
  refine (sum_tiles fun x => D (ix2 (y 0) x) * wt C S (y 1) x).trans ?_
  have key : ∀ (x : Fin 14336) (o : Fin 7168) (h : ℕ), h < 2 → x.val = 2 * o.val + h →
      wt C S (y 1) x = e2m1 (nib h (C (ix2 (y 1) o))) * S (ix2 (y 1) ⟨o.val / 8, by omega⟩) := by
    intro x o h hh hx
    unfold wt
    have a : x.val % 2 = h := by omega
    have b : (⟨x.val / 2, by omega⟩ : Fin 7168) = o := Fin.ext (by show x.val / 2 = o.val; omega)
    have d : (⟨x.val / 16, by omega⟩ : Fin 896) = ⟨o.val / 8, by omega⟩ := Fin.ext (by show x.val / 16 = o.val / 8; omega)
    rw [a, b, d]
  exact congrArg₂ (fun a b : EReal => a + b) (Finset.sum_congr rfl fun o _ => congrArg (fun z => D (ix2 (y 0) ⟨2 * o.val, by omega⟩) * z) (key ⟨2 * o.val, by omega⟩ o 0 (by omega) rfl))
    (Finset.sum_congr rfl fun o _ => congrArg (fun z => D (ix2 (y 0) ⟨2 * o.val + 1, by omega⟩) * z) (key ⟨2 * o.val + 1, by omega⟩ o 1 (by omega) rfl))

/-! ## The launch -/

variable (m : (ℓ : Loc nD τ sig) → Buf (Elt Ideal) ℓ) (ρ : Dev nD → PrngReg)

/-- The operands as they lie in memory. -/
abbrev aD (c : Dev nD) : Vec Ideal S1536x14336 .bf16 := m ((c : Thread nD τ).loc main_arg0)
abbrev aC (c : Dev nD) : Vec Ideal S4096x7168 .i8 := m ((c : Thread nD τ).loc main_arg1)
abbrev aS (c : Dev nD) : Vec Ideal S4096x896 .fp8e4m3 := m ((c : Thread nD τ).loc main_arg2)
abbrev ag (c : Dev nD) : Vec Ideal S1 .f32 := m ((c : Thread nD τ).loc main_arg3)
abbrev aw (c : Dev nD) : Vec Ideal S1 .f32 := m ((c : Thread nD τ).loc main_arg4)

theorem point_lt (t : Fin cfg0.N) : t.val < 14 := lt_of_lt_of_eq t.isLt N_0
theorem coord : ∀ t : Fin grid0.N, (grid0.coords t 0).val = t.val := by decide +kernel
theorem idx2 : ∀ t : Fin grid0.N, win0_2.index t (0 : Fin 2) = 0 ∧ win0_2.index t (1 : Fin 2) = 0 := by decide +kernel
theorem idx3 : ∀ t : Fin grid0.N, win0_3.index t (0 : Fin 2) = 0 ∧ win0_3.index t (1 : Fin 2) = 2 * t.val + 1 := by decide +kernel
theorem idx4 : ∀ t : Fin grid0.N, win0_4.index t (0 : Fin 2) = 0 ∧ win0_4.index t (1 : Fin 2) = min (2 * t.val + 2) 27 := by decide +kernel
theorem idx5 : ∀ t : Fin grid0.N, win0_5.index t (0 : Fin 2) = 0 ∧ win0_5.index t (1 : Fin 2) = t.val := by decide +kernel
theorem idx6 : ∀ t : Fin grid0.N, win0_6.index t (0 : Fin 2) = 0 ∧ win0_6.index t (1 : Fin 2) = t.val / 2 := by decide +kernel
theorem idx7 : ∀ t : Fin grid0.N, win0_7.index t (0 : Fin 2) = 0 ∧ win0_7.index t (1 : Fin 2) = 0 := by decide +kernel

theorem blk0 (c : Dev nD) (t : Fin cfg0.N) : (iblk m c 0 t : Vec Ideal S1 .f32) = ag m c := by
  funext j
  unfold iblk
  rw [View.read_apply]
  exact congrArg (ag m c) (one_idx _ _)

theorem blk1 (c : Dev nD) (t : Fin cfg0.N) : (iblk m c 1 t : Vec Ideal S1 .f32) = aw m c := by
  funext j
  unfold iblk
  rw [View.read_apply]
  exact congrArg (aw m c) (one_idx _ _)

theorem blk2 (c : Dev nD) (t : Fin cfg0.N) : (iblk m c 2 t : Vec Ideal S1536x512 .bf16) = dTile (aD m c) 0 := by
  have hi := idx2 t
  funext j
  unfold iblk
  rw [View.read_apply]
  refine congrArg (aD m c) ?_
  funext a
  apply Fin.ext
  match a with
  | ⟨0, _⟩ => show win0_2.index t 0 * 1536 + 1 * (j 0).val = (j 0).val; rw [hi.1]; omega
  | ⟨1, _⟩ => show win0_2.index t 1 * 512 + 1 * (j 1).val = 512 * (0) + (j 1).val; rw [hi.2]; omega

theorem blk3 (c : Dev nD) (t : Fin cfg0.N) : (iblk m c 3 t : Vec Ideal S1536x512 .bf16) = dTile (aD m c) ⟨2 * t.val + 1, by have := point_lt t; omega⟩ := by
  have hi := idx3 t
  funext j
  unfold iblk
  rw [View.read_apply]
  refine congrArg (aD m c) ?_
  funext a
  apply Fin.ext
  match a with
  | ⟨0, _⟩ => show win0_3.index t 0 * 1536 + 1 * (j 0).val = (j 0).val; rw [hi.1]; omega
  | ⟨1, _⟩ => show win0_3.index t 1 * 512 + 1 * (j 1).val = 512 * (2 * t.val + 1) + (j 1).val; rw [hi.2]; omega

theorem blk4 (c : Dev nD) (t : Fin cfg0.N) : (iblk m c 4 t : Vec Ideal S1536x512 .bf16) = dTile (aD m c) ⟨min (2 * t.val + 2) 27, by have := point_lt t; omega⟩ := by
  have hi := idx4 t
  funext j
  unfold iblk
  rw [View.read_apply]
  refine congrArg (aD m c) ?_
  funext a
  apply Fin.ext
  match a with
  | ⟨0, _⟩ => show win0_4.index t 0 * 1536 + 1 * (j 0).val = (j 0).val; rw [hi.1]; omega
  | ⟨1, _⟩ => show win0_4.index t 1 * 512 + 1 * (j 1).val = 512 * (min (2 * t.val + 2) 27) + (j 1).val; rw [hi.2]; omega

theorem blk5 (c : Dev nD) (t : Fin cfg0.N) : (iblk m c 5 t : Vec Ideal S4096x512 .i8) = cTile (aC m c) ⟨t.val, point_lt t⟩ := by
  have hi := idx5 t
  funext j
  unfold iblk
  rw [View.read_apply]
  refine congrArg (aC m c) ?_
  funext a
  apply Fin.ext
  match a with
  | ⟨0, _⟩ => show win0_5.index t 0 * 4096 + 1 * (j 0).val = (j 0).val; rw [hi.1]; omega
  | ⟨1, _⟩ => show win0_5.index t 1 * 512 + 1 * (j 1).val = 512 * (t.val) + (j 1).val; rw [hi.2]; omega

theorem blk6 (c : Dev nD) (t : Fin cfg0.N) : (iblk m c 6 t : Vec Ideal S4096x128 .fp8e4m3) = sTile (aS m c) ⟨t.val, point_lt t⟩ := by
  have hi := idx6 t
  funext j
  unfold iblk
  rw [View.read_apply]
  refine congrArg (aS m c) ?_
  funext a
  apply Fin.ext
  match a with
  | ⟨0, _⟩ => show win0_6.index t 0 * 4096 + 1 * (j 0).val = (j 0).val; rw [hi.1]; omega
  | ⟨1, _⟩ => show win0_6.index t 1 * 128 + 1 * (j 1).val = 128 * (t.val / 2) + (j 1).val; rw [hi.2]; omega

/-- What the first tile's scratch holds after a point: the tile that the next point multiplies first. -/
theorem carried1 (c : Dev nD) (t : Fin cfg0.N) : (outsAt0 m c t.val t.isLt).2.2 = Q (dTile (aD m c) ⟨min (2 * t.val + 2) 27, by omega⟩) := by
  by_cases h0 : t.val % 14 = 0
  · rw [outsAt0_A m c t h0 (by omega)]
    dsimp only
    unfold sout0_A_1
    rw [View.read_writes_junk_eq_canon, d0_A, unitL_canon, blk4]
  · by_cases h1 : t.val % 14 = 13
    · rw [outsAt0_C m c t h0 h1]
      dsimp only
      unfold sout0_C_1
      rw [View.read_writes_junk_eq_canon, d0_C, carried_old, blk4]
    · rw [outsAt0_B m c t h0 h1]
      dsimp only
      unfold sout0_B_1
      rw [View.read_writes_junk_eq_canon, d0_B, carried_old, blk4]

/-- The sum of the tiles of the points up to `t`. -/
def upto (D : Vec Ideal S1536x14336 .bf16) (C : Vec Ideal S4096x7168 .i8) (S : Vec Ideal S4096x896 .fp8e4m3) (n : ℕ) (y : S1536x4096.Idx) : EReal :=
  ∑ T ∈ Finset.range n, tsum D C S ⟨T % 28, Nat.mod_lt _ (by omega)⟩ y

theorem upto_point (D : Vec Ideal S1536x14336 .bf16) (C : Vec Ideal S4096x7168 .i8) (S : Vec Ideal S4096x896 .fp8e4m3) (i : grid0.Coords) (t : Fin 14) (hi : (i 0).val = t.val) (y : S1536x4096.Idx) :
    upto D C S (2 * t.val) y + phase (Q (dTile D ⟨2 * t.val, by omega⟩)) (Wp i (cTile C t) (sTile S t) 0) y + phase (Q (dTile D ⟨2 * t.val + 1, by omega⟩)) (Wp i (cTile C t) (sTile S t) 1) y
      = upto D C S (2 * t.val + 2) y := by
  have e0 := phase_eq D C S i t hi 0 (by omega) y
  have e1 := phase_eq D C S i t hi 1 (by omega) y
  unfold upto
  rw [Finset.sum_range_succ, Finset.sum_range_succ]
  have a0 : (⟨2 * t.val % 28, Nat.mod_lt _ (by omega)⟩ : Fin 28) = ⟨2 * t.val + 0, by omega⟩ := Fin.ext (by show 2 * t.val % 28 = 2 * t.val + 0; omega)
  have a1 : (⟨(2 * t.val + 1) % 28, Nat.mod_lt _ (by omega)⟩ : Fin 28) = ⟨2 * t.val + 1, by omega⟩ := Fin.ext (by show (2 * t.val + 1) % 28 = 2 * t.val + 1; omega)
  exact congrArg₂ (fun a b : EReal => a + b) (congrArg (fun b : EReal => _ + b) (e0.trans (congrArg (fun z => tsum D C S z y) a0.symm))) (e1.trans (congrArg (fun z => tsum D C S z y) a1.symm))

/-- The first tile of a point that is not the first, and the point before. -/
theorem carried_tile (c : Dev nD) (t : Fin cfg0.N) (h0 : ¬t.val % 14 = 0) :
    (outsAt0 m c (t.val - 1) (by have := t.isLt; omega)).2.2 = Q (dTile (aD m c) ⟨2 * t.val, by have := point_lt t; omega⟩) := by
  have hlt := point_lt t
  have h := carried1 m c ⟨t.val - 1, by have := t.isLt; omega⟩
  have e : (⟨min (2 * (t.val - 1) + 2) 27, by omega⟩ : Fin 28) = ⟨2 * t.val, by omega⟩ := Fin.ext (by show min (2 * (t.val - 1) + 2) 27 = 2 * t.val; omega)
  dsimp only at h
  rw [e] at h
  exact h

/-- What the accumulator holds after a point. -/
theorem carried0 (c : Dev nD) (n : ℕ) (hn : n < cfg0.N) (y : S1536x4096.Idx) : (outsAt0 m c n hn).2.1 y = upto (aD m c) (aC m c) (aS m c) (2 * n + 2) y := by
  have hlt : n < 14 := point_lt ⟨n, hn⟩
  induction n with
  | zero =>
    rw [outsAt0_A m c ⟨0, hn⟩ (by show 0 % 14 = 0; omega) (by show ¬0 % 14 = 13; omega)]
    dsimp only
    unfold sout0_A_0
    rw [View.read_writes_junk_eq_canon, acc_A, acc_new, blk2, blk3, blk5, blk6]
    have h := upto_point (aD m c) (aC m c) (aS m c) (grid0.coords ⟨0, hn⟩) 0 (coord ⟨0, hn⟩) y
    have z : upto (aD m c) (aC m c) (aS m c) (2 * (0 : Fin 14).val) y = 0 := Finset.sum_range_zero _
    rw [z, zero_add] at h
    exact h
  | succ n ih =>
    have hN : n + 1 < 14 := hlt
    have hp := ih (by omega) (by omega)
    have ht := carried_tile m c ⟨n + 1, hn⟩ (by show ¬(n + 1) % 14 = 0; omega)
    have h := upto_point (aD m c) (aC m c) (aS m c) (grid0.coords ⟨n + 1, hn⟩) ⟨n + 1, hN⟩ (coord ⟨n + 1, hn⟩) y
    by_cases h1 : (n + 1) % 14 = 13
    · rw [outsAt0_C m c ⟨n + 1, hn⟩ (by show ¬(n + 1) % 14 = 0; omega) h1]
      dsimp only
      unfold sout0_C_0
      rw [View.read_writes_junk_eq_canon, acc_C, acc_old, blk3, blk5, blk6]
      refine Eq.trans ?_ h
      exact congrArg₂ (fun a b => a + phase b _ y + phase _ _ y) hp ht
    · rw [outsAt0_B m c ⟨n + 1, hn⟩ (by show ¬(n + 1) % 14 = 0; omega) h1]
      dsimp only
      unfold sout0_B_0
      rw [View.read_writes_junk_eq_canon, acc_B, acc_old, blk3, blk5, blk6]
      refine Eq.trans ?_ h
      exact congrArg₂ (fun a b => a + phase b _ y + phase _ _ y) hp ht

/-- The whole result. -/
def G (c : Dev nD) : Buf (Elt Ideal) ((c : Thread nD τ).loc main_v0) :=
  dprod (aD m c) (aC m c) (aS m c) (ag m c (ix1 0)) (aw m c (ix1 0))

/-- The last point's output block. -/
theorem outAt (c : Dev nD) (t : Fin cfg0.N) (h1 : t.val % 14 = 13) : (outsAt0 m c t.val t.isLt).1 = dprod (aD m c) (aC m c) (aS m c) (ag m c (ix1 0)) (aw m c (ix1 0)) := by
  have hlt := point_lt t
  have h0 : ¬t.val % 14 = 0 := by omega
  rw [outsAt0_C m c t h0 h1]
  dsimp only
  unfold out0_C_7
  funext y
  rw [View.read_writes_junk_eq_canon, out_C, blk0, blk1, blk3, blk5, blk6]
  have h := upto_point (aD m c) (aC m c) (aS m c) (grid0.coords t) ⟨t.val, hlt⟩ (coord t) y
  have hp := carried0 m c (t.val - 1) (by have := t.isLt; omega) y
  rw [show 2 * (t.val - 1) + 2 = 2 * t.val by omega] at hp
  have ht := carried_tile m c t h0
  rw [hp, ht]
  unfold dprod
  rw [← tsum_total]
  refine congrArg (fun a => a * (ag m c (ix1 0) * aw m c (ix1 0))) (h.trans ?_)
  show upto (aD m c) (aC m c) (aS m c) (2 * t.val + 2) y = _
  rw [show 2 * t.val + 2 = 28 by omega]
  unfold upto
  rw [Finset.sum_range]
  refine Finset.sum_congr rfl fun T _ => ?_
  rw [show (⟨T.val % 28, Nat.mod_lt _ (by omega)⟩ : Fin 28) = T from Fin.ext (Nat.mod_eq_of_lt T.isLt)]

/-- What is written back is the whole result. -/
theorem flushed (c : Dev nD) (t : Fin cfg0.N) (hf : (cfg0.win 7).flush t = true) : (dats m 0 c).flushed 7 t = ((cfg0.win 7).blk t).view.read (Elt Ideal) (G m c) := by
  show (cfg0.win 7).cut (grid0.coords t) ((dats m 0 c).after 7 t) = _
  rw [after0_7, outAt m c t ((flush0_7 t).mp hf)]
  have hi := idx7 t
  funext y
  have hb0 : (((cfg0.win 7).blk t).view.emb y 0).val = win0_7.index t (0 : Fin 2) * 1536 + 1 * (y 0).val := rfl
  have hb1 : (((cfg0.win 7).blk t).view.emb y 1).val = win0_7.index t (1 : Fin 2) * 4096 + 1 * (y 1).val := rfl
  rw [View.read_apply]
  show dprod _ _ _ _ _ ((cfg0.win 7).xinj (grid0.coords t) y) = dprod _ _ _ _ _ (((cfg0.win 7).blk t).view.emb y)
  refine congrArg (dprod (aD m c) (aC m c) (aS m c) (ag m c (ix1 0)) (aw m c (ix1 0))) ?_
  funext a; apply Fin.ext
  match a with
  | ⟨0, _⟩ => show (y 0).val = (((cfg0.win 7).blk t).view.emb y 0).val; rw [hb0, hi.1]; omega
  | ⟨1, _⟩ => show (y 1).val = (((cfg0.win 7).blk t).view.emb y 1).val; rw [hb1, hi.2]; omega

/-- An index of the array is in a point's block iff each coordinate is in the block's range. -/
theorem mem_blk (t : Fin cfg0.N) (i : S1536x4096.Idx) :
    i ∈ ((cfg0.win 7).blk t).view.set ↔ ∀ a : Fin 2, win0_7.index t a * S1536x4096.size a ≤ (i a).val ∧ (i a).val < win0_7.index t a * S1536x4096.size a + S1536x4096.size a := by
  show i ∈ ((View.whole main_v0).slice (win0_7.rect t)).set ↔ _
  rw [View.set_slice_whole, Rect.mem_set_unit]
  exact Iff.rfl

/-- The array after the run. -/
theorem final (c : Dev nD) : (dats m 0 c).arrAt 7 cfg0.N = G m c :=
  (dats m 0 c).arrAt_eq_of_cover 7 _ (fun t hf => flushed m c t hf) (fun (i : S1536x4096.Idx) => by
    have h0 : (i 0).val < 1536 := (i 0).isLt
    have h1 : (i 1).val < 4096 := (i 1).isLt
    obtain ⟨t, ht⟩ : ∃ t : Fin cfg0.N, t.val = 13 := ⟨⟨13, lt_of_lt_of_eq (by omega) N_0.symm⟩, rfl⟩
    have hi := idx7 t
    refine ⟨t, (flush0_7 t).mpr (by omega), ?_⟩
    rw [mem_blk]
    intro a
    match a with
    | ⟨0, _⟩ => show win0_7.index t (0 : Fin 2) * 1536 ≤ (i 0).val ∧ (i 0).val < win0_7.index t (0 : Fin 2) * 1536 + 1536; rw [hi.1]; omega
    | ⟨1, _⟩ => show win0_7.index t (1 : Fin 2) * 4096 ≤ (i 1).val ∧ (i 1).val < win0_7.index t (1 : Fin 2) * 4096 + 4096; rw [hi.2]; omega)

/-- The run: the result array ends at the product, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 7).trans (final m c),
      ((h c).1 2).trans (((dats m 0 c).arrAt_in 2 rfl _).trans ((A_eq m c 2).trans (V_main_arg0 m c))),
      ((h c).1 5).trans (((dats m 0 c).arrAt_in 5 rfl _).trans ((A_eq m c 5).trans (V_main_arg1 m c))),
      ((h c).1 6).trans (((dats m 0 c).arrAt_in 6 rfl _).trans ((A_eq m c 6).trans (V_main_arg2 m c))),
      ((h c).1 0).trans (((dats m 0 c).arrAt_in 0 rfl _).trans ((A_eq m c 0).trans (V_main_arg3 m c))),
      ((h c).1 1).trans (((dats m 0 c).arrAt_in 1 rfl _).trans ((A_eq m c 1).trans (V_main_arg4 m c)))⟩)
    (run_main m ρ)

end Cert.DxIdeal.Val

end

end
-- ==== Proof.DxReference.lean ====
/- The value of the reference of the dx product: its host operations read at an index (the even and the odd columns of the left operand, the two
   decoded halves of the codes), its one grid point, and the result, which is `dprod` of the arguments. -/
module

public import proofs.«01_k».proof.Proof.DxArray
public import proofs.«01_k».proof.Proof.Gen.DxReferenceIdeal.Value
public import Idealize.ShloMosaic.Lib.Pointwise
public import Idealize.ShloMosaic.Lib.StableHlo.ReadAt

@[expose] public section

set_option maxRecDepth 16384

noncomputable section

namespace Cert.DxReferenceIdeal.Val

open Cert.DxReferenceIdeal Cert.DxReferenceIdeal.Gen Idealize.ShloMosaic Idealize.ShloMosaic.TcCoe Idealize.SL.Sem
open Idealize.ShloMosaic.Pipeline (Dat)
open Cert.DxIdeal.Val (e2m1 nib dprod)

/-! ## The decoder -/

theorem c_four : Ideal.ofBits .f32 1082130432#32 = ((4 : ℝ) : EReal) := by
  simp [Ideal.ofBits, Ideal.ieee]
  norm_cast
  norm_num

theorem c_six : Ideal.ofBits .f32 1086324736#32 = ((6 : ℝ) : EReal) := by
  simp [Ideal.ofBits, Ideal.ieee]
  norm_cast
  norm_num

theorem c_two : Ideal.ofBits .f32 1073741824#32 = ((2 : ℝ) : EReal) := by
  simp [Ideal.ofBits, Ideal.ieee]
  norm_cast
  norm_num

theorem c_half : Ideal.ofBits .f32 1056964608#32 = ((1 / 2 : ℝ) : EReal) := by
  simp [Ideal.ofBits, Ideal.ieee]
  norm_cast
  norm_num

/-- The magnitude that the host operations compute from the three low bits of a code. -/
def mag (k : BitVec 32) : EReal :=
  if (FloatOps.sitofp (F := Ideal) FTy.f32 (IntOp.andi k 7#32) : EReal) < Ideal.ofBits .f32 1082130432#32 then
    Ideal.ofBits .f32 1056964608#32 * (FloatOps.sitofp (F := Ideal) FTy.f32 (IntOp.andi k 7#32) : EReal)
  else if (FloatOps.sitofp (F := Ideal) FTy.f32 (IntOp.andi k 7#32) : EReal) < Ideal.ofBits .f32 1086324736#32 then
    (FloatOps.sitofp (F := Ideal) FTy.f32 (IntOp.andi k 7#32) : EReal) - Ideal.ofBits .f32 1073741824#32
  else Ideal.ofBits .f32 1073741824#32 * ((FloatOps.sitofp (F := Ideal) FTy.f32 (IntOp.andi k 7#32) : EReal) - Ideal.ofBits .f32 1082130432#32)

/-- The value that the host operations compute from a code. -/
def decoded (k : BitVec 32) : EReal := Scalar.select (IntOp.cmpi .ne (IntOp.andi k 8#32) 0#32) (-mag k) (mag k)

theorem low_bits (k : BitVec 32) : (FloatOps.sitofp (F := Ideal) FTy.f32 (IntOp.andi k 7#32) : EReal) = (((k &&& 7#32).toNat : ℝ) : EReal) := by
  have h : (k &&& 7#32).toNat ≤ 7 := by rw [BitVec.toNat_and]; exact Nat.and_le_right
  have e : (k &&& 7#32).toInt = ((k &&& 7#32).toNat : ℤ) := BitVec.toInt_eq_toNat_of_lt (by omega)
  show ((((k &&& 7#32).toInt : ℝ)) : EReal) = _
  rw [e]
  norm_cast

theorem mag_eq (k : BitVec 32) : mag k = ((if (k &&& 7#32).toNat < 4 then ((k &&& 7#32).toNat : ℝ) / 2 else if (k &&& 7#32).toNat < 6 then ((k &&& 7#32).toNat : ℝ) - 2
    else 2 * (((k &&& 7#32).toNat : ℝ) - 4) : ℝ) : EReal) := by
  unfold mag
  rw [low_bits, c_four, c_six, c_two, c_half]
  generalize (k &&& 7#32).toNat = n
  have h4 : ((n : ℝ) : EReal) < ((4 : ℝ) : EReal) ↔ n < 4 := by rw [EReal.coe_lt_coe_iff]; norm_cast
  have h6 : ((n : ℝ) : EReal) < ((6 : ℝ) : EReal) ↔ n < 6 := by rw [EReal.coe_lt_coe_iff]; norm_cast
  simp only [h4, h6]
  by_cases a : n < 4
  · rw [if_pos a, if_pos a, ← EReal.coe_mul]
    exact congrArg _ (by ring)
  · rw [if_neg a, if_neg a]
    by_cases b : n < 6
    · rw [if_pos b, if_pos b, ← EReal.coe_sub]
    · rw [if_neg b, if_neg b, ← EReal.coe_sub, ← EReal.coe_mul]

theorem decoded_eq (k : BitVec 32) : decoded k = e2m1 k := by
  unfold decoded e2m1
  rw [mag_eq]
  dsimp only
  by_cases h : k &&& 8#32 = 0#32
  · rw [if_pos h]
    simp [Scalar.select, IntOp.cmpi, IntOp.andi, h]
  · have hb : IntOp.cmpi .ne (IntOp.andi k 8#32) 0#32 = 1#1 := by
      show BitVec.ofBool (k &&& 8#32 != 0#32) = 1#1
      rw [bne_iff_ne.mpr h]
      rfl
    rw [if_neg h, EReal.coe_neg, hb]
    rfl

theorem high_nib (b : BitVec 8) : IntOp.shrsi .host (BitVec.setWidth 32 b) 4#32 = b.setWidth 32 >>> 4 := by
  have key : ∀ n : Fin 256, ((BitVec.ofNat 8 n.val).setWidth 32).sshiftRight' 4#32 = (BitVec.ofNat 8 n.val).setWidth 32 >>> 4 := by decide +kernel
  have h := key ⟨b.toNat, b.isLt⟩
  rw [show BitVec.ofNat 8 (⟨b.toNat, b.isLt⟩ : Fin 256).val = b by simp] at h
  exact h

/-! ## The arrays at the region -/

variable (m : (ℓ : Loc nD τ sig) → Buf (Elt Ideal) ℓ) (ρ : Dev nD → PrngReg)

/-- The operands as they lie in memory. -/
abbrev aD (c : Dev nD) : Vec Ideal S1536x14336 .bf16 := m ((c : Thread nD τ).loc main_arg0)
abbrev aC (c : Dev nD) : Vec Ideal S4096x7168 .i8 := m ((c : Thread nD τ).loc main_arg1)
abbrev aS (c : Dev nD) : Vec Ideal S4096x896 .fp8e4m3 := m ((c : Thread nD τ).loc main_arg2)
abbrev ag (c : Dev nD) : Vec Ideal S1 .f32 := m ((c : Thread nD τ).loc main_arg3)
abbrev aw (c : Dev nD) : Vec Ideal S1 .f32 := m ((c : Thread nD τ).loc main_arg4)

theorem even_at (c : Dev nD) (y : S1536x7168.Idx) :
    (V m c main_v4 : Vec Ideal S1536x7168 .bf16) y = aD m c (ix2 (y 0) ⟨(y 1).val * 2, by have h : (y 1).val < 7168 := (y 1).isLt; omega⟩) := by
  unfold V
  after_reads_at

theorem odd_at (c : Dev nD) (y : S1536x7168.Idx) :
    (V m c main_v6 : Vec Ideal S1536x7168 .bf16) y = aD m c (ix2 (y 0) ⟨(y 1).val * 2 + 1, by have h : (y 1).val < 7168 := (y 1).isLt; omega⟩) := by
  unfold V
  after_reads_at

theorem lo_at (c : Dev nD) (y : S4096x896x8.Idx) : (V m c main_v32 : Vec Ideal S4096x896x8 .bf16) y
    = decoded (nib 0 (aC m c (ix2 (y 0) ⟨(y 1).val * 8 + (y 2).val, by have h : (y 1).val < 896 := (y 1).isLt; have h' : (y 2).val < 8 := (y 2).isLt; omega⟩))) := by
  unfold V
  after_reads_at
  rfl

theorem hi_at (c : Dev nD) (y : S4096x896x8.Idx) : (V m c main_v58 : Vec Ideal S4096x896x8 .bf16) y
    = decoded (nib 1 (aC m c (ix2 (y 0) ⟨(y 1).val * 8 + (y 2).val, by have h : (y 1).val < 896 := (y 1).isLt; have h' : (y 2).val < 8 := (y 2).isLt; omega⟩))) := by
  unfold V
  after_reads_at
  rw [high_nib]
  rfl

theorem g_at (c : Dev nD) (y : S1x1.Idx) : (V m c main_v59 : Vec Ideal S1x1 .f32) y = ag m c (ix1 0) := by
  unfold V
  after_reads_at

theorem w_at (c : Dev nD) (y : S1x1.Idx) : (V m c main_v60 : Vec Ideal S1x1 .f32) y = aw m c (ix1 0) := by
  unfold V
  after_reads_at

theorem pay_at (v0 : Vec Ideal S4096x896 .fp8e4m3) (v3 v8 : Vec Ideal S4096x896x8 .bf16) (v13 v16 : Vec Ideal S1536x7168 .bf16) (v20 v22 : Vec Ideal S1x1 .f32) (y : S1536x4096.Idx) :
    k0_pay1 v0 v3 v8 v13 v16 v20 v22 y
      = (∑ x : Fin 7168, v13 (ix2 (y 0) x) * (v3 (ix3 (y 1) ⟨x.val / 8, by omega⟩ ⟨x.val % 8, by omega⟩) * v0 (ix2 (y 1) ⟨x.val / 8, by omega⟩))
        + ∑ x : Fin 7168, v16 (ix2 (y 0) x) * (v8 (ix3 (y 1) ⟨x.val / 8, by omega⟩ ⟨x.val % 8, by omega⟩) * v0 (ix2 (y 1) ⟨x.val / 8, by omega⟩)))
        * (v20 (ix2 0 0) * v22 (ix2 0 0)) := by
  pointwise [k0_pay1]

/-! ## The one point -/

/-- The only block of each window is the whole array. -/
theorem blk0 (c : Dev nD) (t : Fin cfg0.N) : (iblk m c 0 t : Vec Ideal S1536x7168 .bf16) = V m c main_v4 := by
  funext j
  unfold iblk
  rw [View.read_apply]
  refine congrArg (V m c main_v4 : Vec Ideal S1536x7168 .bf16) ?_
  funext a
  apply Fin.ext
  match a with
  | ⟨0, _⟩ => show 0 * 1536 + 1 * (j 0).val = (j 0).val; omega
  | ⟨1, _⟩ => show 0 * 7168 + 1 * (j 1).val = (j 1).val; omega

theorem blk1 (c : Dev nD) (t : Fin cfg0.N) : (iblk m c 1 t : Vec Ideal S1536x7168 .bf16) = V m c main_v6 := by
  funext j
  unfold iblk
  rw [View.read_apply]
  refine congrArg (V m c main_v6 : Vec Ideal S1536x7168 .bf16) ?_
  funext a
  apply Fin.ext
  match a with
  | ⟨0, _⟩ => show 0 * 1536 + 1 * (j 0).val = (j 0).val; omega
  | ⟨1, _⟩ => show 0 * 7168 + 1 * (j 1).val = (j 1).val; omega

theorem blk2 (c : Dev nD) (t : Fin cfg0.N) : (iblk m c 2 t : Vec Ideal S4096x896x8 .bf16) = V m c main_v32 := by
  funext j
  unfold iblk
  rw [View.read_apply]
  refine congrArg (V m c main_v32 : Vec Ideal S4096x896x8 .bf16) ?_
  funext a
  apply Fin.ext
  match a with
  | ⟨0, _⟩ => show 0 * 4096 + 1 * (j 0).val = (j 0).val; omega
  | ⟨1, _⟩ => show 0 * 896 + 1 * (j 1).val = (j 1).val; omega
  | ⟨2, _⟩ => show 0 * 8 + 1 * (j 2).val = (j 2).val; omega

theorem blk3 (c : Dev nD) (t : Fin cfg0.N) : (iblk m c 3 t : Vec Ideal S4096x896x8 .bf16) = V m c main_v58 := by
  funext j
  unfold iblk
  rw [View.read_apply]
  refine congrArg (V m c main_v58 : Vec Ideal S4096x896x8 .bf16) ?_
  funext a
  apply Fin.ext
  match a with
  | ⟨0, _⟩ => show 0 * 4096 + 1 * (j 0).val = (j 0).val; omega
  | ⟨1, _⟩ => show 0 * 896 + 1 * (j 1).val = (j 1).val; omega
  | ⟨2, _⟩ => show 0 * 8 + 1 * (j 2).val = (j 2).val; omega

theorem blk4 (c : Dev nD) (t : Fin cfg0.N) : (iblk m c 4 t : Vec Ideal S4096x896 .fp8e4m3) = aS m c := by
  refine Eq.trans ?_ (V_main_arg2 m c)
  funext j
  unfold iblk
  rw [View.read_apply]
  refine congrArg (V m c main_arg2 : Vec Ideal S4096x896 .fp8e4m3) ?_
  funext a
  apply Fin.ext
  match a with
  | ⟨0, _⟩ => show 0 * 4096 + 1 * (j 0).val = (j 0).val; omega
  | ⟨1, _⟩ => show 0 * 896 + 1 * (j 1).val = (j 1).val; omega

theorem blk5 (c : Dev nD) (t : Fin cfg0.N) (y : S1x1.Idx) : (iblk m c 5 t : Vec Ideal S1x1 .f32) y = ag m c (ix1 0) := by
  unfold iblk
  rw [View.read_apply]
  exact g_at m c _

theorem blk6 (c : Dev nD) (t : Fin cfg0.N) (y : S1x1.Idx) : (iblk m c 6 t : Vec Ideal S1x1 .f32) y = aw m c (ix1 0) := by
  unfold iblk
  rw [View.read_apply]
  exact w_at m c _

/-- What the point writes back: the product with the decoded weights. -/
theorem out_eq (c : Dev nD) (t : Fin cfg0.N) : out0_7 (iblk m c 0 t) (iblk m c 1 t) (iblk m c 2 t) (iblk m c 3 t) (iblk m c 4 t) (iblk m c 5 t) (iblk m c 6 t)
    = dprod (aD m c) (aC m c) (aS m c) (ag m c (ix1 0)) (aw m c (ix1 0)) := by
  have z2 : (![0, 0] : Fin 2 → ℕ) = fun _ => 0 := by funext a; fin_cases a <;> rfl
  have z3 : (![0, 0, 0] : Fin 3 → ℕ) = fun _ => 0 := by funext a; fin_cases a <;> rfl
  unfold out0_7
  rw [View.canon_unit_zero (S := S1536x4096) z2, View.ld_unit_zero (S := S4096x896) z2, View.ld_unit_zero (S := S4096x896x8) z3, View.ld_unit_zero (S := S4096x896x8) z3,
    View.ld_unit_zero (S := S1536x7168) z2, View.ld_unit_zero (S := S1536x7168) z2, View.ld_unit_zero (S := S1x1) z2, View.ld_unit_zero (S := S1x1) z2]
  funext y
  rw [pay_at, blk0, blk1, blk2, blk3, blk4, blk5, blk6]
  unfold dprod
  have place : ∀ x : Fin 7168, (⟨x.val / 8 * 8 + x.val % 8, by omega⟩ : Fin 7168) = x := fun x => Fin.ext (by show x.val / 8 * 8 + x.val % 8 = x.val; omega)
  refine congrArg (fun a : EReal => a * (ag m c (ix1 0) * aw m c (ix1 0))) ?_
  refine congrArg₂ (fun a b : EReal => a + b) (Finset.sum_congr rfl fun x _ => ?_) (Finset.sum_congr rfl fun x _ => ?_)
  · rw [even_at, lo_at, decoded_eq]
    refine congrArg₂ (fun a b : EReal => a * b) (congrArg (fun k => aD m c (ix2 (y 0) k)) (Fin.ext (Nat.mul_comm _ _))) ?_
    exact congrArg (fun k => e2m1 (nib 0 (aC m c (ix2 (y 1) k))) * aS m c (ix2 (y 1) ⟨x.val / 8, by omega⟩)) (place x)
  · rw [odd_at, hi_at, decoded_eq]
    refine congrArg₂ (fun a b : EReal => a * b) (congrArg (fun k => aD m c (ix2 (y 0) k)) (Fin.ext (congrArg (· + 1) (Nat.mul_comm _ _)))) ?_
    exact congrArg (fun k => e2m1 (nib 1 (aC m c (ix2 (y 1) k))) * aS m c (ix2 (y 1) ⟨x.val / 8, by omega⟩)) (place x)

/-- The array after the run. -/
theorem final (c : Dev nD) : ((dats m 0 c).arrAt 7 cfg0.N : Vec Ideal S1536x4096 .bf16) = dprod (aD m c) (aC m c) (aS m c) (ag m c (ix1 0)) (aw m c (ix1 0)) := by
  have h := Cert.DxReferenceIdeal.Value.blocks7 m c t0_0 (flush0_7 t0_0)
  rw [Cert.DxReferenceIdeal.Value.flushed7, out_eq] at h
  funext y
  have hy := congrFun h y
  rw [View.read_apply] at hy
  have e : ((cfg0.win 7).blk t0_0).view.emb y = y := by
    funext a
    apply Fin.ext
    match a with
    | ⟨0, _⟩ => show 0 * 1536 + 1 * (y 0).val = (y 0).val; omega
    | ⟨1, _⟩ => show 0 * 4096 + 1 * (y 1).val = (y 1).val; omega
  rw [e] at hy
  exact hy

end Cert.DxReferenceIdeal.Val

end

end
-- ==== Proof.Hadamard.lean ====
/- The rotation of sixteen values: four butterfly stages and the signed sum of all sixteen have the same magnitude, at infinities too, where both
   magnitudes are infinite. -/
module

public import Idealize.ShloMosaic.Lib.Pointwise

@[expose] public section

noncomputable section

namespace Cert.Hadamard

open Idealize.ShloMosaic

/-- The sign of an entry of the Hadamard matrix: the parity of the bits that two indices share. -/
def odd (h k : Fin 16) : Bool := (h.val &&& k.val).testBit 0 ^^ (h.val &&& k.val).testBit 1 ^^ (h.val &&& k.val).testBit 2 ^^ (h.val &&& k.val).testBit 3

def signed (b : Bool) (x : EReal) : EReal := if b then -x else x

/-- The signed sum. -/
def flat (a : Fin 16 → EReal) (h : Fin 16) : EReal := ∑ k, signed (odd h k) (a k)

/-- The largest magnitude of the sixteen signed sums. -/
def amax (a : Fin 16 → EReal) : EReal := Finset.univ.fold max (Ideal.ofBits .f32 4286578688#32) fun h => max (flat a h) (-flat a h)

/-- One output of a butterfly. -/
def comb (h : Fin 2) (x y : EReal) : EReal := if h = 1 then x - y else x + y

/-- Four stages of butterflies, over the bits of the index from the highest to the lowest. -/
def stages (a : Fin 2 → Fin 2 → Fin 2 → Fin 2 → EReal) (h1 h2 h3 h4 : Fin 2) : EReal :=
  comb h4 (comb h3 (comb h2 (comb h1 (a 0 0 0 0) (a 1 0 0 0)) (comb h1 (a 0 1 0 0) (a 1 1 0 0)))
      (comb h2 (comb h1 (a 0 0 1 0) (a 1 0 1 0)) (comb h1 (a 0 1 1 0) (a 1 1 1 0))))
    (comb h3 (comb h2 (comb h1 (a 0 0 0 1) (a 1 0 0 1)) (comb h1 (a 0 1 0 1) (a 1 1 0 1)))
      (comb h2 (comb h1 (a 0 0 1 1) (a 1 0 1 1)) (comb h1 (a 0 1 1 1) (a 1 1 1 1))))

/-- The index with the given bits. -/
def at4 (k1 k2 k3 k4 : Fin 2) : Fin 16 := ⟨k1.val * 8 + k2.val * 4 + k3.val * 2 + k4.val, by omega⟩

/-- Infinite values. -/
def Inf (x : EReal) : Prop := x = ⊤ ∨ x = ⊥

theorem not_inf {x : EReal} (h : ¬Inf x) : ∃ r : ℝ, x = r := by
  unfold Inf at h
  push Not at h
  exact ⟨x.toReal, (EReal.coe_toReal h.1 h.2).symm⟩

theorem inf_coe (r : ℝ) : ¬Inf r := by
  unfold Inf
  simp

theorem inf_neg (x : EReal) : Inf (-x) ↔ Inf x := by
  unfold Inf
  rw [EReal.neg_eq_top_iff, EReal.neg_eq_bot_iff]
  exact or_comm

theorem inf_add (x y : EReal) : Inf (x + y) ↔ Inf x ∨ Inf y := by
  induction x <;> induction y <;> simp [Inf, ← EReal.coe_add]

theorem inf_signed (b : Bool) (x : EReal) : Inf (signed b x) ↔ Inf x := by
  cases b
  · exact Iff.rfl
  · exact inf_neg x

theorem inf_comb (h : Fin 2) (x y : EReal) : Inf (comb h x y) ↔ Inf x ∨ Inf y := by
  unfold comb
  split
  · rw [sub_eq_add_neg, inf_add, inf_neg]
  · exact inf_add x y

theorem inf_sum {n : ℕ} (f : Fin n → EReal) : Inf (∑ k, f k) ↔ ∃ k, Inf (f k) := by
  induction n with
  | zero => simp [Inf]
  | succ n ih => rw [Fin.sum_univ_succ, inf_add, ih, Fin.exists_fin_succ]

theorem inf_flat (a : Fin 16 → EReal) (h : Fin 16) : Inf (flat a h) ↔ ∃ k, Inf (a k) := by
  unfold flat
  rw [inf_sum]
  simp only [inf_signed]

theorem inf_stages (a : Fin 16 → EReal) (h1 h2 h3 h4 : Fin 2) : Inf (stages (fun k1 k2 k3 k4 => a (at4 k1 k2 k3 k4)) h1 h2 h3 h4) ↔ ∃ k, Inf (a k) := by
  unfold stages
  simp only [inf_comb]
  constructor
  · rintro h
    rcases h with (((h | h) | (h | h)) | ((h | h) | (h | h))) | (((h | h) | (h | h)) | ((h | h) | (h | h))) <;> exact ⟨_, h⟩
  · rintro ⟨k, h⟩
    have e : k = at4 ⟨k.val / 8, by omega⟩ ⟨k.val / 4 % 2, by omega⟩ ⟨k.val / 2 % 2, by omega⟩ ⟨k.val % 2, by omega⟩ :=
      Fin.ext (by show k.val = k.val / 8 * 8 + k.val / 4 % 2 * 4 + k.val / 2 % 2 * 2 + k.val % 2; omega)
    rw [e] at h
    generalize (⟨k.val / 8, _⟩ : Fin 2) = k1 at h
    generalize (⟨k.val / 4 % 2, _⟩ : Fin 2) = k2 at h
    generalize (⟨k.val / 2 % 2, _⟩ : Fin 2) = k3 at h
    generalize (⟨k.val % 2, _⟩ : Fin 2) = k4 at h
    fin_cases k1 <;> fin_cases k2 <;> fin_cases k3 <;> fin_cases k4 <;> simp only [Fin.zero_eta, Fin.mk_one] at h <;> simp only [h, true_or, or_true]

theorem abs_inf {x : EReal} (h : Inf x) : max x (-x) = ⊤ := by
  rcases h with h | h <;> rw [h] <;> simp

theorem coe_sum {n : ℕ} (f : Fin n → ℝ) : ∑ k, ((f k : ℝ) : EReal) = ((∑ k, f k : ℝ) : EReal) := by
  induction n with
  | zero => simp
  | succ n ih => rw [Fin.sum_univ_succ, Fin.sum_univ_succ, ih, EReal.coe_add]

theorem signed_mul (b : Bool) (x y : EReal) : signed b x * y = signed b (x * y) := by
  cases b
  · rfl
  · exact EReal.neg_mul x y

/-- A sum over 256 places, by blocks of sixteen. -/
theorem sum_blocks (g : Fin 256 → EReal) : ∑ x, g x = ∑ i : Fin 16, ∑ j : Fin 16, g ⟨16 * i.val + j.val, by omega⟩ := by
  rw [← (finProdFinEquiv (m := 16) (n := 16)).sum_comp, Fintype.sum_prod_type]
  refine Finset.sum_congr rfl fun i _ => Finset.sum_congr rfl fun j _ => congrArg g (Fin.ext ?_)
  show j.val + 16 * i.val = 16 * i.val + j.val
  omega

/-- With real values the two are the same number. -/
theorem stages_real (r : Fin 16 → ℝ) (h1 h2 h3 h4 : Fin 2) :
    stages (fun k1 k2 k3 k4 => ((r (at4 k1 k2 k3 k4) : ℝ) : EReal)) h1 h2 h3 h4 = flat (fun k => (r k : EReal)) (at4 h1 h2 h3 h4) := by
  have hs : ∀ (b : Bool) (x : ℝ), signed b (x : EReal) = (((if b then -1 else 1) * x : ℝ) : EReal) := by
    intro b x
    cases b
    · simp [signed]
    · simp [signed]
  have hc : ∀ (h : Fin 2) (x y : ℝ), comb h (x : EReal) (y : EReal) = ((x + (if h = 1 then -1 else 1) * y : ℝ) : EReal) := by
    intro h x y
    unfold comb
    split
    · rw [← EReal.coe_sub]; congr 1; ring
    · rw [← EReal.coe_add]; congr 1; ring
  unfold stages flat
  simp only [hs, hc]
  rw [coe_sum]
  congr 1
  fin_cases h1 <;> fin_cases h2 <;> fin_cases h3 <;> fin_cases h4 <;> simp [Fin.sum_univ_succ, odd, at4, Nat.testBit] <;> ring

/-- Both have the same magnitude. -/
theorem stages_abs (a : Fin 16 → EReal) (h1 h2 h3 h4 : Fin 2) :
    max (stages (fun k1 k2 k3 k4 => a (at4 k1 k2 k3 k4)) h1 h2 h3 h4) (-stages (fun k1 k2 k3 k4 => a (at4 k1 k2 k3 k4)) h1 h2 h3 h4)
      = max (flat a (at4 h1 h2 h3 h4)) (-flat a (at4 h1 h2 h3 h4)) := by
  by_cases h : ∃ k, Inf (a k)
  · rw [abs_inf ((inf_stages a h1 h2 h3 h4).mpr h), abs_inf ((inf_flat a _).mpr h)]
  · push Not at h
    choose r hr using fun k => not_inf (h k)
    obtain rfl : a = fun k => (r k : EReal) := funext hr
    rw [stages_real]

end Cert.Hadamard

end

end
-- ==== Proof.AmaxPoint.lean ====
/- One point of the amax slice: the rotation matrix that the first step stores, and the two output blocks, each the largest magnitude of the sixteen
   signed sums of a group of rows. -/
module

public import proofs.«01_k».proof.Proof.Gen.AmaxIdeal.Frame
public import proofs.«01_k».proof.Proof.Hadamard
public import Idealize.ShloMosaic.Lib.Pipeline.Value
public import Idealize.ShloMosaic.Lib.Pipeline.CanonAppend
public import Idealize.ShloMosaic.Lib.Pipeline.ReadBack
public import Idealize.ShloMosaic.Lib.Tactic
public import Idealize.ShloMosaic.Lib.Pointwise

@[expose] public section

set_option maxRecDepth 16384

noncomputable section

namespace Cert.AmaxIdeal.Val

open Cert.AmaxIdeal Cert.AmaxIdeal.Gen Idealize.ShloMosaic Idealize.ShloMosaic.TcCoe Idealize.SL.Sem
open Cert.Hadamard (odd signed flat amax)

/-- A quarter. -/
abbrev quarter : EReal := Ideal.ofBits .f32 1048576000#32

/-- The rotation matrix: row `16 h + g`, column `16 g + k` holds the signed quarter of sign `k`; the rest is zero. -/
def rot (S : Vec Ideal S16 .f32) : Vec Ideal S256x256 .bf16 := fun y =>
  if (y 0).val % 16 = (y 1).val / 16 then
    signed (odd ⟨(y 0).val / 16, by have h : (y 0).val < 256 := (y 0).isLt; omega⟩ ⟨(y 1).val % 16, by omega⟩) ((S (ix1 ⟨(y 1).val % 16, by omega⟩) : EReal) * quarter)
  else (0 : EReal)

/-- The chain of selects that finds a sign by its number. -/
def chain (w : BitVec 32) (s : Fin 16 → EReal) : EReal :=
  Scalar.select (IntOp.cmpi .eq w 15#32) (s 15 * quarter) <| Scalar.select (IntOp.cmpi .eq w 14#32) (s 14 * quarter) <|
  Scalar.select (IntOp.cmpi .eq w 13#32) (s 13 * quarter) <| Scalar.select (IntOp.cmpi .eq w 12#32) (s 12 * quarter) <|
  Scalar.select (IntOp.cmpi .eq w 11#32) (s 11 * quarter) <| Scalar.select (IntOp.cmpi .eq w 10#32) (s 10 * quarter) <|
  Scalar.select (IntOp.cmpi .eq w 9#32) (s 9 * quarter) <| Scalar.select (IntOp.cmpi .eq w 8#32) (s 8 * quarter) <|
  Scalar.select (IntOp.cmpi .eq w 7#32) (s 7 * quarter) <| Scalar.select (IntOp.cmpi .eq w 6#32) (s 6 * quarter) <|
  Scalar.select (IntOp.cmpi .eq w 5#32) (s 5 * quarter) <| Scalar.select (IntOp.cmpi .eq w 4#32) (s 4 * quarter) <|
  Scalar.select (IntOp.cmpi .eq w 3#32) (s 3 * quarter) <| Scalar.select (IntOp.cmpi .eq w 2#32) (s 2 * quarter) <|
  Scalar.select (IntOp.cmpi .eq w 1#32) (s 1 * quarter) <| Scalar.select (IntOp.cmpi .eq w 0#32) (s 0 * quarter) 0

theorem chain_eq (k : Fin 16) (s : Fin 16 → EReal) : chain (BitVec.ofNat 32 k.val) s = s k * quarter := by
  fin_cases k <;> rfl

/-- The word whose lowest bit is the parity. -/
def parity (a b : BitVec 32) : BitVec 32 :=
  have v83 := IntOp.andi a b
  have v86 := IntOp.xori v83 (IntOp.shrsi .vector v83 2#32)
  IntOp.andi (IntOp.xori v86 (IntOp.shrsi .vector v86 1#32)) 1#32

theorem word_low : ∀ n : Fin 256, IntOp.andi (BitVec.ofNat 32 n.val) 15#32 = BitVec.ofNat 32 (n.val % 16) := by decide +kernel
theorem word_high : ∀ n : Fin 256, IntOp.shrsi .vector (BitVec.ofNat 32 n.val) 4#32 = BitVec.ofNat 32 (n.val / 16) := by decide +kernel
theorem word_odd : ∀ a b : Fin 16, IntOp.cmpi .eq (parity (BitVec.ofNat 32 a.val) (BitVec.ofNat 32 b.val)) 1#32 = BitVec.ofBool (odd a b) := by decide +kernel
theorem word_eq : ∀ a b : Fin 16, IntOp.cmpi .eq (BitVec.ofNat 32 a.val) (BitVec.ofNat 32 b.val) = BitVec.ofBool (decide (a.val = b.val)) := by decide +kernel

theorem rot_pay (s : Fin 16 → Ideal .f32) (y : S256x256.Idx) :
    k0_pay14 (F := Ideal) (k0_pay12 k0_pay5 k0_pay6 (k0_pay9 k0_pay5 (k0_pay7 (s 0) (s 1) (s 2) (s 3)) k0_pay8 (s 4) (s 5) (s 6) (s 7) (s 8) (s 9))
        (k0_pay10 k0_pay5) (k0_pay11 (s 10)) (s 11) (s 12) (s 13) (s 14) (s 15))
      (k0_pay13 (iota .tc S256x256 32 [0] iota_S256x256_d0_w32) (iota .tc S256x256 32 [1] iota_S256x256_d1_w32)) y = rot (fun j => s (j 0)) y := by
  pointwise [k0_pay14, k0_pay12, k0_pay5, k0_pay6, k0_pay9, k0_pay7, k0_pay8, k0_pay10, k0_pay11, k0_pay13]
  have h0 : (y 0).val < 256 := (y 0).isLt
  have h1 : (y 1).val < 256 := (y 1).isLt
  have c1 := word_low ⟨(y 1).val, h1⟩
  have c0 := word_low ⟨(y 0).val, h0⟩
  have d1 := word_high ⟨(y 1).val, h1⟩
  have d0 := word_high ⟨(y 0).val, h0⟩
  have o := word_odd ⟨(y 0).val / 16, by omega⟩ ⟨(y 1).val % 16, by omega⟩
  have e := word_eq ⟨(y 0).val % 16, by omega⟩ ⟨(y 1).val / 16, by omega⟩
  have ch := chain_eq ⟨(y 1).val % 16, by omega⟩ s
  dsimp only at c0 c1 d0 d1 o e ch
  show Scalar.select (IntOp.cmpi .eq (IntOp.andi (BitVec.ofNat 32 (y 0).val) 15#32) (IntOp.shrsi .vector (BitVec.ofNat 32 (y 1).val) 4#32))
    (Scalar.select (IntOp.cmpi .eq (parity (IntOp.shrsi .vector (BitVec.ofNat 32 (y 0).val) 4#32) (IntOp.andi (BitVec.ofNat 32 (y 1).val) 15#32)) 1#32)
      ((0 : EReal) - chain (IntOp.andi (BitVec.ofNat 32 (y 1).val) 15#32) s) (chain (IntOp.andi (BitVec.ofNat 32 (y 1).val) 15#32) s)) (0 : EReal) = _
  rw [c0, c1, d0, d1, o, e, ch]
  unfold rot
  by_cases h : (y 0).val % 16 = (y 1).val / 16
  · rw [if_pos h, decide_eq_true h]
    generalize odd _ _ = b
    cases b
    · rfl
    · exact zero_sub _
  · rw [if_neg h, decide_eq_false h]
    rfl

/-- Row `16 h + g` of the rotation times a column: the signed sum of the sixteen rows of group `g`. -/
theorem rot_dot (S : Vec Ideal S16 .f32) (b : Fin 256 → EReal) (h g : Fin 16) :
    ∑ x : Fin 256, (rot S (ix2 ⟨h.val * 16 + g.val, by omega⟩ x) : EReal) * b x = flat (fun k => ((S (ix1 k) : EReal) * quarter) * b ⟨16 * g.val + k.val, by omega⟩) h := by
  rw [Cert.Hadamard.sum_blocks, Finset.sum_eq_single g]
  · unfold flat
    refine Finset.sum_congr rfl fun k _ => ?_
    rw [← Cert.Hadamard.signed_mul]
    congr 1
    have e0 : (⟨(h.val * 16 + g.val) / 16, by omega⟩ : Fin 16) = h := Fin.ext (by show (h.val * 16 + g.val) / 16 = h.val; omega)
    have e1 : (⟨(16 * g.val + k.val) % 16, by omega⟩ : Fin 16) = k := Fin.ext (by show (16 * g.val + k.val) % 16 = k.val; omega)
    show (if (h.val * 16 + g.val) % 16 = (16 * g.val + k.val) / 16 then
      signed (odd ⟨(h.val * 16 + g.val) / 16, _⟩ ⟨(16 * g.val + k.val) % 16, _⟩) ((S (ix1 ⟨(16 * g.val + k.val) % 16, _⟩) : EReal) * quarter) else (0 : EReal)) = _
    rw [if_pos (by omega), e0, e1]
  · intro i _ hi
    refine Finset.sum_eq_zero fun j _ => ?_
    have hne : ¬i.val = g.val := fun e => hi (Fin.ext e)
    show (if (h.val * 16 + g.val) % 16 = (16 * i.val + j.val) / 16 then _ else (0 : EReal)) * _ = 0
    rw [if_neg (by omega), zero_mul]
  · intro hg
    exact absurd (Finset.mem_univ g) hg

/-- A stored block of sixteen rows at a position. -/
theorem pay_eq (S : Vec Ideal S16 .f32) (b : Vec Ideal S256x1024 .bf16) (y : S16x1024.Idx) :
    k0_pay15 (F := Ideal) (rot S) b y = amax fun k => ((S (ix1 k) : EReal) * quarter) * b (ix2 ⟨16 * (y 0).val + k.val, by have h : (y 0).val < 16 := (y 0).isLt; omega⟩ (y 1)) := by
  have h0 : (y 0).val < 16 := (y 0).isLt
  pointwise [k0_pay15]
  unfold amax
  refine Finset.fold_congr fun h _ => ?_
  have e := rot_dot S (fun x => b (ix2 x (y 1))) h ⟨(y 0).val, h0⟩
  show max (∑ x : Fin 256, (rot S (ix2 ⟨h.val * 16 + (y 0).val, _⟩ x) : EReal) * b (ix2 x (y 1))) (-∑ x : Fin 256, (rot S (ix2 ⟨h.val * 16 + (y 0).val, _⟩ x) : EReal) * b (ix2 x (y 1))) = _
  rw [e]

/-- One point's output block: row `g` holds the largest magnitudes of the rows `16 g …` of the input block. -/
def tile (S : Vec Ideal S16 .f32) (x : Vec Ideal S1536x1024 .bf16) : Vec Ideal S96x1024 .f32 := fun y =>
  amax fun k => ((S (ix1 k) : EReal) * quarter) * x (ix2 ⟨16 * (y 0).val + k.val, by have h : (y 0).val < 96 := (y 0).isLt; omega⟩ (y 1))

/-- A stored block of sixteen rows is the block of `tile` at its rows. -/
theorem piece (S : Vec Ideal S16 .f32) (x : Vec Ideal S1536x1024 .bf16) (R : Vec Ideal S256x256 .bf16) (b : Vec Ideal S256x1024 .bf16) (r q : ℕ) (hq : q = 16 * r)
    (ib : ∀ a, ![q, 0] a + S256x1024.size a ≤ S1536x1024.size a) (ib' : ∀ a, ![r, 0] a + S16x1024.size a ≤ S96x1024.size a)
    (hR : R = rot S) (hb : ∀ j, b j = x ((Rect.unit (s := S1536x1024) ![q, 0] S256x1024.size ib).emb j)) (y : S16x1024.Idx) :
    k0_pay15 (F := Ideal) R b y = tile S x ((Rect.unit (s := S96x1024) ![r, 0] S16x1024.size ib').emb y) := by
  subst hR
  rw [pay_eq]
  unfold tile
  congr 1
  funext k
  rw [hb]
  congr 2
  funext a; apply Fin.ext
  match a with
  | ⟨0, _⟩ => show q + 1 * (16 * (y 0).val + k.val) = 16 * (r + 1 * (y 0).val) + k.val; omega
  | ⟨1, _⟩ => show 0 + 1 * (y 1).val = 0 + 1 * (y 1).val; rfl

variable (c : Dev nD) (i : grid0.Coords) (arg1 : Memref sig .tc .smem S16 .f32) (harg1 : arg1.IsWhole) (arg2 : Memref sig .tc .vmem S1536x1024 .bf16) (harg2 : arg2.IsWhole)
  (arg3 : Memref sig .tc .vmem S1536x1024 .bf16) (harg3 : arg3.IsWhole) (arg4 : Memref sig .tc .vmem S96x1024 .f32) (harg4 : arg4.IsWhole)
  (arg5 : Memref sig .tc .vmem S96x1024 .f32) (harg5 : arg5.IsWhole) (arg6 : Memref sig .tc .vmem S256x256 .bf16) (harg6 : arg6.IsWhole)
  (x0 : Vec Ideal S16 .f32) (x1 x2 : Vec Ideal S1536x1024 .bf16) (xs0 : Vec Ideal S256x256 .bf16)

/-- A load of a block of rows at a position. -/
theorem read_rows (m : Memref sig .tc .vmem S1536x1024 .bf16) (hm : m.IsWhole) (x : Vec Ideal S1536x1024 .bf16) (r : Rect S1536x1024) (j : r.shape.Idx) :
    View.readAt (Elt Ideal) m.view r.toLoadRect (hm.unread x) j = x (r.emb j) :=
  congrFun (hm.read_unread x) (r.emb j)

theorem whole_emb (ib : ∀ a, ![0, 0] a + S256x256.size a ≤ S256x256.size a) (j : S256x256.Idx) : (Rect.unit (s := S256x256) ![0, 0] S256x256.size ib).emb j = j := by
  funext a; apply Fin.ext; fin_cases a <;> simp [Rect.emb, Rect.unit]

/-- A load of the whole scratch from its stores. -/
theorem back_whole (m : Memref sig .tc .vmem S256x256 .bf16) (L : List (View.Piece (Elt Ideal) S256x256 .bf16)) (D : Vec Ideal S256x256 .bf16) (hL : View.canon L = D)
    (ib : ∀ a, ![0, 0] a + S256x256.size a ≤ S256x256.size a) :
    m.view.readCov L (Rect.unit (s := S256x256) ![0, 0] S256x256.size ib).toLoadRect = D := by
  rw [View.readCov_eq_canon', hL]
  exact funext fun j => congrArg D (whole_emb ib j)

/-- A load of the whole scratch's contents. -/
theorem read_whole (m : Memref sig .tc .vmem S256x256 .bf16) (hm : m.IsWhole) (D : Vec Ideal S256x256 .bf16)
    (ib : ∀ a, ![0, 0] a + S256x256.size a ≤ S256x256.size a) :
    View.readAt (Elt Ideal) m.view (Rect.unit (s := S256x256) ![0, 0] S256x256.size ib).toLoadRect (hm.unread D) = D :=
  funext fun j => (congrFun (hm.read_unread D) _).trans (congrArg D (whole_emb ib j))

/-- A load of one sign. -/
theorem read_sign (n : ℕ) (ib : ∀ a, ![n] a + S1.size a ≤ S16.size a) (j : S1.Idx) :
    View.readAt (Elt Ideal) arg1.view (Rect.unit (s := S16) ![n] S1.size ib).toLoadRect (harg1.unread x0) j = x0 (ix1 ⟨n, by have h : n + 1 ≤ 16 := ib 0; omega⟩) := by
  refine (congrFun (harg1.read_unread x0) _).trans (congrArg x0 ?_)
  funext a; apply Fin.ext
  match a with
  | ⟨0, _⟩ =>
    have h : (j 0).val < 1 := (j 0).isLt
    show n + 1 * (j 0).val = n
    omega

/-- The first step's scratch. -/
theorem scratch_A (hc : cond0_0 i) : View.canon (kernelRun0_A (F := Ideal) c i arg1 harg1 arg2 harg2 arg3 harg3 arg4 harg4 arg5 harg5 arg6 harg6 hc x0 x1 x2).2.2.1 = rot x0 := by
  dsimp only [kernelRun0_A]
  unfold kernelRun0_A.sl.HS0_1
  rw [View.canon_unit_zero (by funext a; fin_cases a <;> rfl)]
  unfold kernelRun0_A.sl.r_19 kernelRun0_A.sl.v77 kernelRun0_A.sl.v78
  unfold kernelRun0_A.sl.r_12 kernelRun0_A.sl.r_13 kernelRun0_A.sl.r_14 kernelRun0_A.sl.r_15 kernelRun0_A.sl.r_16 kernelRun0_A.sl.r_17 kernelRun0_A.sl.r_18
  unfold kernelRun0_A.sl.r_4 kernelRun0_A.sl.r_5 kernelRun0_A.sl.r_6 kernelRun0_A.sl.r_7 kernelRun0_A.sl.r_8 kernelRun0_A.sl.r_9 kernelRun0_A.sl.r_10 kernelRun0_A.sl.r_11
  unfold kernelRun0_A.sl.r kernelRun0_A.sl.r_1 kernelRun0_A.sl.r_2 kernelRun0_A.sl.r_3
  repeat rw [read_sign]
  funext y
  exact (rot_pay (fun k => x0 (ix1 k)) y).trans (congrArg (fun S => rot S y) (funext fun j => congrArg x0 (by funext a; fin_cases a; rfl)))

/-- The block computed from a load of its rows. -/
theorem block (S : Vec Ideal S16 .f32) (x : Vec Ideal S1536x1024 .bf16) (m : Memref sig .tc .vmem S1536x1024 .bf16) (hm : m.IsWhole) (R : Vec Ideal S256x256 .bf16) (hR : R = rot S) (r q : ℕ) (hq : q = 16 * r)
    (ib : ∀ a, ![q, 0] a + S256x1024.size a ≤ S1536x1024.size a) (ib' : ∀ a, ![r, 0] a + S16x1024.size a ≤ S96x1024.size a) (y : S16x1024.Idx) :
    k0_pay15 (F := Ideal) R (View.readAt (Elt Ideal) m.view (Rect.unit (s := S1536x1024) ![q, 0] S256x1024.size ib).toLoadRect (hm.unread x)) y
      = tile S x ((Rect.unit (s := S96x1024) ![r, 0] S16x1024.size ib').emb y) :=
  piece S x R _ r q hq ib ib' hR (read_rows m hm x (Rect.unit (s := S1536x1024) ![q, 0] S256x1024.size ib)) y

/-- Six blocks of sixteen rows, one below the other, are an output block. -/
theorem six (S : Vec Ideal S16 .f32) (x : Vec Ideal S1536x1024 .bf16) (m : Memref sig .tc .vmem S1536x1024 .bf16) (hm : m.IsWhole)
    (R0 R1 R2 R3 R4 R5 : Vec Ideal S256x256 .bf16) (h0 : R0 = rot S) (h1 : R1 = rot S) (h2 : R2 = rot S) (h3 : R3 = rot S) (h4 : R4 = rot S) (h5 : R5 = rot S)
    (L : List (View.Piece (Elt Ideal) S96x1024 .f32))
    (hL : L = [⟨Rect.unit (s := S96x1024) ![80, 0] S16x1024.size inb_S96x1024_S16x1024_80_0, k0_pay15 (F := Ideal) R5 (View.readAt (Elt Ideal) m.view (Rect.unit (s := S1536x1024) ![1280, 0] S256x1024.size inb_S1536x1024_S256x1024_1280_0).toLoadRect (hm.unread x))⟩,
      ⟨Rect.unit (s := S96x1024) ![64, 0] S16x1024.size inb_S96x1024_S16x1024_64_0, k0_pay15 (F := Ideal) R4 (View.readAt (Elt Ideal) m.view (Rect.unit (s := S1536x1024) ![1024, 0] S256x1024.size inb_S1536x1024_S256x1024_1024_0).toLoadRect (hm.unread x))⟩,
      ⟨Rect.unit (s := S96x1024) ![48, 0] S16x1024.size inb_S96x1024_S16x1024_48_0, k0_pay15 (F := Ideal) R3 (View.readAt (Elt Ideal) m.view (Rect.unit (s := S1536x1024) ![768, 0] S256x1024.size inb_S1536x1024_S256x1024_768_0).toLoadRect (hm.unread x))⟩,
      ⟨Rect.unit (s := S96x1024) ![32, 0] S16x1024.size inb_S96x1024_S16x1024_32_0, k0_pay15 (F := Ideal) R2 (View.readAt (Elt Ideal) m.view (Rect.unit (s := S1536x1024) ![512, 0] S256x1024.size inb_S1536x1024_S256x1024_512_0).toLoadRect (hm.unread x))⟩,
      ⟨Rect.unit (s := S96x1024) ![16, 0] S16x1024.size inb_S96x1024_S16x1024_16_0, k0_pay15 (F := Ideal) R1 (View.readAt (Elt Ideal) m.view (Rect.unit (s := S1536x1024) ![256, 0] S256x1024.size inb_S1536x1024_S256x1024_256_0).toLoadRect (hm.unread x))⟩,
      ⟨Rect.unit (s := S96x1024) ![0, 0] S16x1024.size inb_S96x1024_S16x1024_0_0, k0_pay15 (F := Ideal) R0 (View.readAt (Elt Ideal) m.view (Rect.unit (s := S1536x1024) ![0, 0] S256x1024.size inb_S1536x1024_S256x1024_0_0).toLoadRect (hm.unread x))⟩]) :
    View.canon L = tile S x := by
  have hp : View.PiecesOf (tile S x) L := by
    rw [hL]
    exact ⟨fun z => by dsimp only; rw [block S x m hm R5 h5 80 1280 (by omega) inb_S1536x1024_S256x1024_1280_0 inb_S96x1024_S16x1024_80_0 z],
      fun z => by dsimp only; rw [block S x m hm R4 h4 64 1024 (by omega) inb_S1536x1024_S256x1024_1024_0 inb_S96x1024_S16x1024_64_0 z],
      fun z => by dsimp only; rw [block S x m hm R3 h3 48 768 (by omega) inb_S1536x1024_S256x1024_768_0 inb_S96x1024_S16x1024_48_0 z],
      fun z => by dsimp only; rw [block S x m hm R2 h2 32 512 (by omega) inb_S1536x1024_S256x1024_512_0 inb_S96x1024_S16x1024_32_0 z],
      fun z => by dsimp only; rw [block S x m hm R1 h1 16 256 (by omega) inb_S1536x1024_S256x1024_256_0 inb_S96x1024_S16x1024_16_0 z],
      fun z => by dsimp only; rw [block S x m hm R0 h0 0 0 (by omega) inb_S1536x1024_S256x1024_0_0 inb_S96x1024_S16x1024_0_0 z], trivial⟩
  funext y
  refine View.canon_apply_of_pieces _ _ hp.mem y (View.cover_of_tiledL (s := S96x1024) _ S16x1024.size ?_ y)
  rw [hL]
  sl_kernel_rfl

theorem x_A (hc : cond0_0 i) : View.canon (kernelRun0_A (F := Ideal) c i arg1 harg1 arg2 harg2 arg3 harg3 arg4 harg4 arg5 harg5 arg6 harg6 hc x0 x1 x2).1 = tile x0 x1 := by
  have e := back_whole arg6 _ _ (scratch_A c i arg1 harg1 arg2 harg2 arg3 harg3 arg4 harg4 arg5 harg5 arg6 harg6 x0 x1 x2 hc) inb_S256x256_S256x256_0_0
  exact six x0 x1 arg2 harg2 _ _ _ _ _ _ e e e e e e _ rfl

theorem y_A (hc : cond0_0 i) : View.canon (kernelRun0_A (F := Ideal) c i arg1 harg1 arg2 harg2 arg3 harg3 arg4 harg4 arg5 harg5 arg6 harg6 hc x0 x1 x2).2.1 = tile x0 x2 := by
  have e := back_whole arg6 _ _ (scratch_A c i arg1 harg1 arg2 harg2 arg3 harg3 arg4 harg4 arg5 harg5 arg6 harg6 x0 x1 x2 hc) inb_S256x256_S256x256_0_0
  exact six x0 x2 arg3 harg3 _ _ _ _ _ _ e e e e e e _ rfl

theorem x_B (hc : ¬cond0_0 i) (S : Vec Ideal S16 .f32) (hs : xs0 = rot S) : View.canon (kernelRun0_B (F := Ideal) c i arg1 harg1 arg2 harg2 arg3 harg3 arg4 harg4 arg5 harg5 arg6 harg6 hc x0 x1 x2 xs0).1 = tile S x1 := by
  have e := (read_whole arg6 harg6 xs0 inb_S256x256_S256x256_0_0).trans hs
  exact six S x1 arg2 harg2 _ _ _ _ _ _ e e e e e e _ rfl

theorem y_B (hc : ¬cond0_0 i) (S : Vec Ideal S16 .f32) (hs : xs0 = rot S) : View.canon (kernelRun0_B (F := Ideal) c i arg1 harg1 arg2 harg2 arg3 harg3 arg4 harg4 arg5 harg5 arg6 harg6 hc x0 x1 x2 xs0).2.1 = tile S x2 := by
  have e := (read_whole arg6 harg6 xs0 inb_S256x256_S256x256_0_0).trans hs
  exact six S x2 arg3 harg3 _ _ _ _ _ _ e e e e e e _ rfl

end Cert.AmaxIdeal.Val

end

end
-- ==== Proof.AmaxArray.lean ====
/- The arrays of the amax slice: the blocks of a point, the rotation that the first step leaves for the later ones, and the two results, each the
   largest magnitude of the sixteen signed sums of a group of rows. -/
module

public import proofs.«01_k».proof.Proof.Gen.AmaxIdeal.Frame
public import proofs.«01_k».proof.Proof.AmaxPoint

@[expose] public section

set_option maxRecDepth 16384

noncomputable section

namespace Cert.AmaxIdeal.Val

open Cert.AmaxIdeal Cert.AmaxIdeal.Gen Idealize.ShloMosaic Idealize.ShloMosaic.TcCoe Idealize.SL.Sem
open Idealize.ShloMosaic.Pipeline (Dat)
open Cert.Hadamard (amax)

variable (m : (ℓ : Loc nD τ sig) → Buf (Elt Ideal) ℓ) (ρ : Dev nD → PrngReg)

/-- The operands as they lie in memory. -/
abbrev aX (c : Dev nD) : Vec Ideal S1536x4096 .bf16 := m ((c : Thread nD τ).loc main_arg0)
abbrev aY (c : Dev nD) : Vec Ideal S1536x14336 .bf16 := m ((c : Thread nD τ).loc main_arg1)
abbrev aS (c : Dev nD) : Vec Ideal S16 .f32 := m ((c : Thread nD τ).loc main_arg2)

/-- Column block `q` of the first operand. -/
def xTile (X : Vec Ideal S1536x4096 .bf16) (q : Fin 4) : Vec Ideal S1536x1024 .bf16 :=
  fun y => X (ix2 (y 0) ⟨1024 * q.val + (y 1).val, by have h : (y 1).val < 1024 := (y 1).isLt; omega⟩)

/-- Column block `q` of the second operand. -/
def yTile (Y : Vec Ideal S1536x14336 .bf16) (q : Fin 14) : Vec Ideal S1536x1024 .bf16 :=
  fun y => Y (ix2 (y 0) ⟨1024 * q.val + (y 1).val, by have h : (y 1).val < 1024 := (y 1).isLt; omega⟩)

/-- The first result: group `g` of sixteen rows, rotated, and its largest magnitude in every column. -/
def xMax (S : Vec Ideal S16 .f32) (X : Vec Ideal S1536x4096 .bf16) : Vec Ideal S96x4096 .f32 := fun y =>
  amax fun k => ((S (ix1 k) : EReal) * quarter) * X (ix2 ⟨16 * (y 0).val + k.val, by have h : (y 0).val < 96 := (y 0).isLt; omega⟩ (y 1))

/-- The second result. -/
def yMax (S : Vec Ideal S16 .f32) (Y : Vec Ideal S1536x14336 .bf16) : Vec Ideal S96x14336 .f32 := fun y =>
  amax fun k => ((S (ix1 k) : EReal) * quarter) * Y (ix2 ⟨16 * (y 0).val + k.val, by have h : (y 0).val < 96 := (y 0).isLt; omega⟩ (y 1))

theorem point_lt (t : Fin cfg0.N) : t.val < 18 := lt_of_lt_of_eq t.isLt N_0
theorem idx1 : ∀ t : Fin grid0.N, win0_1.index t (0 : Fin 2) = 0 ∧ win0_1.index t (1 : Fin 2) = min t.val 3 := by decide +kernel
theorem idx2 : ∀ t : Fin grid0.N, win0_2.index t (0 : Fin 2) = 0 ∧ win0_2.index t (1 : Fin 2) = t.val - 4 := by decide +kernel
theorem idx3 : ∀ t : Fin grid0.N, win0_3.index t (0 : Fin 2) = 0 ∧ win0_3.index t (1 : Fin 2) = min t.val 3 := by decide +kernel
theorem idx4 : ∀ t : Fin grid0.N, win0_4.index t (0 : Fin 2) = 0 ∧ win0_4.index t (1 : Fin 2) = t.val - 4 := by decide +kernel

theorem blk0 (c : Dev nD) (t : Fin cfg0.N) : (iblk m c 0 t : Vec Ideal S16 .f32) = aS m c := by
  funext j
  unfold iblk
  rw [View.read_apply]
  refine congrArg (aS m c) ?_
  funext a
  apply Fin.ext
  match a with
  | ⟨0, _⟩ => show 0 * 16 + 1 * (j 0).val = (j 0).val; omega

theorem blk1 (c : Dev nD) (t : Fin cfg0.N) : (iblk m c 1 t : Vec Ideal S1536x1024 .bf16) = xTile (aX m c) ⟨min t.val 3, by omega⟩ := by
  have hi := idx1 t
  funext j
  unfold iblk
  rw [View.read_apply]
  refine congrArg (aX m c) ?_
  funext a
  apply Fin.ext
  match a with
  | ⟨0, _⟩ => show win0_1.index t 0 * 1536 + 1 * (j 0).val = (j 0).val; rw [hi.1]; omega
  | ⟨1, _⟩ => show win0_1.index t 1 * 1024 + 1 * (j 1).val = 1024 * (min t.val 3) + (j 1).val; rw [hi.2]; omega

theorem blk2 (c : Dev nD) (t : Fin cfg0.N) : (iblk m c 2 t : Vec Ideal S1536x1024 .bf16) = yTile (aY m c) ⟨t.val - 4, by have := point_lt t; omega⟩ := by
  have hi := idx2 t
  funext j
  unfold iblk
  rw [View.read_apply]
  refine congrArg (aY m c) ?_
  funext a
  apply Fin.ext
  match a with
  | ⟨0, _⟩ => show win0_2.index t 0 * 1536 + 1 * (j 0).val = (j 0).val; rw [hi.1]; omega
  | ⟨1, _⟩ => show win0_2.index t 1 * 1024 + 1 * (j 1).val = 1024 * (t.val - 4) + (j 1).val; rw [hi.2]; omega

/-- The rotation that the first step stores is there after every step. -/
theorem carried (c : Dev nD) (n : ℕ) (hn : n < cfg0.N) : (outsAt0 m c n hn).2.2 = rot (aS m c) := by
  have hlt : n < 18 := point_lt ⟨n, hn⟩
  induction n with
  | zero =>
    rw [outsAt0_A m c ⟨0, hn⟩ (Nat.zero_mod _)]
    dsimp only
    unfold sout0_A_0
    rw [View.read_writes_junk_eq_canon, scratch_A, blk0]
  | succ n ih =>
    rw [outsAt0_B m c ⟨n + 1, hn⟩ (by show ¬(n + 1) % 18 = 0; omega)]
    dsimp only
    unfold sout0_B_0
    exact ih (by omega) (by omega)

/-- A point's first output block. -/
theorem outX (c : Dev nD) (t : Fin cfg0.N) : (outsAt0 m c t.val t.isLt).1 = tile (aS m c) (xTile (aX m c) ⟨min t.val 3, by omega⟩) := by
  by_cases h0 : t.val % 18 = 0
  · rw [outsAt0_A m c t h0]
    dsimp only
    unfold out0_A_3
    rw [View.read_writes_junk_eq_canon, x_A, blk0, blk1]
  · rw [outsAt0_B m c t h0]
    dsimp only
    unfold out0_B_3
    rw [View.read_writes_junk_eq_canon, x_B (S := aS m c) (hs := carried m c _ _), blk1]

/-- A point's second output block. -/
theorem outY (c : Dev nD) (t : Fin cfg0.N) : (outsAt0 m c t.val t.isLt).2.1 = tile (aS m c) (yTile (aY m c) ⟨t.val - 4, by have := point_lt t; omega⟩) := by
  by_cases h0 : t.val % 18 = 0
  · rw [outsAt0_A m c t h0]
    dsimp only
    unfold out0_A_4
    rw [View.read_writes_junk_eq_canon, y_A, blk0, blk2]
  · rw [outsAt0_B m c t h0]
    dsimp only
    unfold out0_B_4
    rw [View.read_writes_junk_eq_canon, y_B (S := aS m c) (hs := carried m c _ _), blk2]

/-- The whole results. -/
def GX (c : Dev nD) : Buf (Elt Ideal) ((c : Thread nD τ).loc main_v0_0) := xMax (aS m c) (aX m c)
def GY (c : Dev nD) : Buf (Elt Ideal) ((c : Thread nD τ).loc main_v0_1) := yMax (aS m c) (aY m c)

/-- A block of a result is the output block of the operand's block. -/
theorem tile_x (S : Vec Ideal S16 .f32) (X : Vec Ideal S1536x4096 .bf16) (q : Fin 4) (y : S96x1024.Idx) (z : S96x4096.Idx)
    (h0 : (z 0).val = (y 0).val) (h1 : (z 1).val = 1024 * q.val + (y 1).val) : tile S (xTile X q) y = xMax S X z := by
  unfold tile xTile xMax
  congr 1
  funext k
  congr 2
  funext a; apply Fin.ext
  match a with
  | ⟨0, _⟩ => show 16 * (y 0).val + k.val = 16 * (z 0).val + k.val; omega
  | ⟨1, _⟩ => show 1024 * q.val + (y 1).val = (z 1).val; omega

theorem tile_y (S : Vec Ideal S16 .f32) (Y : Vec Ideal S1536x14336 .bf16) (q : Fin 14) (y : S96x1024.Idx) (z : S96x14336.Idx)
    (h0 : (z 0).val = (y 0).val) (h1 : (z 1).val = 1024 * q.val + (y 1).val) : tile S (yTile Y q) y = yMax S Y z := by
  unfold tile yTile yMax
  congr 1
  funext k
  congr 2
  funext a; apply Fin.ext
  match a with
  | ⟨0, _⟩ => show 16 * (y 0).val + k.val = 16 * (z 0).val + k.val; omega
  | ⟨1, _⟩ => show 1024 * q.val + (y 1).val = (z 1).val; omega

/-- What is written back of the first result is its block. -/
theorem flushed_x (c : Dev nD) (t : Fin cfg0.N) : (dats m 0 c).flushed 3 t = ((cfg0.win 3).blk t).view.read (Elt Ideal) (GX m c) := by
  show (cfg0.win 3).cut (grid0.coords t) ((dats m 0 c).after 3 t) = _
  rw [after0_3, outX m c t]
  have hi := idx3 t
  funext y
  have hb0 : (((cfg0.win 3).blk t).view.emb y 0).val = win0_3.index t (0 : Fin 2) * 96 + 1 * (y 0).val := rfl
  have hb1 : (((cfg0.win 3).blk t).view.emb y 1).val = win0_3.index t (1 : Fin 2) * 1024 + 1 * (y 1).val := rfl
  rw [View.read_apply]
  refine tile_x _ _ _ ((cfg0.win 3).xinj (grid0.coords t) y) (((cfg0.win 3).blk t).view.emb y) ?_ ?_
  · rw [hb0, hi.1]; show 0 * 96 + 1 * (y 0).val = (y 0).val; omega
  · rw [hb1, hi.2]; show min t.val 3 * 1024 + 1 * (y 1).val = 1024 * min t.val 3 + (y 1).val; omega

theorem flushed_y (c : Dev nD) (t : Fin cfg0.N) : (dats m 0 c).flushed 4 t = ((cfg0.win 4).blk t).view.read (Elt Ideal) (GY m c) := by
  show (cfg0.win 4).cut (grid0.coords t) ((dats m 0 c).after 4 t) = _
  rw [after0_4, outY m c t]
  have hi := idx4 t
  funext y
  have hb0 : (((cfg0.win 4).blk t).view.emb y 0).val = win0_4.index t (0 : Fin 2) * 96 + 1 * (y 0).val := rfl
  have hb1 : (((cfg0.win 4).blk t).view.emb y 1).val = win0_4.index t (1 : Fin 2) * 1024 + 1 * (y 1).val := rfl
  rw [View.read_apply]
  refine tile_y _ _ _ ((cfg0.win 4).xinj (grid0.coords t) y) (((cfg0.win 4).blk t).view.emb y) ?_ ?_
  · rw [hb0, hi.1]; show 0 * 96 + 1 * (y 0).val = (y 0).val; omega
  · rw [hb1, hi.2]; show (t.val - 4) * 1024 + 1 * (y 1).val = 1024 * (t.val - 4) + (y 1).val; omega

/-- An index of a result is in a point's block iff each coordinate is in the block's range. -/
theorem mem_x (t : Fin cfg0.N) (i : S96x4096.Idx) :
    i ∈ ((cfg0.win 3).blk t).view.set ↔ ∀ a : Fin 2, win0_3.index t a * S96x1024.size a ≤ (i a).val ∧ (i a).val < win0_3.index t a * S96x1024.size a + S96x1024.size a := by
  show i ∈ ((View.whole main_v0_0).slice (win0_3.rect t)).set ↔ _
  rw [View.set_slice_whole, Rect.mem_set_unit]
  exact Iff.rfl

theorem mem_y (t : Fin cfg0.N) (i : S96x14336.Idx) :
    i ∈ ((cfg0.win 4).blk t).view.set ↔ ∀ a : Fin 2, win0_4.index t a * S96x1024.size a ≤ (i a).val ∧ (i a).val < win0_4.index t a * S96x1024.size a + S96x1024.size a := by
  show i ∈ ((View.whole main_v0_1).slice (win0_4.rect t)).set ↔ _
  rw [View.set_slice_whole, Rect.mem_set_unit]
  exact Iff.rfl

/-- The points at which each block of a result is written back. -/
theorem back_x : ∀ q : Fin 4, ∃ t : Fin grid0.N, win0_3.flush t = true ∧ min t.val 3 = q.val := by decide +kernel
theorem back_y : ∀ q : Fin 14, ∃ t : Fin grid0.N, win0_4.flush t = true ∧ t.val - 4 = q.val := by decide +kernel

theorem final_x (c : Dev nD) : (dats m 0 c).arrAt 3 cfg0.N = GX m c :=
  (dats m 0 c).arrAt_eq_of_cover 3 _ (fun t _ => flushed_x m c t) (fun (i : S96x4096.Idx) => by
    have h0 : (i 0).val < 96 := (i 0).isLt
    have h1 : (i 1).val < 4096 := (i 1).isLt
    obtain ⟨t, hf, ht⟩ := back_x ⟨(i 1).val / 1024, by omega⟩
    have ht' : min t.val 3 = (i 1).val / 1024 := ht
    have hi := idx3 t
    refine ⟨t, hf, ?_⟩
    rw [mem_x]
    intro a
    match a with
    | ⟨0, _⟩ => show win0_3.index t (0 : Fin 2) * 96 ≤ (i 0).val ∧ (i 0).val < win0_3.index t (0 : Fin 2) * 96 + 96; rw [hi.1]; omega
    | ⟨1, _⟩ => show win0_3.index t (1 : Fin 2) * 1024 ≤ (i 1).val ∧ (i 1).val < win0_3.index t (1 : Fin 2) * 1024 + 1024; rw [hi.2, ht']; omega)

theorem final_y (c : Dev nD) : (dats m 0 c).arrAt 4 cfg0.N = GY m c :=
  (dats m 0 c).arrAt_eq_of_cover 4 _ (fun t _ => flushed_y m c t) (fun (i : S96x14336.Idx) => by
    have h0 : (i 0).val < 96 := (i 0).isLt
    have h1 : (i 1).val < 14336 := (i 1).isLt
    obtain ⟨t, hf, ht⟩ := back_y ⟨(i 1).val / 1024, by omega⟩
    have ht' : t.val - 4 = (i 1).val / 1024 := ht
    have hi := idx4 t
    refine ⟨t, hf, ?_⟩
    rw [mem_y]
    intro a
    match a with
    | ⟨0, _⟩ => show win0_4.index t (0 : Fin 2) * 96 ≤ (i 0).val ∧ (i 0).val < win0_4.index t (0 : Fin 2) * 96 + 96; rw [hi.1]; omega
    | ⟨1, _⟩ => show win0_4.index t (1 : Fin 2) * 1024 ≤ (i 1).val ∧ (i 1).val < win0_4.index t (1 : Fin 2) * 1024 + 1024; rw [hi.2, ht']; omega)

/-- The run: the two result arrays end at the largest magnitudes, the arguments unchanged. -/
theorem run : θ_run defs (onTc (τ := τ) (main (F := Ideal))) ⟨m, fun _ => 0, ρ⟩ fun r => ∀ c : Dev nD,
      r.2.mem ((c : Thread nD τ).loc main_v0_0) = GX m c
      ∧ r.2.mem ((c : Thread nD τ).loc main_v0_1) = GY m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final_x m c), ((h c).1 4).trans (final_y m c),
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).1 0).trans (((dats m 0 c).arrAt_in 0 rfl _).trans ((A_eq m c 0).trans (V_main_arg2 m c)))⟩)
    (run_main m ρ)

end Cert.AmaxIdeal.Val

end

end
-- ==== Proof.AmaxReference.lean ====
/- The value of the reference of the amax slice: its four stages of butterflies read at an index, and the largest magnitude of the sixteen
   outputs of a group of rows. -/
module

public import proofs.«01_k».proof.Proof.Gen.AmaxReferenceIdeal.Run
public import proofs.«01_k».proof.Proof.Hadamard
public import Idealize.ShloMosaic.Lib.Pointwise

@[expose] public section

set_option maxRecDepth 16384

noncomputable section

namespace Cert.AmaxReferenceIdeal.Val

open Cert.AmaxReferenceIdeal Cert.AmaxReferenceIdeal.Gen Cert.AmaxReferenceIdeal.Value Idealize.ShloMosaic Idealize.ShloMosaic.TcCoe Idealize.SL.Sem
open Cert.Hadamard (odd signed flat comb stages at4 amax)

theorem comb_select (h : Fin 2) (x y : EReal) : Scalar.select (IntOp.cmpi .eq (BitVec.ofNat 32 h.val) 1#32) (x - y) (x + y) = comb h x y := by
  fin_cases h <;> rfl

variable (V0 : Valuation τ sig (Elt Ideal))

/-- The operands. -/
abbrev aX : Vec Ideal S1536x4096 .bf16 := V0 (Proc.devRef .tc main_arg0)
abbrev aY : Vec Ideal S1536x14336 .bf16 := V0 (Proc.devRef .tc main_arg1)
abbrev aS : Vec Ideal S16 .f32 := V0 (Proc.devRef .tc main_arg2)

/-- The largest magnitude of the sixteen signed sums, the form in which the kernel computes them. -/
theorem fold_stages (a : Fin 16 → EReal) :
    Finset.univ.fold max (Ideal.ofBits .f32 4286578688#32) (fun x : Fin 16 =>
        max (stages (fun k1 k2 k3 k4 => a (at4 k1 k2 k3 k4)) ⟨x.val / 8, by omega⟩ ⟨x.val / 4 % 2, by omega⟩ ⟨x.val / 2 % 2, by omega⟩ ⟨x.val % 2, by omega⟩)
          (-stages (fun k1 k2 k3 k4 => a (at4 k1 k2 k3 k4)) ⟨x.val / 8, by omega⟩ ⟨x.val / 4 % 2, by omega⟩ ⟨x.val / 2 % 2, by omega⟩ ⟨x.val % 2, by omega⟩))
      = amax a := by
  unfold amax
  refine Finset.fold_congr fun x _ => ?_
  rw [Cert.Hadamard.stages_abs]
  have e : at4 ⟨x.val / 8, by omega⟩ ⟨x.val / 4 % 2, by omega⟩ ⟨x.val / 2 % 2, by omega⟩ ⟨x.val % 2, by omega⟩ = x :=
    Fin.ext (by show x.val / 8 * 8 + x.val / 4 % 2 * 4 + x.val / 2 % 2 * 2 + x.val % 2 = x.val; omega)
  rw [e]

theorem c_four : Ideal.ofBits .f32 1082130432#32 = ((4 : ℝ) : EReal) := by
  simp [Ideal.ofBits, Ideal.ieee]
  norm_cast
  norm_num

theorem c_quarter : Ideal.ofBits .f32 1048576000#32 = ((1 / 4 : ℝ) : EReal) := by
  simp [Ideal.ofBits, Ideal.ieee]
  norm_cast
  norm_num

/-- Dividing by four is multiplying by a quarter. -/
theorem div_four (x : EReal) : Ideal.div x (Ideal.ofBits .f32 1082130432#32) = x * Ideal.ofBits .f32 1048576000#32 := by
  rw [c_four, c_quarter]
  unfold Ideal.div
  have h : ¬((4 : ℝ) : EReal) = 0 := by norm_cast
  rw [if_neg h, ← EReal.coe_inv]
  norm_num

theorem x_in (g : Fin 96) (k1 k2 k3 k4 : Fin 2) (q : Fin 4096) :
    (res_main_v7 (F := Ideal) V0 : Vec Ideal S96x2x2x2x2x4096 .f32) (ix6 g k1 k2 k3 k4 q)
      = (aX V0 (ix2 ⟨16 * g.val + (at4 k1 k2 k3 k4).val, by omega⟩ q) : EReal) * Ideal.div (aS V0 (ix1 (at4 k1 k2 k3 k4))) (Ideal.ofBits .f32 1082130432#32) := by
  unfold res_main_v7
  pointwise
  refine congrArg (fun z => (aX V0 z : EReal) * Ideal.div (aS V0 (ix1 (at4 k1 k2 k3 k4))) (Ideal.ofBits .f32 1082130432#32)) ?_
  funext a; apply Fin.ext
  match a with
  | ⟨0, _⟩ => show g.val * 16 + (at4 k1 k2 k3 k4).val = 16 * g.val + (at4 k1 k2 k3 k4).val; omega
  | ⟨1, _⟩ => rfl

theorem x_one (g : Fin 96) (k1 k2 k3 k4 : Fin 2) (q : Fin 4096) :
    (res_main_v16 (F := Ideal) V0 : Vec Ideal S96x2x2x2x2x4096 .f32) (ix6 g k1 k2 k3 k4 q)
      = comb k1 ((res_main_v7 (F := Ideal) V0 : Vec Ideal S96x2x2x2x2x4096 .f32) (ix6 g 0 k2 k3 k4 q)) ((res_main_v7 (F := Ideal) V0 : Vec Ideal S96x2x2x2x2x4096 .f32) (ix6 g 1 k2 k3 k4 q)) := by
  rw [← comb_select]
  unfold res_main_v16 res_main_v8 res_main_v9
  pointwise

theorem x_two (g : Fin 96) (k1 k2 k3 k4 : Fin 2) (q : Fin 4096) :
    (res_main_v25 (F := Ideal) V0 : Vec Ideal S96x2x2x2x2x4096 .f32) (ix6 g k1 k2 k3 k4 q)
      = comb k2 ((res_main_v16 (F := Ideal) V0 : Vec Ideal S96x2x2x2x2x4096 .f32) (ix6 g k1 0 k3 k4 q)) ((res_main_v16 (F := Ideal) V0 : Vec Ideal S96x2x2x2x2x4096 .f32) (ix6 g k1 1 k3 k4 q)) := by
  rw [← comb_select]
  unfold res_main_v25 res_main_v17 res_main_v18
  pointwise

theorem x_three (g : Fin 96) (k1 k2 k3 k4 : Fin 2) (q : Fin 4096) :
    (res_main_v34 (F := Ideal) V0 : Vec Ideal S96x2x2x2x2x4096 .f32) (ix6 g k1 k2 k3 k4 q)
      = comb k3 ((res_main_v25 (F := Ideal) V0 : Vec Ideal S96x2x2x2x2x4096 .f32) (ix6 g k1 k2 0 k4 q)) ((res_main_v25 (F := Ideal) V0 : Vec Ideal S96x2x2x2x2x4096 .f32) (ix6 g k1 k2 1 k4 q)) := by
  rw [← comb_select]
  unfold res_main_v34 res_main_v26 res_main_v27
  pointwise

/-- The first three stages and the two halves of the fourth. -/
theorem x_stages (g : Fin 96) (h1 h2 h3 h4 : Fin 2) (q : Fin 4096) :
    comb h4 ((res_main_v34 (F := Ideal) V0 : Vec Ideal S96x2x2x2x2x4096 .f32) (ix6 g h1 h2 h3 0 q)) ((res_main_v34 (F := Ideal) V0 : Vec Ideal S96x2x2x2x2x4096 .f32) (ix6 g h1 h2 h3 1 q))
      = stages (fun k1 k2 k3 k4 => (aX V0 (ix2 ⟨16 * g.val + (at4 k1 k2 k3 k4).val, by omega⟩ q) : EReal) * Ideal.div (aS V0 (ix1 (at4 k1 k2 k3 k4))) (Ideal.ofBits .f32 1082130432#32)) h1 h2 h3 h4 := by
  simp only [x_three, x_two, x_one, x_in]
  rfl

/-- The first result. -/
theorem x_out (y : S96x4096.Idx) :
   ((Host.reduce FloatOps.maximumf (Host.absf (shapeCast _ (select (broadcastInDim S96x2x2x2x2x4096 ![0, 1, 2, 3, 4, 5] bcast_S1x1x1x1x2x1_S96x2x2x2x2x4096_0_1_2_3_4_5 (cmpi .eq (shapeCast _ (iotaInDim S2 32 0) shapeCasts_S2_S1x1x1x1x2x1) (broadcastInDim S1x1x1x1x2x1 ![] bcast_S_S1x1x1x1x2x1 (constantI S_ 32 1#32)))) (broadcastInDim S96x2x2x2x2x4096 ![0, 1, 2, 3, 4, 5] bcast_S96x2x2x2x1x4096_S96x2x2x2x2x4096_0_1_2_3_4_5 (subf (F := Ideal) (res_main_v35 V0) (res_main_v36 V0))) (broadcastInDim S96x2x2x2x2x4096 ![0, 1, 2, 3, 4, 5] bcast_S96x2x2x2x1x4096_S96x2x2x2x2x4096_0_1_2_3_4_5 (addf (F := Ideal) (res_main_v35 V0) (res_main_v36 V0)))) shapeCasts_S96x2x2x2x2x4096_S96x16x4096)) (constant (F := Ideal) S_ .f32 0xFF800000#32) reducesTo_S96x16x4096_S96x4096_d1 h_S_ : FVec Ideal S96x4096 .f32) y : EReal)
      = amax fun k => ((aS V0 (ix1 k) : EReal) * Ideal.ofBits .f32 1048576000#32) * aX V0 (ix2 ⟨16 * (y 0).val + k.val, by have h : (y 0).val < 96 := (y 0).isLt; omega⟩ (y 1)) := by
  have h0 : (y 0).val < 96 := (y 0).isLt
  have ec : (fun k : Fin 16 => ((aS V0 (ix1 k) : EReal) * Ideal.ofBits .f32 1048576000#32) * aX V0 (ix2 ⟨16 * (y 0).val + k.val, by omega⟩ (y 1)))
      = fun k : Fin 16 => (aX V0 (ix2 ⟨16 * (y 0).val + k.val, by omega⟩ (y 1)) : EReal) * Ideal.div (aS V0 (ix1 k)) (Ideal.ofBits .f32 1082130432#32) :=
    funext fun k => by rw [div_four, mul_comm]
  rw [ec, ← fold_stages]
  clear ec
  have e := fun h : Fin 16 => x_stages V0 ⟨(y 0).val, h0⟩ ⟨h.val / 8, by omega⟩ ⟨h.val / 4 % 2, by omega⟩ ⟨h.val / 2 % 2, by omega⟩ ⟨h.val % 2, by omega⟩ (y 1)
  simp only [← comb_select] at e
  simp only [← e]
  clear e
  unfold res_main_v35 res_main_v36
  pointwise
  rfl

theorem y_in (g : Fin 96) (k1 k2 k3 k4 : Fin 2) (q : Fin 14336) :
    (res_main_v54 (F := Ideal) V0 : Vec Ideal S96x2x2x2x2x14336 .f32) (ix6 g k1 k2 k3 k4 q)
      = (aY V0 (ix2 ⟨16 * g.val + (at4 k1 k2 k3 k4).val, by omega⟩ q) : EReal) * Ideal.div (aS V0 (ix1 (at4 k1 k2 k3 k4))) (Ideal.ofBits .f32 1082130432#32) := by
  unfold res_main_v54
  pointwise
  refine congrArg (fun z => (aY V0 z : EReal) * Ideal.div (aS V0 (ix1 (at4 k1 k2 k3 k4))) (Ideal.ofBits .f32 1082130432#32)) ?_
  funext a; apply Fin.ext
  match a with
  | ⟨0, _⟩ => show g.val * 16 + (at4 k1 k2 k3 k4).val = 16 * g.val + (at4 k1 k2 k3 k4).val; omega
  | ⟨1, _⟩ => rfl

theorem y_one (g : Fin 96) (k1 k2 k3 k4 : Fin 2) (q : Fin 14336) :
    (res_main_v63 (F := Ideal) V0 : Vec Ideal S96x2x2x2x2x14336 .f32) (ix6 g k1 k2 k3 k4 q)
      = comb k1 ((res_main_v54 (F := Ideal) V0 : Vec Ideal S96x2x2x2x2x14336 .f32) (ix6 g 0 k2 k3 k4 q)) ((res_main_v54 (F := Ideal) V0 : Vec Ideal S96x2x2x2x2x14336 .f32) (ix6 g 1 k2 k3 k4 q)) := by
  rw [← comb_select]
  unfold res_main_v63 res_main_v55 res_main_v56
  pointwise

theorem y_two (g : Fin 96) (k1 k2 k3 k4 : Fin 2) (q : Fin 14336) :
    (res_main_v72 (F := Ideal) V0 : Vec Ideal S96x2x2x2x2x14336 .f32) (ix6 g k1 k2 k3 k4 q)
      = comb k2 ((res_main_v63 (F := Ideal) V0 : Vec Ideal S96x2x2x2x2x14336 .f32) (ix6 g k1 0 k3 k4 q)) ((res_main_v63 (F := Ideal) V0 : Vec Ideal S96x2x2x2x2x14336 .f32) (ix6 g k1 1 k3 k4 q)) := by
  rw [← comb_select]
  unfold res_main_v72 res_main_v64 res_main_v65
  pointwise

theorem y_three (g : Fin 96) (k1 k2 k3 k4 : Fin 2) (q : Fin 14336) :
    (res_main_v81 (F := Ideal) V0 : Vec Ideal S96x2x2x2x2x14336 .f32) (ix6 g k1 k2 k3 k4 q)
      = comb k3 ((res_main_v72 (F := Ideal) V0 : Vec Ideal S96x2x2x2x2x14336 .f32) (ix6 g k1 k2 0 k4 q)) ((res_main_v72 (F := Ideal) V0 : Vec Ideal S96x2x2x2x2x14336 .f32) (ix6 g k1 k2 1 k4 q)) := by
  rw [← comb_select]
  unfold res_main_v81 res_main_v73 res_main_v74
  pointwise

/-- The first three stages and the two halves of the fourth. -/
theorem y_stages (g : Fin 96) (h1 h2 h3 h4 : Fin 2) (q : Fin 14336) :
    comb h4 ((res_main_v81 (F := Ideal) V0 : Vec Ideal S96x2x2x2x2x14336 .f32) (ix6 g h1 h2 h3 0 q)) ((res_main_v81 (F := Ideal) V0 : Vec Ideal S96x2x2x2x2x14336 .f32) (ix6 g h1 h2 h3 1 q))
      = stages (fun k1 k2 k3 k4 => (aY V0 (ix2 ⟨16 * g.val + (at4 k1 k2 k3 k4).val, by omega⟩ q) : EReal) * Ideal.div (aS V0 (ix1 (at4 k1 k2 k3 k4))) (Ideal.ofBits .f32 1082130432#32)) h1 h2 h3 h4 := by
  simp only [y_three, y_two, y_one, y_in]
  rfl

/-- The second result. -/
theorem y_out (y : S96x14336.Idx) :
   ((Host.reduce FloatOps.maximumf (Host.absf (shapeCast _ (select (broadcastInDim S96x2x2x2x2x14336 ![0, 1, 2, 3, 4, 5] bcast_S1x1x1x1x2x1_S96x2x2x2x2x14336_0_1_2_3_4_5 (cmpi .eq (shapeCast _ (iotaInDim S2 32 0) shapeCasts_S2_S1x1x1x1x2x1) (broadcastInDim S1x1x1x1x2x1 ![] bcast_S_S1x1x1x1x2x1 (constantI S_ 32 1#32)))) (broadcastInDim S96x2x2x2x2x14336 ![0, 1, 2, 3, 4, 5] bcast_S96x2x2x2x1x14336_S96x2x2x2x2x14336_0_1_2_3_4_5 (subf (F := Ideal) (res_main_v82 V0) (res_main_v83 V0))) (broadcastInDim S96x2x2x2x2x14336 ![0, 1, 2, 3, 4, 5] bcast_S96x2x2x2x1x14336_S96x2x2x2x2x14336_0_1_2_3_4_5 (addf (F := Ideal) (res_main_v82 V0) (res_main_v83 V0)))) shapeCasts_S96x2x2x2x2x14336_S96x16x14336)) (constant (F := Ideal) S_ .f32 0xFF800000#32) reducesTo_S96x16x14336_S96x14336_d1 h_S_ : FVec Ideal S96x14336 .f32) y : EReal)
      = amax fun k => ((aS V0 (ix1 k) : EReal) * Ideal.ofBits .f32 1048576000#32) * aY V0 (ix2 ⟨16 * (y 0).val + k.val, by have h : (y 0).val < 96 := (y 0).isLt; omega⟩ (y 1)) := by
  have h0 : (y 0).val < 96 := (y 0).isLt
  have ec : (fun k : Fin 16 => ((aS V0 (ix1 k) : EReal) * Ideal.ofBits .f32 1048576000#32) * aY V0 (ix2 ⟨16 * (y 0).val + k.val, by omega⟩ (y 1)))
      = fun k : Fin 16 => (aY V0 (ix2 ⟨16 * (y 0).val + k.val, by omega⟩ (y 1)) : EReal) * Ideal.div (aS V0 (ix1 k)) (Ideal.ofBits .f32 1082130432#32) :=
    funext fun k => by rw [div_four, mul_comm]
  rw [ec, ← fold_stages]
  clear ec
  have e := fun h : Fin 16 => y_stages V0 ⟨(y 0).val, h0⟩ ⟨h.val / 8, by omega⟩ ⟨h.val / 4 % 2, by omega⟩ ⟨h.val / 2 % 2, by omega⟩ ⟨h.val % 2, by omega⟩ (y 1)
  simp only [← comb_select] at e
  simp only [← e]
  clear e
  unfold res_main_v82 res_main_v83
  pointwise
  rfl

end Cert.AmaxReferenceIdeal.Val

end

end
-- ==== Proof.lean ====
/- The proof of the claims: the frames are the generated ones. The value of the dw slice is `Cert.KernelIdeal.Val.run` (Proof/Array.lean) and its
   reference's is the generated run; both are read at an index and agree up to the order of one product. The value of the dx slice is
   `Cert.DxIdeal.Val.run` (Proof/DxArray.lean) and its reference's is `Cert.DxReferenceIdeal.Val.final` (Proof/DxReference.lean). The values of the amax slice are
   `Cert.AmaxIdeal.Val.run` (Proof/AmaxArray.lean), and its reference's are `Cert.AmaxReferenceIdeal.Val.x_out` and `y_out`
   (Proof/AmaxReference.lean). -/
module

public import proofs.«01_k».proof.Defs
public import proofs.«01_k».proof.Proof.Gen.Kernel.Frame
public import proofs.«01_k».proof.Proof.Array
public import proofs.«01_k».proof.Proof.Gen.ReferenceIdeal.Run
public import proofs.«01_k».proof.Proof.Gen.Dx.Frame
public import proofs.«01_k».proof.Proof.Gen.DxIdeal.Frame
public import proofs.«01_k».proof.Proof.Gen.DxReferenceIdeal.Frame
public import proofs.«01_k».proof.Proof.Gen.DxReferenceIdeal.Value
public import proofs.«01_k».proof.Proof.DxArray
public import proofs.«01_k».proof.Proof.DxReference
public import proofs.«01_k».proof.Proof.Gen.Amax.Frame
public import proofs.«01_k».proof.Proof.Gen.AmaxIdeal.Frame
public import proofs.«01_k».proof.Proof.Gen.AmaxReferenceIdeal.Run
public import proofs.«01_k».proof.Proof.AmaxArray
public import proofs.«01_k».proof.Proof.AmaxReference
public import Idealize.ShloMosaic.Adequacy
public import Idealize.ShloMosaic.Init
public import Idealize.ShloMosaic.Lib.Quiescent
public import Idealize.ShloMosaic.Lib.Bf16Pair
public import Idealize.ShloMosaic.Lib.Bf16PairInverse
public import Idealize.ShloMosaic.Lib.Pointwise

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves_Kernel_KernelIdeal : preserves_Kernel_KernelIdeal :=
  ⟨IdealRules.bf16_pair.bufferStatement _ _, IdealRules.bf16_pair.statement _ _, IdealRules.bf16_pair.statement _ _,
    IdealRules.bf16_pair.statement _ _, IdealRules.bf16_pair.statement _ _⟩

theorem algebraic_KernelIdeal_ReferenceIdeal : algebraic_KernelIdeal_ReferenceIdeal := by
  intro m ρ m' ρ' _ hagree
  refine ⟨_, Cert.KernelIdeal.Val.run m ρ, ?_⟩
  refine (θ_run Cert.ReferenceIdeal.defs _ _).mono (fun _ h c => ⟨?_, (h c).2⟩) (Cert.ReferenceIdeal.Value.run (F := Ideal) m' ρ')
  rw [(h c).1]
  simp only [hagree c]
  show _ = Cert.KernelIdeal.Val.prod _ _ _
  funext i
  unfold Cert.KernelIdeal.Val.prod Cert.KernelIdeal.Val.sc Cert.KernelIdeal.Val.scale
  pointwise
  exact mul_comm _ _

/-- The dx slice and its idealised form are the same program: no operation was rewritten. -/
theorem preserves_Dx_DxIdeal : preserves_Dx_DxIdeal := trivial

/-- Both arrays are `dprod` of the arguments, the kernel's by `Cert.DxIdeal.Val.run` and the reference's by `Cert.DxReferenceIdeal.Val.final`. -/
theorem algebraic_DxIdeal_DxReferenceIdeal : algebraic_DxIdeal_DxReferenceIdeal := by
  intro m ρ m' ρ' _ hagree
  refine ⟨_, Cert.DxIdeal.Val.run m ρ, ?_⟩
  refine (θ_run Cert.DxReferenceIdeal.defs _ _).mono (fun _ h c => ⟨?_, (h c).2⟩) (Cert.DxReferenceIdeal.Value.run_blocks (F := Ideal) m' ρ')
  refine (h c).1.trans ((Cert.DxReferenceIdeal.Val.final m' c).trans ?_)
  obtain ⟨h0, h1, h2, h3, h4⟩ := hagree c
  unfold Cert.DxReferenceIdeal.Val.aD Cert.DxReferenceIdeal.Val.aC Cert.DxReferenceIdeal.Val.aS Cert.DxReferenceIdeal.Val.ag Cert.DxReferenceIdeal.Val.aw
  rw [h0, h1, h2, h3, h4]
  rfl

theorem quiescent_AmaxReferenceIdeal : quiescent_AmaxReferenceIdeal := fun m ρ _ =>
  (θ_run Cert.AmaxReferenceIdeal.defs _ _).mono (fun r h => ⟨fun c => (h c).2.2, sem_eq_zero_of_no_sems (by decide) r.2⟩)
    (Cert.AmaxReferenceIdeal.Value.run (F := Ideal) m ρ)

/-- The amax slice and its idealised form are the same program: no operation was rewritten. -/
theorem preserves_Amax_AmaxIdeal : preserves_Amax_AmaxIdeal := trivial

/-- Both results are the largest magnitudes of sixteen signed sums: the kernel's product gives the sums at once, the reference's four
    stages of sums and differences give them term by term. -/
theorem algebraic_AmaxIdeal_AmaxReferenceIdeal : algebraic_AmaxIdeal_AmaxReferenceIdeal := by
  intro m ρ m' ρ' _ hagree
  refine ⟨_, _, Cert.AmaxIdeal.Val.run m ρ, ?_⟩
  refine (θ_run Cert.AmaxReferenceIdeal.defs _ _).mono (fun _ h c => ⟨?_, ?_, (h c).2.2⟩) (Cert.AmaxReferenceIdeal.Value.run (F := Ideal) m' ρ')
  · obtain ⟨h0, h1, h2⟩ := hagree c
    have e0 : Cert.AmaxReferenceIdeal.Val.aX (StableHlo.launchContents m' c) = Cert.AmaxIdeal.Val.aX m c := h0
    have e2 : Cert.AmaxReferenceIdeal.Val.aS (StableHlo.launchContents m' c) = Cert.AmaxIdeal.Val.aS m c := h2
    refine (h c).1.trans ?_
    unfold Cert.AmaxIdeal.Val.GX
    rw [← e0, ← e2]
    funext y
    exact Cert.AmaxReferenceIdeal.Val.x_out _ y
  · obtain ⟨h0, h1, h2⟩ := hagree c
    have e1 : Cert.AmaxReferenceIdeal.Val.aY (StableHlo.launchContents m' c) = Cert.AmaxIdeal.Val.aY m c := h1
    have e2 : Cert.AmaxReferenceIdeal.Val.aS (StableHlo.launchContents m' c) = Cert.AmaxIdeal.Val.aS m c := h2
    refine (h c).2.1.trans ?_
    unfold Cert.AmaxIdeal.Val.GY
    rw [← e1, ← e2]
    funext y
    exact Cert.AmaxReferenceIdeal.Val.y_out _ y

theorem claim : Cert.Claim := ⟨Cert.Kernel.Gen.facts, Cert.KernelIdeal.Gen.facts, Cert.ReferenceIdeal.Gen.facts,
  Cert.Dx.Gen.facts, Cert.DxIdeal.Gen.facts, Cert.DxReferenceIdeal.Gen.facts,
  Cert.Amax.Gen.facts, Cert.AmaxIdeal.Gen.facts, Cert.AmaxReferenceIdeal.Gen.facts,
  fun m ρ _ => Cert.Kernel.Gen.frame m ρ, fun m ρ _ => Cert.KernelIdeal.Gen.frame m ρ, quiescent_ReferenceIdeal,
  fun m ρ _ => Cert.Dx.Gen.frame m ρ, fun m ρ _ => Cert.DxIdeal.Gen.frame m ρ, fun m ρ _ => Cert.DxReferenceIdeal.Gen.frame m ρ,
  fun m ρ _ => Cert.Amax.Gen.frame m ρ, fun m ρ _ => Cert.AmaxIdeal.Gen.frame m ρ, quiescent_AmaxReferenceIdeal,
  preserves_Kernel_KernelIdeal, algebraic_KernelIdeal_ReferenceIdeal, preserves_Dx_DxIdeal, algebraic_DxIdeal_DxReferenceIdeal,
  preserves_Amax_AmaxIdeal, algebraic_AmaxIdeal_AmaxReferenceIdeal⟩

end Cert.Proof

end
